-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutReferenceIdeal (m : (ℓ : Loc Cert.ConvOutReferenceIdeal.nD Cert.ConvOutReferenceIdeal.τ Cert.ConvOutReferenceIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutReferenceIdeal (m : (ℓ : Loc Cert.AttOutReferenceIdeal.nD Cert.AttOutReferenceIdeal.τ Cert.AttOutReferenceIdeal.sig) → Buf (Elt Ideal) ℓ) : Prop :=
  True

def Pre_AttInQk (m : (ℓ : Loc Cert.AttInQk.nD Cert.AttInQk.τ Cert.AttInQk.sig) → Buf (Elt Bits) ℓ) : Prop :=
  True

def Pre_AttInQkIdeal (m : (ℓ : Loc Cert.AttInQkIdeal.nD Cert.AttInQkIdeal.τ Cert.AttInQkIdeal.sig) → Buf (Elt Ideal) ℓ) : Prop :=
  True

def Pre_AttInQkReferenceIdeal (m : (ℓ : Loc Cert.AttInQkReferenceIdeal.nD Cert.AttInQkReferenceIdeal.τ Cert.AttInQkReferenceIdeal.sig) → Buf (Elt Ideal) ℓ) : Prop :=
  True

def Pre_AttInV (m : (ℓ : Loc Cert.AttInV.nD Cert.AttInV.τ Cert.AttInV.sig) → Buf (Elt Bits) ℓ) : Prop :=
  True

def Pre_AttInVIdeal (m : (ℓ : Loc Cert.AttInVIdeal.nD Cert.AttInVIdeal.τ Cert.AttInVIdeal.sig) → Buf (Elt Ideal) ℓ) : Prop :=
  True

def Pre_AttInVReferenceIdeal (m : (ℓ : Loc Cert.AttInVReferenceIdeal.nD Cert.AttInVReferenceIdeal.τ Cert.AttInVReferenceIdeal.sig) → Buf (Elt Ideal) ℓ) : Prop :=
  True

def Pre_AttInQLat (m : (ℓ : Loc Cert.AttInQLat.nD Cert.AttInQLat.τ Cert.AttInQLat.sig) → Buf (Elt Bits) ℓ) : Prop :=
  True

def Pre_AttInQLatIdeal (m : (ℓ : Loc Cert.AttInQLatIdeal.nD Cert.AttInQLatIdeal.τ Cert.AttInQLatIdeal.sig) → Buf (Elt Ideal) ℓ) : Prop :=
  True

def Pre_AttInQLatReferenceIdeal (m : (ℓ : Loc Cert.AttInQLatReferenceIdeal.nD Cert.AttInQLatReferenceIdeal.τ Cert.AttInQLatReferenceIdeal.sig) → Buf (Elt Ideal) ℓ) : Prop :=
  True

def Pre_AttInKvLat (m : (ℓ : Loc Cert.AttInKvLat.nD Cert.AttInKvLat.τ Cert.AttInKvLat.sig) → Buf (Elt Bits) ℓ) : Prop :=
  True

def Pre_AttInKvLatIdeal (m : (ℓ : Loc Cert.AttInKvLatIdeal.nD Cert.AttInKvLatIdeal.τ Cert.AttInKvLatIdeal.sig) → Buf (Elt Ideal) ℓ) : Prop :=
  True

def Pre_AttInKvLatReferenceIdeal (m : (ℓ : Loc Cert.AttInKvLatReferenceIdeal.nD Cert.AttInKvLatReferenceIdeal.τ Cert.AttInKvLatReferenceIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpReferenceIdeal (m : (ℓ : Loc Cert.QUpReferenceIdeal.nD Cert.QUpReferenceIdeal.τ Cert.QUpReferenceIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpReferenceIdeal (m : (ℓ : Loc Cert.KvUpReferenceIdeal.nD Cert.KvUpReferenceIdeal.τ Cert.KvUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4))
      ∧ r.2.sem = fun _ => 0)

def quiescent_ConvOutReferenceIdeal [hConvOutReferenceIdeal : Cert.ConvOutReferenceIdeal.Facts] : Prop :=
  ∀ (m : (ℓ : Loc Cert.ConvOutReferenceIdeal.nD Cert.ConvOutReferenceIdeal.τ Cert.ConvOutReferenceIdeal.sig) → Buf (Elt Ideal) ℓ) (g : Dev Cert.ConvOutReferenceIdeal.nD → PrngReg), Pre_ConvOutReferenceIdeal m →
    θ_run (Cert.ConvOutReferenceIdeal.defs (F := Ideal)) (onTc (τ := Cert.ConvOutReferenceIdeal.τ) (Cert.ConvOutReferenceIdeal.main (F := Ideal))) ⟨m, fun _ => 0, g⟩ (fun r => (∀ c : Dev Cert.ConvOutReferenceIdeal.nD,
      r.2.mem ((c.tc : Thread Cert.ConvOutReferenceIdeal.nD Cert.ConvOutReferenceIdeal.τ).loc Cert.ConvOutReferenceIdeal.main_arg0) = m ((c.tc : Thread Cert.ConvOutReferenceIdeal.nD Cert.ConvOutReferenceIdeal.τ).loc Cert.ConvOutReferenceIdeal.main_arg0)
      ∧ r.2.mem ((c.tc : Thread Cert.ConvOutReferenceIdeal.nD Cert.ConvOutReferenceIdeal.τ).loc Cert.ConvOutReferenceIdeal.main_arg1) = m ((c.tc : Thread Cert.ConvOutReferenceIdeal.nD Cert.ConvOutReferenceIdeal.τ).loc Cert.ConvOutReferenceIdeal.main_arg1)
      ∧ r.2.mem ((c.tc : Thread Cert.ConvOutReferenceIdeal.nD Cert.ConvOutReferenceIdeal.τ).loc Cert.ConvOutReferenceIdeal.main_arg2) = m ((c.tc : Thread Cert.ConvOutReferenceIdeal.nD Cert.ConvOutReferenceIdeal.τ).loc Cert.ConvOutReferenceIdeal.main_arg2)
      ∧ r.2.mem ((c.tc : Thread Cert.ConvOutReferenceIdeal.nD Cert.ConvOutReferenceIdeal.τ).loc Cert.ConvOutReferenceIdeal.main_arg3) = m ((c.tc : Thread Cert.ConvOutReferenceIdeal.nD Cert.ConvOutReferenceIdeal.τ).loc Cert.ConvOutReferenceIdeal.main_arg3)
      ∧ r.2.mem ((c.tc : Thread Cert.ConvOutReferenceIdeal.nD Cert.ConvOutReferenceIdeal.τ).loc Cert.ConvOutReferenceIdeal.main_arg4) = m ((c.tc : Thread Cert.ConvOutReferenceIdeal.nD Cert.ConvOutReferenceIdeal.τ).loc Cert.ConvOutReferenceIdeal.main_arg4))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1)
      ∧ r.2.mem ((c.tc : Thread Cert.AttOut.nD Cert.AttOut.τ).loc Cert.AttOut.main_arg2) = m ((c.tc : Thread Cert.AttOut.nD Cert.AttOut.τ).loc Cert.AttOut.main_arg2)
      ∧ r.2.mem ((c.tc : Thread Cert.AttOut.nD Cert.AttOut.τ).loc Cert.AttOut.main_arg3) = m ((c.tc : Thread Cert.AttOut.nD Cert.AttOut.τ).loc Cert.AttOut.main_arg3))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
      ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
      ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3))
      ∧ r.2.sem = fun _ => 0)

def quiescent_AttOutReferenceIdeal [hAttOutReferenceIdeal : Cert.AttOutReferenceIdeal.Facts] : Prop :=
  ∀ (m : (ℓ : Loc Cert.AttOutReferenceIdeal.nD Cert.AttOutReferenceIdeal.τ Cert.AttOutReferenceIdeal.sig) → Buf (Elt Ideal) ℓ) (g : Dev Cert.AttOutReferenceIdeal.nD → PrngReg), Pre_AttOutReferenceIdeal m →
    θ_run (Cert.AttOutReferenceIdeal.defs (F := Ideal)) (onTc (τ := Cert.AttOutReferenceIdeal.τ) (Cert.AttOutReferenceIdeal.main (F := Ideal))) ⟨m, fun _ => 0, g⟩ (fun r => (∀ c : Dev Cert.AttOutReferenceIdeal.nD,
      r.2.mem ((c.tc : Thread Cert.AttOutReferenceIdeal.nD Cert.AttOutReferenceIdeal.τ).loc Cert.AttOutReferenceIdeal.main_arg0) = m ((c.tc : Thread Cert.AttOutReferenceIdeal.nD Cert.AttOutReferenceIdeal.τ).loc Cert.AttOutReferenceIdeal.main_arg0)
      ∧ r.2.mem ((c.tc : Thread Cert.AttOutReferenceIdeal.nD Cert.AttOutReferenceIdeal.τ).loc Cert.AttOutReferenceIdeal.main_arg1) = m ((c.tc : Thread Cert.AttOutReferenceIdeal.nD Cert.AttOutReferenceIdeal.τ).loc Cert.AttOutReferenceIdeal.main_arg1)
      ∧ r.2.mem ((c.tc : Thread Cert.AttOutReferenceIdeal.nD Cert.AttOutReferenceIdeal.τ).loc Cert.AttOutReferenceIdeal.main_arg2) = m ((c.tc : Thread Cert.AttOutReferenceIdeal.nD Cert.AttOutReferenceIdeal.τ).loc Cert.AttOutReferenceIdeal.main_arg2)
      ∧ r.2.mem ((c.tc : Thread Cert.AttOutReferenceIdeal.nD Cert.AttOutReferenceIdeal.τ).loc Cert.AttOutReferenceIdeal.main_arg3) = m ((c.tc : Thread Cert.AttOutReferenceIdeal.nD Cert.AttOutReferenceIdeal.τ).loc Cert.AttOutReferenceIdeal.main_arg3))
      ∧ r.2.sem = fun _ => 0)

def quiescent_AttInQk [hAttInQk : Cert.AttInQk.Facts] : Prop :=
  ∀ (m : (ℓ : Loc Cert.AttInQk.nD Cert.AttInQk.τ Cert.AttInQk.sig) → Buf (Elt Bits) ℓ) (g : Dev Cert.AttInQk.nD → PrngReg), Pre_AttInQk m →
    θ_run (Cert.AttInQk.defs (F := Bits)) (onTc (τ := Cert.AttInQk.τ) (Cert.AttInQk.main (F := Bits))) ⟨m, fun _ => 0, g⟩ (fun r => (∀ c : Dev Cert.AttInQk.nD,
      r.2.mem ((c.tc : Thread Cert.AttInQk.nD Cert.AttInQk.τ).loc Cert.AttInQk.main_arg0) = m ((c.tc : Thread Cert.AttInQk.nD Cert.AttInQk.τ).loc Cert.AttInQk.main_arg0)
      ∧ r.2.mem ((c.tc : Thread Cert.AttInQk.nD Cert.AttInQk.τ).loc Cert.AttInQk.main_arg1) = m ((c.tc : Thread Cert.AttInQk.nD Cert.AttInQk.τ).loc Cert.AttInQk.main_arg1)
      ∧ r.2.mem ((c.tc : Thread Cert.AttInQk.nD Cert.AttInQk.τ).loc Cert.AttInQk.main_arg2) = m ((c.tc : Thread Cert.AttInQk.nD Cert.AttInQk.τ).loc Cert.AttInQk.main_arg2)
      ∧ r.2.mem ((c.tc : Thread Cert.AttInQk.nD Cert.AttInQk.τ).loc Cert.AttInQk.main_arg3) = m ((c.tc : Thread Cert.AttInQk.nD Cert.AttInQk.τ).loc Cert.AttInQk.main_arg3))
      ∧ r.2.sem = fun _ => 0)

def quiescent_AttInQkIdeal [hAttInQkIdeal : Cert.AttInQkIdeal.Facts] : Prop :=
  ∀ (m : (ℓ : Loc Cert.AttInQkIdeal.nD Cert.AttInQkIdeal.τ Cert.AttInQkIdeal.sig) → Buf (Elt Ideal) ℓ) (g : Dev Cert.AttInQkIdeal.nD → PrngReg), Pre_AttInQkIdeal m →
    θ_run (Cert.AttInQkIdeal.defs (F := Ideal)) (onTc (τ := Cert.AttInQkIdeal.τ) (Cert.AttInQkIdeal.main (F := Ideal))) ⟨m, fun _ => 0, g⟩ (fun r => (∀ c : Dev Cert.AttInQkIdeal.nD,
      r.2.mem ((c.tc : Thread Cert.AttInQkIdeal.nD Cert.AttInQkIdeal.τ).loc Cert.AttInQkIdeal.main_arg0) = m ((c.tc : Thread Cert.AttInQkIdeal.nD Cert.AttInQkIdeal.τ).loc Cert.AttInQkIdeal.main_arg0)
      ∧ r.2.mem ((c.tc : Thread Cert.AttInQkIdeal.nD Cert.AttInQkIdeal.τ).loc Cert.AttInQkIdeal.main_arg1) = m ((c.tc : Thread Cert.AttInQkIdeal.nD Cert.AttInQkIdeal.τ).loc Cert.AttInQkIdeal.main_arg1)
      ∧ r.2.mem ((c.tc : Thread Cert.AttInQkIdeal.nD Cert.AttInQkIdeal.τ).loc Cert.AttInQkIdeal.main_arg2) = m ((c.tc : Thread Cert.AttInQkIdeal.nD Cert.AttInQkIdeal.τ).loc Cert.AttInQkIdeal.main_arg2)
      ∧ r.2.mem ((c.tc : Thread Cert.AttInQkIdeal.nD Cert.AttInQkIdeal.τ).loc Cert.AttInQkIdeal.main_arg3) = m ((c.tc : Thread Cert.AttInQkIdeal.nD Cert.AttInQkIdeal.τ).loc Cert.AttInQkIdeal.main_arg3))
      ∧ r.2.sem = fun _ => 0)

def quiescent_AttInQkReferenceIdeal [hAttInQkReferenceIdeal : Cert.AttInQkReferenceIdeal.Facts] : Prop :=
  ∀ (m : (ℓ : Loc Cert.AttInQkReferenceIdeal.nD Cert.AttInQkReferenceIdeal.τ Cert.AttInQkReferenceIdeal.sig) → Buf (Elt Ideal) ℓ) (g : Dev Cert.AttInQkReferenceIdeal.nD → PrngReg), Pre_AttInQkReferenceIdeal m →
    θ_run (Cert.AttInQkReferenceIdeal.defs (F := Ideal)) (onTc (τ := Cert.AttInQkReferenceIdeal.τ) (Cert.AttInQkReferenceIdeal.main (F := Ideal))) ⟨m, fun _ => 0, g⟩ (fun r => (∀ c : Dev Cert.AttInQkReferenceIdeal.nD,
      r.2.mem ((c.tc : Thread Cert.AttInQkReferenceIdeal.nD Cert.AttInQkReferenceIdeal.τ).loc Cert.AttInQkReferenceIdeal.main_arg0) = m ((c.tc : Thread Cert.AttInQkReferenceIdeal.nD Cert.AttInQkReferenceIdeal.τ).loc Cert.AttInQkReferenceIdeal.main_arg0)
      ∧ r.2.mem ((c.tc : Thread Cert.AttInQkReferenceIdeal.nD Cert.AttInQkReferenceIdeal.τ).loc Cert.AttInQkReferenceIdeal.main_arg1) = m ((c.tc : Thread Cert.AttInQkReferenceIdeal.nD Cert.AttInQkReferenceIdeal.τ).loc Cert.AttInQkReferenceIdeal.main_arg1)
      ∧ r.2.mem ((c.tc : Thread Cert.AttInQkReferenceIdeal.nD Cert.AttInQkReferenceIdeal.τ).loc Cert.AttInQkReferenceIdeal.main_arg2) = m ((c.tc : Thread Cert.AttInQkReferenceIdeal.nD Cert.AttInQkReferenceIdeal.τ).loc Cert.AttInQkReferenceIdeal.main_arg2)
      ∧ r.2.mem ((c.tc : Thread Cert.AttInQkReferenceIdeal.nD Cert.AttInQkReferenceIdeal.τ).loc Cert.AttInQkReferenceIdeal.main_arg3) = m ((c.tc : Thread Cert.AttInQkReferenceIdeal.nD Cert.AttInQkReferenceIdeal.τ).loc Cert.AttInQkReferenceIdeal.main_arg3))
      ∧ r.2.sem = fun _ => 0)

def quiescent_AttInV [hAttInV : Cert.AttInV.Facts] : Prop :=
  ∀ (m : (ℓ : Loc Cert.AttInV.nD Cert.AttInV.τ Cert.AttInV.sig) → Buf (Elt Bits) ℓ) (g : Dev Cert.AttInV.nD → PrngReg), Pre_AttInV m →
    θ_run (Cert.AttInV.defs (F := Bits)) (onTc (τ := Cert.AttInV.τ) (Cert.AttInV.main (F := Bits))) ⟨m, fun _ => 0, g⟩ (fun r => (∀ c : Dev Cert.AttInV.nD,
      r.2.mem ((c.tc : Thread Cert.AttInV.nD Cert.AttInV.τ).loc Cert.AttInV.main_arg0) = m ((c.tc : Thread Cert.AttInV.nD Cert.AttInV.τ).loc Cert.AttInV.main_arg0)
      ∧ r.2.mem ((c.tc : Thread Cert.AttInV.nD Cert.AttInV.τ).loc Cert.AttInV.main_arg1) = m ((c.tc : Thread Cert.AttInV.nD Cert.AttInV.τ).loc Cert.AttInV.main_arg1))
      ∧ r.2.sem = fun _ => 0)

def quiescent_AttInVIdeal [hAttInVIdeal : Cert.AttInVIdeal.Facts] : Prop :=
  ∀ (m : (ℓ : Loc Cert.AttInVIdeal.nD Cert.AttInVIdeal.τ Cert.AttInVIdeal.sig) → Buf (Elt Ideal) ℓ) (g : Dev Cert.AttInVIdeal.nD → PrngReg), Pre_AttInVIdeal m →
    θ_run (Cert.AttInVIdeal.defs (F := Ideal)) (onTc (τ := Cert.AttInVIdeal.τ) (Cert.AttInVIdeal.main (F := Ideal))) ⟨m, fun _ => 0, g⟩ (fun r => (∀ c : Dev Cert.AttInVIdeal.nD,
      r.2.mem ((c.tc : Thread Cert.AttInVIdeal.nD Cert.AttInVIdeal.τ).loc Cert.AttInVIdeal.main_arg0) = m ((c.tc : Thread Cert.AttInVIdeal.nD Cert.AttInVIdeal.τ).loc Cert.AttInVIdeal.main_arg0)
      ∧ r.2.mem ((c.tc : Thread Cert.AttInVIdeal.nD Cert.AttInVIdeal.τ).loc Cert.AttInVIdeal.main_arg1) = m ((c.tc : Thread Cert.AttInVIdeal.nD Cert.AttInVIdeal.τ).loc Cert.AttInVIdeal.main_arg1))
      ∧ r.2.sem = fun _ => 0)

def quiescent_AttInVReferenceIdeal [hAttInVReferenceIdeal : Cert.AttInVReferenceIdeal.Facts] : Prop :=
  ∀ (m : (ℓ : Loc Cert.AttInVReferenceIdeal.nD Cert.AttInVReferenceIdeal.τ Cert.AttInVReferenceIdeal.sig) → Buf (Elt Ideal) ℓ) (g : Dev Cert.AttInVReferenceIdeal.nD → PrngReg), Pre_AttInVReferenceIdeal m →
    θ_run (Cert.AttInVReferenceIdeal.defs (F := Ideal)) (onTc (τ := Cert.AttInVReferenceIdeal.τ) (Cert.AttInVReferenceIdeal.main (F := Ideal))) ⟨m, fun _ => 0, g⟩ (fun r => (∀ c : Dev Cert.AttInVReferenceIdeal.nD,
      r.2.mem ((c.tc : Thread Cert.AttInVReferenceIdeal.nD Cert.AttInVReferenceIdeal.τ).loc Cert.AttInVReferenceIdeal.main_arg0) = m ((c.tc : Thread Cert.AttInVReferenceIdeal.nD Cert.AttInVReferenceIdeal.τ).loc Cert.AttInVReferenceIdeal.main_arg0)
      ∧ r.2.mem ((c.tc : Thread Cert.AttInVReferenceIdeal.nD Cert.AttInVReferenceIdeal.τ).loc Cert.AttInVReferenceIdeal.main_arg1) = m ((c.tc : Thread Cert.AttInVReferenceIdeal.nD Cert.AttInVReferenceIdeal.τ).loc Cert.AttInVReferenceIdeal.main_arg1))
      ∧ r.2.sem = fun _ => 0)

def quiescent_AttInQLat [hAttInQLat : Cert.AttInQLat.Facts] : Prop :=
  ∀ (m : (ℓ : Loc Cert.AttInQLat.nD Cert.AttInQLat.τ Cert.AttInQLat.sig) → Buf (Elt Bits) ℓ) (g : Dev Cert.AttInQLat.nD → PrngReg), Pre_AttInQLat m →
    θ_run (Cert.AttInQLat.defs (F := Bits)) (onTc (τ := Cert.AttInQLat.τ) (Cert.AttInQLat.main (F := Bits))) ⟨m, fun _ => 0, g⟩ (fun r => (∀ c : Dev Cert.AttInQLat.nD,
      r.2.mem ((c.tc : Thread Cert.AttInQLat.nD Cert.AttInQLat.τ).loc Cert.AttInQLat.main_arg0) = m ((c.tc : Thread Cert.AttInQLat.nD Cert.AttInQLat.τ).loc Cert.AttInQLat.main_arg0)
      ∧ r.2.mem ((c.tc : Thread Cert.AttInQLat.nD Cert.AttInQLat.τ).loc Cert.AttInQLat.main_arg1) = m ((c.tc : Thread Cert.AttInQLat.nD Cert.AttInQLat.τ).loc Cert.AttInQLat.main_arg1))
      ∧ r.2.sem = fun _ => 0)

def quiescent_AttInQLatIdeal [hAttInQLatIdeal : Cert.AttInQLatIdeal.Facts] : Prop :=
  ∀ (m : (ℓ : Loc Cert.AttInQLatIdeal.nD Cert.AttInQLatIdeal.τ Cert.AttInQLatIdeal.sig) → Buf (Elt Ideal) ℓ) (g : Dev Cert.AttInQLatIdeal.nD → PrngReg), Pre_AttInQLatIdeal m →
    θ_run (Cert.AttInQLatIdeal.defs (F := Ideal)) (onTc (τ := Cert.AttInQLatIdeal.τ) (Cert.AttInQLatIdeal.main (F := Ideal))) ⟨m, fun _ => 0, g⟩ (fun r => (∀ c : Dev Cert.AttInQLatIdeal.nD,
      r.2.mem ((c.tc : Thread Cert.AttInQLatIdeal.nD Cert.AttInQLatIdeal.τ).loc Cert.AttInQLatIdeal.main_arg0) = m ((c.tc : Thread Cert.AttInQLatIdeal.nD Cert.AttInQLatIdeal.τ).loc Cert.AttInQLatIdeal.main_arg0)
      ∧ r.2.mem ((c.tc : Thread Cert.AttInQLatIdeal.nD Cert.AttInQLatIdeal.τ).loc Cert.AttInQLatIdeal.main_arg1) = m ((c.tc : Thread Cert.AttInQLatIdeal.nD Cert.AttInQLatIdeal.τ).loc Cert.AttInQLatIdeal.main_arg1))
      ∧ r.2.sem = fun _ => 0)

def quiescent_AttInQLatReferenceIdeal [hAttInQLatReferenceIdeal : Cert.AttInQLatReferenceIdeal.Facts] : Prop :=
  ∀ (m : (ℓ : Loc Cert.AttInQLatReferenceIdeal.nD Cert.AttInQLatReferenceIdeal.τ Cert.AttInQLatReferenceIdeal.sig) → Buf (Elt Ideal) ℓ) (g : Dev Cert.AttInQLatReferenceIdeal.nD → PrngReg), Pre_AttInQLatReferenceIdeal m →
    θ_run (Cert.AttInQLatReferenceIdeal.defs (F := Ideal)) (onTc (τ := Cert.AttInQLatReferenceIdeal.τ) (Cert.AttInQLatReferenceIdeal.main (F := Ideal))) ⟨m, fun _ => 0, g⟩ (fun r => (∀ c : Dev Cert.AttInQLatReferenceIdeal.nD,
      r.2.mem ((c.tc : Thread Cert.AttInQLatReferenceIdeal.nD Cert.AttInQLatReferenceIdeal.τ).loc Cert.AttInQLatReferenceIdeal.main_arg0) = m ((c.tc : Thread Cert.AttInQLatReferenceIdeal.nD Cert.AttInQLatReferenceIdeal.τ).loc Cert.AttInQLatReferenceIdeal.main_arg0)
      ∧ r.2.mem ((c.tc : Thread Cert.AttInQLatReferenceIdeal.nD Cert.AttInQLatReferenceIdeal.τ).loc Cert.AttInQLatReferenceIdeal.main_arg1) = m ((c.tc : Thread Cert.AttInQLatReferenceIdeal.nD Cert.AttInQLatReferenceIdeal.τ).loc Cert.AttInQLatReferenceIdeal.main_arg1))
      ∧ r.2.sem = fun _ => 0)

def quiescent_AttInKvLat [hAttInKvLat : Cert.AttInKvLat.Facts] : Prop :=
  ∀ (m : (ℓ : Loc Cert.AttInKvLat.nD Cert.AttInKvLat.τ Cert.AttInKvLat.sig) → Buf (Elt Bits) ℓ) (g : Dev Cert.AttInKvLat.nD → PrngReg), Pre_AttInKvLat m →
    θ_run (Cert.AttInKvLat.defs (F := Bits)) (onTc (τ := Cert.AttInKvLat.τ) (Cert.AttInKvLat.main (F := Bits))) ⟨m, fun _ => 0, g⟩ (fun r => (∀ c : Dev Cert.AttInKvLat.nD,
      r.2.mem ((c.tc : Thread Cert.AttInKvLat.nD Cert.AttInKvLat.τ).loc Cert.AttInKvLat.main_arg0) = m ((c.tc : Thread Cert.AttInKvLat.nD Cert.AttInKvLat.τ).loc Cert.AttInKvLat.main_arg0)
      ∧ r.2.mem ((c.tc : Thread Cert.AttInKvLat.nD Cert.AttInKvLat.τ).loc Cert.AttInKvLat.main_arg1) = m ((c.tc : Thread Cert.AttInKvLat.nD Cert.AttInKvLat.τ).loc Cert.AttInKvLat.main_arg1))
      ∧ r.2.sem = fun _ => 0)

def quiescent_AttInKvLatIdeal [hAttInKvLatIdeal : Cert.AttInKvLatIdeal.Facts] : Prop :=
  ∀ (m : (ℓ : Loc Cert.AttInKvLatIdeal.nD Cert.AttInKvLatIdeal.τ Cert.AttInKvLatIdeal.sig) → Buf (Elt Ideal) ℓ) (g : Dev Cert.AttInKvLatIdeal.nD → PrngReg), Pre_AttInKvLatIdeal m →
    θ_run (Cert.AttInKvLatIdeal.defs (F := Ideal)) (onTc (τ := Cert.AttInKvLatIdeal.τ) (Cert.AttInKvLatIdeal.main (F := Ideal))) ⟨m, fun _ => 0, g⟩ (fun r => (∀ c : Dev Cert.AttInKvLatIdeal.nD,
      r.2.mem ((c.tc : Thread Cert.AttInKvLatIdeal.nD Cert.AttInKvLatIdeal.τ).loc Cert.AttInKvLatIdeal.main_arg0) = m ((c.tc : Thread Cert.AttInKvLatIdeal.nD Cert.AttInKvLatIdeal.τ).loc Cert.AttInKvLatIdeal.main_arg0)
      ∧ r.2.mem ((c.tc : Thread Cert.AttInKvLatIdeal.nD Cert.AttInKvLatIdeal.τ).loc Cert.AttInKvLatIdeal.main_arg1) = m ((c.tc : Thread Cert.AttInKvLatIdeal.nD Cert.AttInKvLatIdeal.τ).loc Cert.AttInKvLatIdeal.main_arg1))
      ∧ r.2.sem = fun _ => 0)

def quiescent_AttInKvLatReferenceIdeal [hAttInKvLatReferenceIdeal : Cert.AttInKvLatReferenceIdeal.Facts] : Prop :=
  ∀ (m : (ℓ : Loc Cert.AttInKvLatReferenceIdeal.nD Cert.AttInKvLatReferenceIdeal.τ Cert.AttInKvLatReferenceIdeal.sig) → Buf (Elt Ideal) ℓ) (g : Dev Cert.AttInKvLatReferenceIdeal.nD → PrngReg), Pre_AttInKvLatReferenceIdeal m →
    θ_run (Cert.AttInKvLatReferenceIdeal.defs (F := Ideal)) (onTc (τ := Cert.AttInKvLatReferenceIdeal.τ) (Cert.AttInKvLatReferenceIdeal.main (F := Ideal))) ⟨m, fun _ => 0, g⟩ (fun r => (∀ c : Dev Cert.AttInKvLatReferenceIdeal.nD,
      r.2.mem ((c.tc : Thread Cert.AttInKvLatReferenceIdeal.nD Cert.AttInKvLatReferenceIdeal.τ).loc Cert.AttInKvLatReferenceIdeal.main_arg0) = m ((c.tc : Thread Cert.AttInKvLatReferenceIdeal.nD Cert.AttInKvLatReferenceIdeal.τ).loc Cert.AttInKvLatReferenceIdeal.main_arg0)
      ∧ r.2.mem ((c.tc : Thread Cert.AttInKvLatReferenceIdeal.nD Cert.AttInKvLatReferenceIdeal.τ).loc Cert.AttInKvLatReferenceIdeal.main_arg1) = m ((c.tc : Thread Cert.AttInKvLatReferenceIdeal.nD Cert.AttInKvLatReferenceIdeal.τ).loc Cert.AttInKvLatReferenceIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ r.2.sem = fun _ => 0)

def quiescent_QUpReferenceIdeal [hQUpReferenceIdeal : Cert.QUpReferenceIdeal.Facts] : Prop :=
  ∀ (m : (ℓ : Loc Cert.QUpReferenceIdeal.nD Cert.QUpReferenceIdeal.τ Cert.QUpReferenceIdeal.sig) → Buf (Elt Ideal) ℓ) (g : Dev Cert.QUpReferenceIdeal.nD → PrngReg), Pre_QUpReferenceIdeal m →
    θ_run (Cert.QUpReferenceIdeal.defs (F := Ideal)) (onTc (τ := Cert.QUpReferenceIdeal.τ) (Cert.QUpReferenceIdeal.main (F := Ideal))) ⟨m, fun _ => 0, g⟩ (fun r => (∀ c : Dev Cert.QUpReferenceIdeal.nD,
      r.2.mem ((c.tc : Thread Cert.QUpReferenceIdeal.nD Cert.QUpReferenceIdeal.τ).loc Cert.QUpReferenceIdeal.main_arg0) = m ((c.tc : Thread Cert.QUpReferenceIdeal.nD Cert.QUpReferenceIdeal.τ).loc Cert.QUpReferenceIdeal.main_arg0)
      ∧ r.2.mem ((c.tc : Thread Cert.QUpReferenceIdeal.nD Cert.QUpReferenceIdeal.τ).loc Cert.QUpReferenceIdeal.main_arg1) = m ((c.tc : Thread Cert.QUpReferenceIdeal.nD Cert.QUpReferenceIdeal.τ).loc Cert.QUpReferenceIdeal.main_arg1)
      ∧ r.2.mem ((c.tc : Thread Cert.QUpReferenceIdeal.nD Cert.QUpReferenceIdeal.τ).loc Cert.QUpReferenceIdeal.main_arg2) = m ((c.tc : Thread Cert.QUpReferenceIdeal.nD Cert.QUpReferenceIdeal.τ).loc Cert.QUpReferenceIdeal.main_arg2))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ r.2.sem = fun _ => 0)

def quiescent_KvUpReferenceIdeal [hKvUpReferenceIdeal : Cert.KvUpReferenceIdeal.Facts] : Prop :=
  ∀ (m : (ℓ : Loc Cert.KvUpReferenceIdeal.nD Cert.KvUpReferenceIdeal.τ Cert.KvUpReferenceIdeal.sig) → Buf (Elt Ideal) ℓ) (g : Dev Cert.KvUpReferenceIdeal.nD → PrngReg), Pre_KvUpReferenceIdeal m →
    θ_run (Cert.KvUpReferenceIdeal.defs (F := Ideal)) (onTc (τ := Cert.KvUpReferenceIdeal.τ) (Cert.KvUpReferenceIdeal.main (F := Ideal))) ⟨m, fun _ => 0, g⟩ (fun r => (∀ c : Dev Cert.KvUpReferenceIdeal.nD,
      r.2.mem ((c.tc : Thread Cert.KvUpReferenceIdeal.nD Cert.KvUpReferenceIdeal.τ).loc Cert.KvUpReferenceIdeal.main_arg0) = m ((c.tc : Thread Cert.KvUpReferenceIdeal.nD Cert.KvUpReferenceIdeal.τ).loc Cert.KvUpReferenceIdeal.main_arg0)
      ∧ r.2.mem ((c.tc : Thread Cert.KvUpReferenceIdeal.nD Cert.KvUpReferenceIdeal.τ).loc Cert.KvUpReferenceIdeal.main_arg1) = m ((c.tc : Thread Cert.KvUpReferenceIdeal.nD Cert.KvUpReferenceIdeal.τ).loc Cert.KvUpReferenceIdeal.main_arg1)
      ∧ r.2.mem ((c.tc : Thread Cert.KvUpReferenceIdeal.nD Cert.KvUpReferenceIdeal.τ).loc Cert.KvUpReferenceIdeal.main_arg2) = m ((c.tc : Thread Cert.KvUpReferenceIdeal.nD Cert.KvUpReferenceIdeal.τ).loc Cert.KvUpReferenceIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v41) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_Glu_GluIdeal : Prop :=
  True

def algebraic_GluIdeal_GluReferenceIdeal [hGluIdeal : Cert.GluIdeal.Facts] [hGluReferenceIdeal : Cert.GluReferenceIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluIdeal m →
    (∀ c : Dev Cert.GluIdeal.nD,
      m' ((c.tc : Thread Cert.GluReferenceIdeal.nD Cert.GluReferenceIdeal.τ).loc Cert.GluReferenceIdeal.main_arg0) = m ((c.tc : Thread Cert.GluIdeal.nD Cert.GluIdeal.τ).loc Cert.GluIdeal.main_arg0)
      ∧ m' ((c.tc : Thread Cert.GluReferenceIdeal.nD Cert.GluReferenceIdeal.τ).loc Cert.GluReferenceIdeal.main_arg1) = m ((c.tc : Thread Cert.GluIdeal.nD Cert.GluIdeal.τ).loc Cert.GluIdeal.main_arg1)
      ∧ m' ((c.tc : Thread Cert.GluReferenceIdeal.nD Cert.GluReferenceIdeal.τ).loc Cert.GluReferenceIdeal.main_arg2) = m ((c.tc : Thread Cert.GluIdeal.nD Cert.GluIdeal.τ).loc Cert.GluIdeal.main_arg2)
      ∧ m' ((c.tc : Thread Cert.GluReferenceIdeal.nD Cert.GluReferenceIdeal.τ).loc Cert.GluReferenceIdeal.main_arg3) = m ((c.tc : Thread Cert.GluIdeal.nD Cert.GluIdeal.τ).loc Cert.GluIdeal.main_arg3)
      ∧ m' ((c.tc : Thread Cert.GluReferenceIdeal.nD Cert.GluReferenceIdeal.τ).loc Cert.GluReferenceIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v11)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v11) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v46) = v0 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4))

def preserves_ConvOut_ConvOutIdeal : Prop :=
  True

def algebraic_ConvOutIdeal_ConvOutReferenceIdeal [hConvOutIdeal : Cert.ConvOutIdeal.Facts] [hConvOutReferenceIdeal : Cert.ConvOutReferenceIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutReferenceIdeal.nD Cert.ConvOutReferenceIdeal.τ Cert.ConvOutReferenceIdeal.sig) → Buf (Elt Ideal) ℓ) (g' : Dev Cert.ConvOutReferenceIdeal.nD → PrngReg), Pre_ConvOutIdeal m →
    (∀ c : Dev Cert.ConvOutIdeal.nD,
      m' ((c.tc : Thread Cert.ConvOutReferenceIdeal.nD Cert.ConvOutReferenceIdeal.τ).loc Cert.ConvOutReferenceIdeal.main_arg0) = m ((c.tc : Thread Cert.ConvOutIdeal.nD Cert.ConvOutIdeal.τ).loc Cert.ConvOutIdeal.main_arg0)
      ∧ m' ((c.tc : Thread Cert.ConvOutReferenceIdeal.nD Cert.ConvOutReferenceIdeal.τ).loc Cert.ConvOutReferenceIdeal.main_arg1) = m ((c.tc : Thread Cert.ConvOutIdeal.nD Cert.ConvOutIdeal.τ).loc Cert.ConvOutIdeal.main_arg1)
      ∧ m' ((c.tc : Thread Cert.ConvOutReferenceIdeal.nD Cert.ConvOutReferenceIdeal.τ).loc Cert.ConvOutReferenceIdeal.main_arg2) = m ((c.tc : Thread Cert.ConvOutIdeal.nD Cert.ConvOutIdeal.τ).loc Cert.ConvOutIdeal.main_arg2)
      ∧ m' ((c.tc : Thread Cert.ConvOutReferenceIdeal.nD Cert.ConvOutReferenceIdeal.τ).loc Cert.ConvOutReferenceIdeal.main_arg3) = m ((c.tc : Thread Cert.ConvOutIdeal.nD Cert.ConvOutIdeal.τ).loc Cert.ConvOutIdeal.main_arg3)
      ∧ m' ((c.tc : Thread Cert.ConvOutReferenceIdeal.nD Cert.ConvOutReferenceIdeal.τ).loc Cert.ConvOutReferenceIdeal.main_arg4) = m ((c.tc : Thread Cert.ConvOutIdeal.nD Cert.ConvOutIdeal.τ).loc Cert.ConvOutIdeal.main_arg4)) →
    ∃ (v0 : (c : Dev Cert.ConvOutIdeal.nD) → Buf (Elt Ideal) ((c.tc : Thread Cert.ConvOutIdeal.nD Cert.ConvOutIdeal.τ).loc Cert.ConvOutIdeal.main_v4)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v4) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
          ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4))
      ∧ θ_run (Cert.ConvOutReferenceIdeal.defs (F := Ideal)) (onTc (τ := Cert.ConvOutReferenceIdeal.τ) (Cert.ConvOutReferenceIdeal.main (F := Ideal))) ⟨m', fun _ => 0, g'⟩ (fun r => ∀ c : Dev Cert.ConvOutReferenceIdeal.nD,
          r.2.mem ((c.tc : Thread Cert.ConvOutReferenceIdeal.nD Cert.ConvOutReferenceIdeal.τ).loc Cert.ConvOutReferenceIdeal.main_v20) = v0 c
          ∧ r.2.mem ((c.tc : Thread Cert.ConvOutReferenceIdeal.nD Cert.ConvOutReferenceIdeal.τ).loc Cert.ConvOutReferenceIdeal.main_arg0) = m' ((c.tc : Thread Cert.ConvOutReferenceIdeal.nD Cert.ConvOutReferenceIdeal.τ).loc Cert.ConvOutReferenceIdeal.main_arg0)
          ∧ r.2.mem ((c.tc : Thread Cert.ConvOutReferenceIdeal.nD Cert.ConvOutReferenceIdeal.τ).loc Cert.ConvOutReferenceIdeal.main_arg1) = m' ((c.tc : Thread Cert.ConvOutReferenceIdeal.nD Cert.ConvOutReferenceIdeal.τ).loc Cert.ConvOutReferenceIdeal.main_arg1)
          ∧ r.2.mem ((c.tc : Thread Cert.ConvOutReferenceIdeal.nD Cert.ConvOutReferenceIdeal.τ).loc Cert.ConvOutReferenceIdeal.main_arg2) = m' ((c.tc : Thread Cert.ConvOutReferenceIdeal.nD Cert.ConvOutReferenceIdeal.τ).loc Cert.ConvOutReferenceIdeal.main_arg2)
          ∧ r.2.mem ((c.tc : Thread Cert.ConvOutReferenceIdeal.nD Cert.ConvOutReferenceIdeal.τ).loc Cert.ConvOutReferenceIdeal.main_arg3) = m' ((c.tc : Thread Cert.ConvOutReferenceIdeal.nD Cert.ConvOutReferenceIdeal.τ).loc Cert.ConvOutReferenceIdeal.main_arg3)
          ∧ r.2.mem ((c.tc : Thread Cert.ConvOutReferenceIdeal.nD Cert.ConvOutReferenceIdeal.τ).loc Cert.ConvOutReferenceIdeal.main_arg4) = m' ((c.tc : Thread Cert.ConvOutReferenceIdeal.nD Cert.ConvOutReferenceIdeal.τ).loc Cert.ConvOutReferenceIdeal.main_arg4))

def preserves_AttOut_AttOutIdeal : Prop :=
  True

def algebraic_AttOutIdeal_AttOutReferenceIdeal [hAttOutIdeal : Cert.AttOutIdeal.Facts] [hAttOutReferenceIdeal : Cert.AttOutReferenceIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutReferenceIdeal.nD Cert.AttOutReferenceIdeal.τ Cert.AttOutReferenceIdeal.sig) → Buf (Elt Ideal) ℓ) (g' : Dev Cert.AttOutReferenceIdeal.nD → PrngReg), Pre_AttOutIdeal m →
    (∀ c : Dev Cert.AttOutIdeal.nD,
      m' ((c.tc : Thread Cert.AttOutReferenceIdeal.nD Cert.AttOutReferenceIdeal.τ).loc Cert.AttOutReferenceIdeal.main_arg0) = m ((c.tc : Thread Cert.AttOutIdeal.nD Cert.AttOutIdeal.τ).loc Cert.AttOutIdeal.main_arg0)
      ∧ m' ((c.tc : Thread Cert.AttOutReferenceIdeal.nD Cert.AttOutReferenceIdeal.τ).loc Cert.AttOutReferenceIdeal.main_arg1) = m ((c.tc : Thread Cert.AttOutIdeal.nD Cert.AttOutIdeal.τ).loc Cert.AttOutIdeal.main_arg1)
      ∧ m' ((c.tc : Thread Cert.AttOutReferenceIdeal.nD Cert.AttOutReferenceIdeal.τ).loc Cert.AttOutReferenceIdeal.main_arg2) = m ((c.tc : Thread Cert.AttOutIdeal.nD Cert.AttOutIdeal.τ).loc Cert.AttOutIdeal.main_arg2)
      ∧ m' ((c.tc : Thread Cert.AttOutReferenceIdeal.nD Cert.AttOutReferenceIdeal.τ).loc Cert.AttOutReferenceIdeal.main_arg3) = m ((c.tc : Thread Cert.AttOutIdeal.nD Cert.AttOutIdeal.τ).loc Cert.AttOutIdeal.main_arg3)) →
    ∃ (v0 : (c : Dev Cert.AttOutIdeal.nD) → Buf (Elt Ideal) ((c.tc : Thread Cert.AttOutIdeal.nD Cert.AttOutIdeal.τ).loc Cert.AttOutIdeal.main_v2)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v2) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1)
          ∧ r.2.mem ((c.tc : Thread Cert.AttOutIdeal.nD Cert.AttOutIdeal.τ).loc Cert.AttOutIdeal.main_arg2) = m ((c.tc : Thread Cert.AttOutIdeal.nD Cert.AttOutIdeal.τ).loc Cert.AttOutIdeal.main_arg2)
          ∧ r.2.mem ((c.tc : Thread Cert.AttOutIdeal.nD Cert.AttOutIdeal.τ).loc Cert.AttOutIdeal.main_arg3) = m ((c.tc : Thread Cert.AttOutIdeal.nD Cert.AttOutIdeal.τ).loc Cert.AttOutIdeal.main_arg3))
      ∧ θ_run (Cert.AttOutReferenceIdeal.defs (F := Ideal)) (onTc (τ := Cert.AttOutReferenceIdeal.τ) (Cert.AttOutReferenceIdeal.main (F := Ideal))) ⟨m', fun _ => 0, g'⟩ (fun r => ∀ c : Dev Cert.AttOutReferenceIdeal.nD,
          r.2.mem ((c.tc : Thread Cert.AttOutReferenceIdeal.nD Cert.AttOutReferenceIdeal.τ).loc Cert.AttOutReferenceIdeal.main_v16) = v0 c
          ∧ r.2.mem ((c.tc : Thread Cert.AttOutReferenceIdeal.nD Cert.AttOutReferenceIdeal.τ).loc Cert.AttOutReferenceIdeal.main_arg0) = m' ((c.tc : Thread Cert.AttOutReferenceIdeal.nD Cert.AttOutReferenceIdeal.τ).loc Cert.AttOutReferenceIdeal.main_arg0)
          ∧ r.2.mem ((c.tc : Thread Cert.AttOutReferenceIdeal.nD Cert.AttOutReferenceIdeal.τ).loc Cert.AttOutReferenceIdeal.main_arg1) = m' ((c.tc : Thread Cert.AttOutReferenceIdeal.nD Cert.AttOutReferenceIdeal.τ).loc Cert.AttOutReferenceIdeal.main_arg1)
          ∧ r.2.mem ((c.tc : Thread Cert.AttOutReferenceIdeal.nD Cert.AttOutReferenceIdeal.τ).loc Cert.AttOutReferenceIdeal.main_arg2) = m' ((c.tc : Thread Cert.AttOutReferenceIdeal.nD Cert.AttOutReferenceIdeal.τ).loc Cert.AttOutReferenceIdeal.main_arg2)
          ∧ r.2.mem ((c.tc : Thread Cert.AttOutReferenceIdeal.nD Cert.AttOutReferenceIdeal.τ).loc Cert.AttOutReferenceIdeal.main_arg3) = m' ((c.tc : Thread Cert.AttOutReferenceIdeal.nD Cert.AttOutReferenceIdeal.τ).loc Cert.AttOutReferenceIdeal.main_arg3))

def preserves_AttInQk_AttInQkIdeal : Prop :=
  True

def algebraic_AttInQkIdeal_AttInQkReferenceIdeal [hAttInQkIdeal : Cert.AttInQkIdeal.Facts] [hAttInQkReferenceIdeal : Cert.AttInQkReferenceIdeal.Facts] : Prop :=
  ∀ (m : (ℓ : Loc Cert.AttInQkIdeal.nD Cert.AttInQkIdeal.τ Cert.AttInQkIdeal.sig) → Buf (Elt Ideal) ℓ) (g : Dev Cert.AttInQkIdeal.nD → PrngReg)
    (m' : (ℓ : Loc Cert.AttInQkReferenceIdeal.nD Cert.AttInQkReferenceIdeal.τ Cert.AttInQkReferenceIdeal.sig) → Buf (Elt Ideal) ℓ) (g' : Dev Cert.AttInQkReferenceIdeal.nD → PrngReg), Pre_AttInQkIdeal m →
    (∀ c : Dev Cert.AttInQkIdeal.nD,
      m' ((c.tc : Thread Cert.AttInQkReferenceIdeal.nD Cert.AttInQkReferenceIdeal.τ).loc Cert.AttInQkReferenceIdeal.main_arg0) = m ((c.tc : Thread Cert.AttInQkIdeal.nD Cert.AttInQkIdeal.τ).loc Cert.AttInQkIdeal.main_arg0)
      ∧ m' ((c.tc : Thread Cert.AttInQkReferenceIdeal.nD Cert.AttInQkReferenceIdeal.τ).loc Cert.AttInQkReferenceIdeal.main_arg1) = m ((c.tc : Thread Cert.AttInQkIdeal.nD Cert.AttInQkIdeal.τ).loc Cert.AttInQkIdeal.main_arg1)
      ∧ m' ((c.tc : Thread Cert.AttInQkReferenceIdeal.nD Cert.AttInQkReferenceIdeal.τ).loc Cert.AttInQkReferenceIdeal.main_arg2) = m ((c.tc : Thread Cert.AttInQkIdeal.nD Cert.AttInQkIdeal.τ).loc Cert.AttInQkIdeal.main_arg2)
      ∧ m' ((c.tc : Thread Cert.AttInQkReferenceIdeal.nD Cert.AttInQkReferenceIdeal.τ).loc Cert.AttInQkReferenceIdeal.main_arg3) = m ((c.tc : Thread Cert.AttInQkIdeal.nD Cert.AttInQkIdeal.τ).loc Cert.AttInQkIdeal.main_arg3)) →
    ∃ (v0 : (c : Dev Cert.AttInQkIdeal.nD) → Buf (Elt Ideal) ((c.tc : Thread Cert.AttInQkIdeal.nD Cert.AttInQkIdeal.τ).loc Cert.AttInQkIdeal.main_v17)),
      θ_run (Cert.AttInQkIdeal.defs (F := Ideal)) (onTc (τ := Cert.AttInQkIdeal.τ) (Cert.AttInQkIdeal.main (F := Ideal))) ⟨m, fun _ => 0, g⟩ (fun r => ∀ c : Dev Cert.AttInQkIdeal.nD,
          r.2.mem ((c.tc : Thread Cert.AttInQkIdeal.nD Cert.AttInQkIdeal.τ).loc Cert.AttInQkIdeal.main_v17) = v0 c
          ∧ r.2.mem ((c.tc : Thread Cert.AttInQkIdeal.nD Cert.AttInQkIdeal.τ).loc Cert.AttInQkIdeal.main_arg0) = m ((c.tc : Thread Cert.AttInQkIdeal.nD Cert.AttInQkIdeal.τ).loc Cert.AttInQkIdeal.main_arg0)
          ∧ r.2.mem ((c.tc : Thread Cert.AttInQkIdeal.nD Cert.AttInQkIdeal.τ).loc Cert.AttInQkIdeal.main_arg1) = m ((c.tc : Thread Cert.AttInQkIdeal.nD Cert.AttInQkIdeal.τ).loc Cert.AttInQkIdeal.main_arg1)
          ∧ r.2.mem ((c.tc : Thread Cert.AttInQkIdeal.nD Cert.AttInQkIdeal.τ).loc Cert.AttInQkIdeal.main_arg2) = m ((c.tc : Thread Cert.AttInQkIdeal.nD Cert.AttInQkIdeal.τ).loc Cert.AttInQkIdeal.main_arg2)
          ∧ r.2.mem ((c.tc : Thread Cert.AttInQkIdeal.nD Cert.AttInQkIdeal.τ).loc Cert.AttInQkIdeal.main_arg3) = m ((c.tc : Thread Cert.AttInQkIdeal.nD Cert.AttInQkIdeal.τ).loc Cert.AttInQkIdeal.main_arg3))
      ∧ θ_run (Cert.AttInQkReferenceIdeal.defs (F := Ideal)) (onTc (τ := Cert.AttInQkReferenceIdeal.τ) (Cert.AttInQkReferenceIdeal.main (F := Ideal))) ⟨m', fun _ => 0, g'⟩ (fun r => ∀ c : Dev Cert.AttInQkReferenceIdeal.nD,
          r.2.mem ((c.tc : Thread Cert.AttInQkReferenceIdeal.nD Cert.AttInQkReferenceIdeal.τ).loc Cert.AttInQkReferenceIdeal.main_v43) = v0 c
          ∧ r.2.mem ((c.tc : Thread Cert.AttInQkReferenceIdeal.nD Cert.AttInQkReferenceIdeal.τ).loc Cert.AttInQkReferenceIdeal.main_arg0) = m' ((c.tc : Thread Cert.AttInQkReferenceIdeal.nD Cert.AttInQkReferenceIdeal.τ).loc Cert.AttInQkReferenceIdeal.main_arg0)
          ∧ r.2.mem ((c.tc : Thread Cert.AttInQkReferenceIdeal.nD Cert.AttInQkReferenceIdeal.τ).loc Cert.AttInQkReferenceIdeal.main_arg1) = m' ((c.tc : Thread Cert.AttInQkReferenceIdeal.nD Cert.AttInQkReferenceIdeal.τ).loc Cert.AttInQkReferenceIdeal.main_arg1)
          ∧ r.2.mem ((c.tc : Thread Cert.AttInQkReferenceIdeal.nD Cert.AttInQkReferenceIdeal.τ).loc Cert.AttInQkReferenceIdeal.main_arg2) = m' ((c.tc : Thread Cert.AttInQkReferenceIdeal.nD Cert.AttInQkReferenceIdeal.τ).loc Cert.AttInQkReferenceIdeal.main_arg2)
          ∧ r.2.mem ((c.tc : Thread Cert.AttInQkReferenceIdeal.nD Cert.AttInQkReferenceIdeal.τ).loc Cert.AttInQkReferenceIdeal.main_arg3) = m' ((c.tc : Thread Cert.AttInQkReferenceIdeal.nD Cert.AttInQkReferenceIdeal.τ).loc Cert.AttInQkReferenceIdeal.main_arg3))

def preserves_AttInV_AttInVIdeal : Prop :=
  True

def algebraic_AttInVIdeal_AttInVReferenceIdeal [hAttInVIdeal : Cert.AttInVIdeal.Facts] [hAttInVReferenceIdeal : Cert.AttInVReferenceIdeal.Facts] : Prop :=
  ∀ (m : (ℓ : Loc Cert.AttInVIdeal.nD Cert.AttInVIdeal.τ Cert.AttInVIdeal.sig) → Buf (Elt Ideal) ℓ) (g : Dev Cert.AttInVIdeal.nD → PrngReg)
    (m' : (ℓ : Loc Cert.AttInVReferenceIdeal.nD Cert.AttInVReferenceIdeal.τ Cert.AttInVReferenceIdeal.sig) → Buf (Elt Ideal) ℓ) (g' : Dev Cert.AttInVReferenceIdeal.nD → PrngReg), Pre_AttInVIdeal m →
    (∀ c : Dev Cert.AttInVIdeal.nD,
      m' ((c.tc : Thread Cert.AttInVReferenceIdeal.nD Cert.AttInVReferenceIdeal.τ).loc Cert.AttInVReferenceIdeal.main_arg0) = m ((c.tc : Thread Cert.AttInVIdeal.nD Cert.AttInVIdeal.τ).loc Cert.AttInVIdeal.main_arg0)
      ∧ m' ((c.tc : Thread Cert.AttInVReferenceIdeal.nD Cert.AttInVReferenceIdeal.τ).loc Cert.AttInVReferenceIdeal.main_arg1) = m ((c.tc : Thread Cert.AttInVIdeal.nD Cert.AttInVIdeal.τ).loc Cert.AttInVIdeal.main_arg1)) →
    ∃ (v0 : (c : Dev Cert.AttInVIdeal.nD) → Buf (Elt Ideal) ((c.tc : Thread Cert.AttInVIdeal.nD Cert.AttInVIdeal.τ).loc Cert.AttInVIdeal.main_v1)),
      θ_run (Cert.AttInVIdeal.defs (F := Ideal)) (onTc (τ := Cert.AttInVIdeal.τ) (Cert.AttInVIdeal.main (F := Ideal))) ⟨m, fun _ => 0, g⟩ (fun r => ∀ c : Dev Cert.AttInVIdeal.nD,
          r.2.mem ((c.tc : Thread Cert.AttInVIdeal.nD Cert.AttInVIdeal.τ).loc Cert.AttInVIdeal.main_v1) = v0 c
          ∧ r.2.mem ((c.tc : Thread Cert.AttInVIdeal.nD Cert.AttInVIdeal.τ).loc Cert.AttInVIdeal.main_arg0) = m ((c.tc : Thread Cert.AttInVIdeal.nD Cert.AttInVIdeal.τ).loc Cert.AttInVIdeal.main_arg0)
          ∧ r.2.mem ((c.tc : Thread Cert.AttInVIdeal.nD Cert.AttInVIdeal.τ).loc Cert.AttInVIdeal.main_arg1) = m ((c.tc : Thread Cert.AttInVIdeal.nD Cert.AttInVIdeal.τ).loc Cert.AttInVIdeal.main_arg1))
      ∧ θ_run (Cert.AttInVReferenceIdeal.defs (F := Ideal)) (onTc (τ := Cert.AttInVReferenceIdeal.τ) (Cert.AttInVReferenceIdeal.main (F := Ideal))) ⟨m', fun _ => 0, g'⟩ (fun r => ∀ c : Dev Cert.AttInVReferenceIdeal.nD,
          r.2.mem ((c.tc : Thread Cert.AttInVReferenceIdeal.nD Cert.AttInVReferenceIdeal.τ).loc Cert.AttInVReferenceIdeal.main_v4) = v0 c
          ∧ r.2.mem ((c.tc : Thread Cert.AttInVReferenceIdeal.nD Cert.AttInVReferenceIdeal.τ).loc Cert.AttInVReferenceIdeal.main_arg0) = m' ((c.tc : Thread Cert.AttInVReferenceIdeal.nD Cert.AttInVReferenceIdeal.τ).loc Cert.AttInVReferenceIdeal.main_arg0)
          ∧ r.2.mem ((c.tc : Thread Cert.AttInVReferenceIdeal.nD Cert.AttInVReferenceIdeal.τ).loc Cert.AttInVReferenceIdeal.main_arg1) = m' ((c.tc : Thread Cert.AttInVReferenceIdeal.nD Cert.AttInVReferenceIdeal.τ).loc Cert.AttInVReferenceIdeal.main_arg1))

def preserves_AttInQLat_AttInQLatIdeal : Prop :=
  True

def algebraic_AttInQLatIdeal_AttInQLatReferenceIdeal [hAttInQLatIdeal : Cert.AttInQLatIdeal.Facts] [hAttInQLatReferenceIdeal : Cert.AttInQLatReferenceIdeal.Facts] : Prop :=
  ∀ (m : (ℓ : Loc Cert.AttInQLatIdeal.nD Cert.AttInQLatIdeal.τ Cert.AttInQLatIdeal.sig) → Buf (Elt Ideal) ℓ) (g : Dev Cert.AttInQLatIdeal.nD → PrngReg)
    (m' : (ℓ : Loc Cert.AttInQLatReferenceIdeal.nD Cert.AttInQLatReferenceIdeal.τ Cert.AttInQLatReferenceIdeal.sig) → Buf (Elt Ideal) ℓ) (g' : Dev Cert.AttInQLatReferenceIdeal.nD → PrngReg), Pre_AttInQLatIdeal m →
    (∀ c : Dev Cert.AttInQLatIdeal.nD,
      m' ((c.tc : Thread Cert.AttInQLatReferenceIdeal.nD Cert.AttInQLatReferenceIdeal.τ).loc Cert.AttInQLatReferenceIdeal.main_arg0) = m ((c.tc : Thread Cert.AttInQLatIdeal.nD Cert.AttInQLatIdeal.τ).loc Cert.AttInQLatIdeal.main_arg0)
      ∧ m' ((c.tc : Thread Cert.AttInQLatReferenceIdeal.nD Cert.AttInQLatReferenceIdeal.τ).loc Cert.AttInQLatReferenceIdeal.main_arg1) = m ((c.tc : Thread Cert.AttInQLatIdeal.nD Cert.AttInQLatIdeal.τ).loc Cert.AttInQLatIdeal.main_arg1)) →
    ∃ (v0 : (c : Dev Cert.AttInQLatIdeal.nD) → Buf (Elt Ideal) ((c.tc : Thread Cert.AttInQLatIdeal.nD Cert.AttInQLatIdeal.τ).loc Cert.AttInQLatIdeal.main_v1)),
      θ_run (Cert.AttInQLatIdeal.defs (F := Ideal)) (onTc (τ := Cert.AttInQLatIdeal.τ) (Cert.AttInQLatIdeal.main (F := Ideal))) ⟨m, fun _ => 0, g⟩ (fun r => ∀ c : Dev Cert.AttInQLatIdeal.nD,
          r.2.mem ((c.tc : Thread Cert.AttInQLatIdeal.nD Cert.AttInQLatIdeal.τ).loc Cert.AttInQLatIdeal.main_v1) = v0 c
          ∧ r.2.mem ((c.tc : Thread Cert.AttInQLatIdeal.nD Cert.AttInQLatIdeal.τ).loc Cert.AttInQLatIdeal.main_arg0) = m ((c.tc : Thread Cert.AttInQLatIdeal.nD Cert.AttInQLatIdeal.τ).loc Cert.AttInQLatIdeal.main_arg0)
          ∧ r.2.mem ((c.tc : Thread Cert.AttInQLatIdeal.nD Cert.AttInQLatIdeal.τ).loc Cert.AttInQLatIdeal.main_arg1) = m ((c.tc : Thread Cert.AttInQLatIdeal.nD Cert.AttInQLatIdeal.τ).loc Cert.AttInQLatIdeal.main_arg1))
      ∧ θ_run (Cert.AttInQLatReferenceIdeal.defs (F := Ideal)) (onTc (τ := Cert.AttInQLatReferenceIdeal.τ) (Cert.AttInQLatReferenceIdeal.main (F := Ideal))) ⟨m', fun _ => 0, g'⟩ (fun r => ∀ c : Dev Cert.AttInQLatReferenceIdeal.nD,
          r.2.mem ((c.tc : Thread Cert.AttInQLatReferenceIdeal.nD Cert.AttInQLatReferenceIdeal.τ).loc Cert.AttInQLatReferenceIdeal.main_v4) = v0 c
          ∧ r.2.mem ((c.tc : Thread Cert.AttInQLatReferenceIdeal.nD Cert.AttInQLatReferenceIdeal.τ).loc Cert.AttInQLatReferenceIdeal.main_arg0) = m' ((c.tc : Thread Cert.AttInQLatReferenceIdeal.nD Cert.AttInQLatReferenceIdeal.τ).loc Cert.AttInQLatReferenceIdeal.main_arg0)
          ∧ r.2.mem ((c.tc : Thread Cert.AttInQLatReferenceIdeal.nD Cert.AttInQLatReferenceIdeal.τ).loc Cert.AttInQLatReferenceIdeal.main_arg1) = m' ((c.tc : Thread Cert.AttInQLatReferenceIdeal.nD Cert.AttInQLatReferenceIdeal.τ).loc Cert.AttInQLatReferenceIdeal.main_arg1))

def preserves_AttInKvLat_AttInKvLatIdeal : Prop :=
  True

def algebraic_AttInKvLatIdeal_AttInKvLatReferenceIdeal [hAttInKvLatIdeal : Cert.AttInKvLatIdeal.Facts] [hAttInKvLatReferenceIdeal : Cert.AttInKvLatReferenceIdeal.Facts] : Prop :=
  ∀ (m : (ℓ : Loc Cert.AttInKvLatIdeal.nD Cert.AttInKvLatIdeal.τ Cert.AttInKvLatIdeal.sig) → Buf (Elt Ideal) ℓ) (g : Dev Cert.AttInKvLatIdeal.nD → PrngReg)
    (m' : (ℓ : Loc Cert.AttInKvLatReferenceIdeal.nD Cert.AttInKvLatReferenceIdeal.τ Cert.AttInKvLatReferenceIdeal.sig) → Buf (Elt Ideal) ℓ) (g' : Dev Cert.AttInKvLatReferenceIdeal.nD → PrngReg), Pre_AttInKvLatIdeal m →
    (∀ c : Dev Cert.AttInKvLatIdeal.nD,
      m' ((c.tc : Thread Cert.AttInKvLatReferenceIdeal.nD Cert.AttInKvLatReferenceIdeal.τ).loc Cert.AttInKvLatReferenceIdeal.main_arg0) = m ((c.tc : Thread Cert.AttInKvLatIdeal.nD Cert.AttInKvLatIdeal.τ).loc Cert.AttInKvLatIdeal.main_arg0)
      ∧ m' ((c.tc : Thread Cert.AttInKvLatReferenceIdeal.nD Cert.AttInKvLatReferenceIdeal.τ).loc Cert.AttInKvLatReferenceIdeal.main_arg1) = m ((c.tc : Thread Cert.AttInKvLatIdeal.nD Cert.AttInKvLatIdeal.τ).loc Cert.AttInKvLatIdeal.main_arg1)) →
    ∃ (v0 : (c : Dev Cert.AttInKvLatIdeal.nD) → Buf (Elt Ideal) ((c.tc : Thread Cert.AttInKvLatIdeal.nD Cert.AttInKvLatIdeal.τ).loc Cert.AttInKvLatIdeal.main_v1)),
      θ_run (Cert.AttInKvLatIdeal.defs (F := Ideal)) (onTc (τ := Cert.AttInKvLatIdeal.τ) (Cert.AttInKvLatIdeal.main (F := Ideal))) ⟨m, fun _ => 0, g⟩ (fun r => ∀ c : Dev Cert.AttInKvLatIdeal.nD,
          r.2.mem ((c.tc : Thread Cert.AttInKvLatIdeal.nD Cert.AttInKvLatIdeal.τ).loc Cert.AttInKvLatIdeal.main_v1) = v0 c
          ∧ r.2.mem ((c.tc : Thread Cert.AttInKvLatIdeal.nD Cert.AttInKvLatIdeal.τ).loc Cert.AttInKvLatIdeal.main_arg0) = m ((c.tc : Thread Cert.AttInKvLatIdeal.nD Cert.AttInKvLatIdeal.τ).loc Cert.AttInKvLatIdeal.main_arg0)
          ∧ r.2.mem ((c.tc : Thread Cert.AttInKvLatIdeal.nD Cert.AttInKvLatIdeal.τ).loc Cert.AttInKvLatIdeal.main_arg1) = m ((c.tc : Thread Cert.AttInKvLatIdeal.nD Cert.AttInKvLatIdeal.τ).loc Cert.AttInKvLatIdeal.main_arg1))
      ∧ θ_run (Cert.AttInKvLatReferenceIdeal.defs (F := Ideal)) (onTc (τ := Cert.AttInKvLatReferenceIdeal.τ) (Cert.AttInKvLatReferenceIdeal.main (F := Ideal))) ⟨m', fun _ => 0, g'⟩ (fun r => ∀ c : Dev Cert.AttInKvLatReferenceIdeal.nD,
          r.2.mem ((c.tc : Thread Cert.AttInKvLatReferenceIdeal.nD Cert.AttInKvLatReferenceIdeal.τ).loc Cert.AttInKvLatReferenceIdeal.main_v4) = v0 c
          ∧ r.2.mem ((c.tc : Thread Cert.AttInKvLatReferenceIdeal.nD Cert.AttInKvLatReferenceIdeal.τ).loc Cert.AttInKvLatReferenceIdeal.main_arg0) = m' ((c.tc : Thread Cert.AttInKvLatReferenceIdeal.nD Cert.AttInKvLatReferenceIdeal.τ).loc Cert.AttInKvLatReferenceIdeal.main_arg0)
          ∧ r.2.mem ((c.tc : Thread Cert.AttInKvLatReferenceIdeal.nD Cert.AttInKvLatReferenceIdeal.τ).loc Cert.AttInKvLatReferenceIdeal.main_arg1) = m' ((c.tc : Thread Cert.AttInKvLatReferenceIdeal.nD Cert.AttInKvLatReferenceIdeal.τ).loc Cert.AttInKvLatReferenceIdeal.main_arg1))

def preserves_QUp_QUpIdeal : Prop :=
  True

def algebraic_QUpIdeal_QUpReferenceIdeal [hQUpIdeal : Cert.QUpIdeal.Facts] [hQUpReferenceIdeal : Cert.QUpReferenceIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpReferenceIdeal.nD Cert.QUpReferenceIdeal.τ Cert.QUpReferenceIdeal.sig) → Buf (Elt Ideal) ℓ) (g' : Dev Cert.QUpReferenceIdeal.nD → PrngReg), Pre_QUpIdeal m →
    (∀ c : Dev Cert.QUpIdeal.nD,
      m' ((c.tc : Thread Cert.QUpReferenceIdeal.nD Cert.QUpReferenceIdeal.τ).loc Cert.QUpReferenceIdeal.main_arg0) = m ((c.tc : Thread Cert.QUpIdeal.nD Cert.QUpIdeal.τ).loc Cert.QUpIdeal.main_arg0)
      ∧ m' ((c.tc : Thread Cert.QUpReferenceIdeal.nD Cert.QUpReferenceIdeal.τ).loc Cert.QUpReferenceIdeal.main_arg1) = m ((c.tc : Thread Cert.QUpIdeal.nD Cert.QUpIdeal.τ).loc Cert.QUpIdeal.main_arg1)
      ∧ m' ((c.tc : Thread Cert.QUpReferenceIdeal.nD Cert.QUpReferenceIdeal.τ).loc Cert.QUpReferenceIdeal.main_arg2) = m ((c.tc : Thread Cert.QUpIdeal.nD Cert.QUpIdeal.τ).loc Cert.QUpIdeal.main_arg2)) →
    ∃ (v0 : (c : Dev Cert.QUpIdeal.nD) → Buf (Elt Ideal) ((c.tc : Thread Cert.QUpIdeal.nD Cert.QUpIdeal.τ).loc Cert.QUpIdeal.main_v11)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v11) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ θ_run (Cert.QUpReferenceIdeal.defs (F := Ideal)) (onTc (τ := Cert.QUpReferenceIdeal.τ) (Cert.QUpReferenceIdeal.main (F := Ideal))) ⟨m', fun _ => 0, g'⟩ (fun r => ∀ c : Dev Cert.QUpReferenceIdeal.nD,
          r.2.mem ((c.tc : Thread Cert.QUpReferenceIdeal.nD Cert.QUpReferenceIdeal.τ).loc Cert.QUpReferenceIdeal.main_v24) = v0 c
          ∧ r.2.mem ((c.tc : Thread Cert.QUpReferenceIdeal.nD Cert.QUpReferenceIdeal.τ).loc Cert.QUpReferenceIdeal.main_arg0) = m' ((c.tc : Thread Cert.QUpReferenceIdeal.nD Cert.QUpReferenceIdeal.τ).loc Cert.QUpReferenceIdeal.main_arg0)
          ∧ r.2.mem ((c.tc : Thread Cert.QUpReferenceIdeal.nD Cert.QUpReferenceIdeal.τ).loc Cert.QUpReferenceIdeal.main_arg1) = m' ((c.tc : Thread Cert.QUpReferenceIdeal.nD Cert.QUpReferenceIdeal.τ).loc Cert.QUpReferenceIdeal.main_arg1)
          ∧ r.2.mem ((c.tc : Thread Cert.QUpReferenceIdeal.nD Cert.QUpReferenceIdeal.τ).loc Cert.QUpReferenceIdeal.main_arg2) = m' ((c.tc : Thread Cert.QUpReferenceIdeal.nD Cert.QUpReferenceIdeal.τ).loc Cert.QUpReferenceIdeal.main_arg2))

def preserves_KvUp_KvUpIdeal : Prop :=
  True

def algebraic_KvUpIdeal_KvUpReferenceIdeal [hKvUpIdeal : Cert.KvUpIdeal.Facts] [hKvUpReferenceIdeal : Cert.KvUpReferenceIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpReferenceIdeal.nD Cert.KvUpReferenceIdeal.τ Cert.KvUpReferenceIdeal.sig) → Buf (Elt Ideal) ℓ) (g' : Dev Cert.KvUpReferenceIdeal.nD → PrngReg), Pre_KvUpIdeal m →
    (∀ c : Dev Cert.KvUpIdeal.nD,
      m' ((c.tc : Thread Cert.KvUpReferenceIdeal.nD Cert.KvUpReferenceIdeal.τ).loc Cert.KvUpReferenceIdeal.main_arg0) = m ((c.tc : Thread Cert.KvUpIdeal.nD Cert.KvUpIdeal.τ).loc Cert.KvUpIdeal.main_arg0)
      ∧ m' ((c.tc : Thread Cert.KvUpReferenceIdeal.nD Cert.KvUpReferenceIdeal.τ).loc Cert.KvUpReferenceIdeal.main_arg1) = m ((c.tc : Thread Cert.KvUpIdeal.nD Cert.KvUpIdeal.τ).loc Cert.KvUpIdeal.main_arg1)
      ∧ m' ((c.tc : Thread Cert.KvUpReferenceIdeal.nD Cert.KvUpReferenceIdeal.τ).loc Cert.KvUpReferenceIdeal.main_arg2) = m ((c.tc : Thread Cert.KvUpIdeal.nD Cert.KvUpIdeal.τ).loc Cert.KvUpIdeal.main_arg2)) →
    ∃ (v0 : (c : Dev Cert.KvUpIdeal.nD) → Buf (Elt Ideal) ((c.tc : Thread Cert.KvUpIdeal.nD Cert.KvUpIdeal.τ).loc Cert.KvUpIdeal.main_v3)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v3) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ θ_run (Cert.KvUpReferenceIdeal.defs (F := Ideal)) (onTc (τ := Cert.KvUpReferenceIdeal.τ) (Cert.KvUpReferenceIdeal.main (F := Ideal))) ⟨m', fun _ => 0, g'⟩ (fun r => ∀ c : Dev Cert.KvUpReferenceIdeal.nD,
          r.2.mem ((c.tc : Thread Cert.KvUpReferenceIdeal.nD Cert.KvUpReferenceIdeal.τ).loc Cert.KvUpReferenceIdeal.main_v17) = v0 c
          ∧ r.2.mem ((c.tc : Thread Cert.KvUpReferenceIdeal.nD Cert.KvUpReferenceIdeal.τ).loc Cert.KvUpReferenceIdeal.main_arg0) = m' ((c.tc : Thread Cert.KvUpReferenceIdeal.nD Cert.KvUpReferenceIdeal.τ).loc Cert.KvUpReferenceIdeal.main_arg0)
          ∧ r.2.mem ((c.tc : Thread Cert.KvUpReferenceIdeal.nD Cert.KvUpReferenceIdeal.τ).loc Cert.KvUpReferenceIdeal.main_arg1) = m' ((c.tc : Thread Cert.KvUpReferenceIdeal.nD Cert.KvUpReferenceIdeal.τ).loc Cert.KvUpReferenceIdeal.main_arg1)
          ∧ r.2.mem ((c.tc : Thread Cert.KvUpReferenceIdeal.nD Cert.KvUpReferenceIdeal.τ).loc Cert.KvUpReferenceIdeal.main_arg2) = m' ((c.tc : Thread Cert.KvUpReferenceIdeal.nD Cert.KvUpReferenceIdeal.τ).loc Cert.KvUpReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hGlu : Cert.Glu.Facts) (hGluIdeal : Cert.GluIdeal.Facts) (hGluReferenceIdeal : Cert.GluReferenceIdeal.Facts) (hConvOut : Cert.ConvOut.Facts) (hConvOutIdeal : Cert.ConvOutIdeal.Facts) (hConvOutReferenceIdeal : Cert.ConvOutReferenceIdeal.Facts) (hAttOut : Cert.AttOut.Facts) (hAttOutIdeal : Cert.AttOutIdeal.Facts) (hAttOutReferenceIdeal : Cert.AttOutReferenceIdeal.Facts) (hAttInQk : Cert.AttInQk.Facts) (hAttInQkIdeal : Cert.AttInQkIdeal.Facts) (hAttInQkReferenceIdeal : Cert.AttInQkReferenceIdeal.Facts) (hAttInV : Cert.AttInV.Facts) (hAttInVIdeal : Cert.AttInVIdeal.Facts) (hAttInVReferenceIdeal : Cert.AttInVReferenceIdeal.Facts) (hAttInQLat : Cert.AttInQLat.Facts) (hAttInQLatIdeal : Cert.AttInQLatIdeal.Facts) (hAttInQLatReferenceIdeal : Cert.AttInQLatReferenceIdeal.Facts) (hAttInKvLat : Cert.AttInKvLat.Facts) (hAttInKvLatIdeal : Cert.AttInKvLatIdeal.Facts) (hAttInKvLatReferenceIdeal : Cert.AttInKvLatReferenceIdeal.Facts) (hQUp : Cert.QUp.Facts) (hQUpIdeal : Cert.QUpIdeal.Facts) (hQUpReferenceIdeal : Cert.QUpReferenceIdeal.Facts) (hKvUp : Cert.KvUp.Facts) (hKvUpIdeal : Cert.KvUpIdeal.Facts) (hKvUpReferenceIdeal : Cert.KvUpReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Glu (hGlu := hGlu)
    ∧ quiescent_GluIdeal (hGluIdeal := hGluIdeal)
    ∧ quiescent_GluReferenceIdeal (hGluReferenceIdeal := hGluReferenceIdeal)
    ∧ quiescent_ConvOut (hConvOut := hConvOut)
    ∧ quiescent_ConvOutIdeal (hConvOutIdeal := hConvOutIdeal)
    ∧ quiescent_ConvOutReferenceIdeal (hConvOutReferenceIdeal := hConvOutReferenceIdeal)
    ∧ quiescent_AttOut (hAttOut := hAttOut)
    ∧ quiescent_AttOutIdeal (hAttOutIdeal := hAttOutIdeal)
    ∧ quiescent_AttOutReferenceIdeal (hAttOutReferenceIdeal := hAttOutReferenceIdeal)
    ∧ quiescent_AttInQk (hAttInQk := hAttInQk)
    ∧ quiescent_AttInQkIdeal (hAttInQkIdeal := hAttInQkIdeal)
    ∧ quiescent_AttInQkReferenceIdeal (hAttInQkReferenceIdeal := hAttInQkReferenceIdeal)
    ∧ quiescent_AttInV (hAttInV := hAttInV)
    ∧ quiescent_AttInVIdeal (hAttInVIdeal := hAttInVIdeal)
    ∧ quiescent_AttInVReferenceIdeal (hAttInVReferenceIdeal := hAttInVReferenceIdeal)
    ∧ quiescent_AttInQLat (hAttInQLat := hAttInQLat)
    ∧ quiescent_AttInQLatIdeal (hAttInQLatIdeal := hAttInQLatIdeal)
    ∧ quiescent_AttInQLatReferenceIdeal (hAttInQLatReferenceIdeal := hAttInQLatReferenceIdeal)
    ∧ quiescent_AttInKvLat (hAttInKvLat := hAttInKvLat)
    ∧ quiescent_AttInKvLatIdeal (hAttInKvLatIdeal := hAttInKvLatIdeal)
    ∧ quiescent_AttInKvLatReferenceIdeal (hAttInKvLatReferenceIdeal := hAttInKvLatReferenceIdeal)
    ∧ quiescent_QUp (hQUp := hQUp)
    ∧ quiescent_QUpIdeal (hQUpIdeal := hQUpIdeal)
    ∧ quiescent_QUpReferenceIdeal (hQUpReferenceIdeal := hQUpReferenceIdeal)
    ∧ quiescent_KvUp (hKvUp := hKvUp)
    ∧ quiescent_KvUpIdeal (hKvUpIdeal := hKvUpIdeal)
    ∧ quiescent_KvUpReferenceIdeal (hKvUpReferenceIdeal := hKvUpReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mlp_MlpIdeal
    ∧ algebraic_MlpIdeal_MlpReferenceIdeal (hMlpIdeal := hMlpIdeal) (hMlpReferenceIdeal := hMlpReferenceIdeal)
    ∧ preserves_Glu_GluIdeal
    ∧ algebraic_GluIdeal_GluReferenceIdeal (hGluIdeal := hGluIdeal) (hGluReferenceIdeal := hGluReferenceIdeal)
    ∧ preserves_ConvOut_ConvOutIdeal
    ∧ algebraic_ConvOutIdeal_ConvOutReferenceIdeal (hConvOutIdeal := hConvOutIdeal) (hConvOutReferenceIdeal := hConvOutReferenceIdeal)
    ∧ preserves_AttOut_AttOutIdeal
    ∧ algebraic_AttOutIdeal_AttOutReferenceIdeal (hAttOutIdeal := hAttOutIdeal) (hAttOutReferenceIdeal := hAttOutReferenceIdeal)
    ∧ preserves_AttInQk_AttInQkIdeal
    ∧ algebraic_AttInQkIdeal_AttInQkReferenceIdeal (hAttInQkIdeal := hAttInQkIdeal) (hAttInQkReferenceIdeal := hAttInQkReferenceIdeal)
    ∧ preserves_AttInV_AttInVIdeal
    ∧ algebraic_AttInVIdeal_AttInVReferenceIdeal (hAttInVIdeal := hAttInVIdeal) (hAttInVReferenceIdeal := hAttInVReferenceIdeal)
    ∧ preserves_AttInQLat_AttInQLatIdeal
    ∧ algebraic_AttInQLatIdeal_AttInQLatReferenceIdeal (hAttInQLatIdeal := hAttInQLatIdeal) (hAttInQLatReferenceIdeal := hAttInQLatReferenceIdeal)
    ∧ preserves_AttInKvLat_AttInKvLatIdeal
    ∧ algebraic_AttInKvLatIdeal_AttInKvLatReferenceIdeal (hAttInKvLatIdeal := hAttInKvLatIdeal) (hAttInKvLatReferenceIdeal := hAttInKvLatReferenceIdeal)
    ∧ preserves_QUp_QUpIdeal
    ∧ algebraic_QUpIdeal_QUpReferenceIdeal (hQUpIdeal := hQUpIdeal) (hQUpReferenceIdeal := hQUpReferenceIdeal)
    ∧ preserves_KvUp_KvUpIdeal
    ∧ algebraic_KvUpIdeal_KvUpReferenceIdeal (hKvUpIdeal := hKvUpIdeal) (hKvUpReferenceIdeal := hKvUpReferenceIdeal)
-- ==== Pre_finite_scores.lean ====
abbrev S1x8192x16x192 : Shape := ⟨4, ![1, 8192, 16, 192]⟩
abbrev S1x8448x16x192 : Shape := ⟨4, ![1, 8448, 16, 192]⟩
abbrev S1x8448x16x128 : Shape := ⟨4, ![1, 8448, 16, 128]⟩
abbrev S192 : Shape := ⟨1, ![192]⟩
abbrev S8192x4096 : Shape := ⟨2, ![8192, 4096]⟩
abbrev S_ : Shape := ⟨0, ![]⟩

class Facts : Prop where
  bitsLt_bf16_f32 : FTy.bits .bf16 < FTy.bits .f32
  bcast_S_S1x8192x16x192 : S_.BroadcastsInDim S1x8192x16x192 (![] : Fin 0 → Fin S1x8192x16x192.rank)
  bcast_S_S1x8448x16x192 : S_.BroadcastsInDim S1x8448x16x192 (![] : Fin 0 → Fin S1x8448x16x192.rank)

variable [Facts]

def fn {F : FTy → Type} [FloatOps F] (main_arg0 : FVec F S1x8192x16x192 .bf16) (main_arg1 : FVec F S1x8448x16x192 .bf16) (main_arg2 : FVec F S1x8448x16x128 .bf16) (main_arg3 : FVec F S192 .f32) (main_arg4 : FVec F S192 .f32) (main_arg5 : FVec F S8192x4096 .bf16) : IVec S1x8192x16x192 1 × IVec S1x8448x16x192 1 :=
  let main_v0 : FVec F S1x8192x16x192 .f32 := (extf .f32 · bitsLt_bf16_f32) main_arg0
  let main_v1 : FVec F S1x8192x16x192 .f32 := Host.absf main_v0
  let main_cst : FVec F S_ .f32 := constant S_ .f32 0x7F800000#32
  let main_v2 : FVec F S1x8192x16x192 .f32 := broadcastInDim S1x8192x16x192 ![] bcast_S_S1x8192x16x192 main_cst
  let main_v3 : IVec S1x8192x16x192 1 := cmpf .olt main_v1 main_v2
  let main_v4 : FVec F S1x8448x16x192 .f32 := (extf .f32 · bitsLt_bf16_f32) main_arg1
  let main_v5 : FVec F S1x8448x16x192 .f32 := Host.absf main_v4
  let main_cst_0 : FVec F S_ .f32 := constant S_ .f32 0x7F800000#32
  let main_v6 : FVec F S1x8448x16x192 .f32 := broadcastInDim S1x8448x16x192 ![] bcast_S_S1x8448x16x192 main_cst_0
  let main_v7 : IVec S1x8448x16x192 1 := cmpf .olt main_v5 main_v6
  (main_v3, main_v7)
-- ==== Kernel.lean ====
abbrev S1x8192x16x192 : Shape := ⟨4, ![1, 8192, 16, 192]⟩
abbrev S1x8448x16x192 : Shape := ⟨4, ![1, 8448, 16, 192]⟩
abbrev S1x8448x16x128 : Shape := ⟨4, ![1, 8448, 16, 128]⟩
abbrev S192 : Shape := ⟨1, ![192]⟩
abbrev S8192x4096 : Shape := ⟨2, ![8192, 4096]⟩
abbrev S_ : Shape := ⟨0, ![]⟩
abbrev S8192x16x192 : Shape := ⟨3, ![8192, 16, 192]⟩
abbrev S16x8192x192 : Shape := ⟨3, ![16, 8192, 192]⟩
abbrev S16x8192x256 : Shape := ⟨3, ![16, 8192, 256]⟩
abbrev S8448x16x192 : Shape := ⟨3, ![8448, 16, 192]⟩
abbrev S16x8448x192 : Shape := ⟨3, ![16, 8448, 192]⟩
abbrev S16x8448x256 : Shape := ⟨3, ![16, 8448, 256]⟩
abbrev S8448x16x128 : Shape := ⟨3, ![8448, 16, 128]⟩
abbrev S3x2816x16x128 : Shape := ⟨4, ![3, 2816, 16, 128]⟩
abbrev S16x3x128x2816 : Shape := ⟨4, ![16, 3, 128, 2816]⟩
abbrev S16x3x16x2816 : Shape := ⟨4, ![16, 3, 16, 2816]⟩
abbrev S16x3x144x2816 : Shape := ⟨4, ![16, 3, 144, 2816]⟩
abbrev S1 : Shape := ⟨1, ![1]⟩
abbrev S1x1024x256 : Shape := ⟨3, ![1, 1024, 256]⟩
abbrev S1x8448x256 : Shape := ⟨3, ![1, 8448, 256]⟩
abbrev S1x3x144x2816 : Shape := ⟨4, ![1, 3, 144, 2816]⟩
abbrev S1024x128 : Shape := ⟨2, ![1024, 128]⟩
abbrev S1024x256 : Shape := ⟨2, ![1024, 256]⟩
abbrev S144x1024 : Shape := ⟨2, ![144, 1024]⟩
abbrev S1x2816x256 : Shape := ⟨3, ![1, 2816, 256]⟩
abbrev S2816x256 : Shape := ⟨2, ![2816, 256]⟩
abbrev S2816x1024 : Shape := ⟨2, ![2816, 1024]⟩
abbrev S1x1x144x2816 : Shape := ⟨4, ![1, 1, 144, 2816]⟩
abbrev S144x2816 : Shape := ⟨2, ![144, 2816]⟩
abbrev S128x1024 : Shape := ⟨2, ![128, 1024]⟩
abbrev S1x1024 : Shape := ⟨2, ![1, 1024]⟩
abbrev S1024 : Shape := ⟨1, ![1024]⟩

abbrev nBuf : Space → Nat
  | .hbm => 44
  | .vmem => 8
  | .smem => 1
  | _ => 0

abbrev bufTy : (tb : Table) → Fin (tcTables nBuf tb) → BufTy
  | .hbm, ⟨0, _⟩ => ⟨S1x8192x16x192, .bf16⟩
  | .hbm, ⟨1, _⟩ => ⟨S1x8448x16x192, .bf16⟩
  | .hbm, ⟨2, _⟩ => ⟨S1x8448x16x128, .bf16⟩
  | .hbm, ⟨3, _⟩ => ⟨S192, .f32⟩
  | .hbm, ⟨4, _⟩ => ⟨S192, .f32⟩
  | .hbm, ⟨5, _⟩ => ⟨S8192x4096, .bf16⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x16x192, .bf16⟩
  | .hbm, ⟨14, _⟩ => ⟨S16x8192x192, .bf16⟩
  | .hbm, ⟨15, _⟩ => ⟨S16x8192x192, .f32⟩
  | .hbm, ⟨16, _⟩ => ⟨S16x8192x192, .f32⟩
  | .hbm, ⟨17, _⟩ => ⟨S16x8192x192, .f32⟩
  | .hbm, ⟨18, _⟩ => ⟨S16x8192x192, .bf16⟩
  | .hbm, ⟨19, _⟩ => ⟨S_, .i32⟩
  | .hbm, ⟨20, _⟩ => ⟨S_, .bf16⟩
  | .hbm, ⟨21, _⟩ => ⟨S16x8192x256, .bf16⟩
  | .hbm, ⟨22, _⟩ => ⟨S8448x16x192, .bf16⟩
  | .hbm, ⟨23, _⟩ => ⟨S16x8448x192, .bf16⟩
  | .hbm, ⟨24, _⟩ => ⟨S_, .i32⟩
  | .hbm, ⟨25, _⟩ => ⟨S_, .bf16⟩
  | .hbm, ⟨26, _⟩ => ⟨S16x8448x256, .bf16⟩
  | .hbm, ⟨27, _⟩ => ⟨S8448x16x128, .bf16⟩
  | .hbm, ⟨28, _⟩ => ⟨S3x2816x16x128, .bf16⟩
  | .hbm, ⟨29, _⟩ => ⟨S16x3x128x2816, .bf16⟩
  | .hbm, ⟨30, _⟩ => ⟨S_, .bf16⟩
  | .hbm, ⟨31, _⟩ => ⟨S16x3x16x2816, .bf16⟩
  | .hbm, ⟨32, _⟩ => ⟨S16x3x144x2816, .bf16⟩
  | .hbm, ⟨33, _⟩ => ⟨S192, .f32⟩
  | .hbm, ⟨34, _⟩ => ⟨S_, .f32⟩
  | .hbm, ⟨35, _⟩ => ⟨S_, .f32⟩
  | .hbm, ⟨36, _⟩ => ⟨S192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S8192x4096, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8448x256, .bf16⟩
  | .local _ .vmem, ⟨3, _⟩ => ⟨S1x8448x256, .bf16⟩
  | .local _ .vmem, ⟨4, _⟩ => ⟨S1x3x144x2816, .bf16⟩
  | .local _ .vmem, ⟨5, _⟩ => ⟨S1x3x144x2816, .bf16⟩
  | .local _ .vmem, ⟨6, _⟩ => ⟨S1024x128, .bf16⟩
  | .local _ .vmem, ⟨7, _⟩ => ⟨S1024x128, .bf16⟩
  | .local _ .smem, ⟨0, _⟩ => ⟨S1, .f32⟩
  | _, _ => ⟨S1x8192x16x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call1_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x144x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S1x8192x16x192 : Shape := ⟨4, ![1, 8192, 16, 192]⟩
abbrev S1x8448x16x192 : Shape := ⟨4, ![1, 8448, 16, 192]⟩
abbrev S1x8448x16x128 : Shape := ⟨4, ![1, 8448, 16, 128]⟩
abbrev S192 : Shape := ⟨1, ![192]⟩
abbrev S8192x4096 : Shape := ⟨2, ![8192, 4096]⟩
abbrev S1x16x8192x8448 : Shape := ⟨4, ![1, 16, 8192, 8448]⟩
abbrev S_ : Shape := ⟨0, ![]⟩
abbrev S1x16x8192 : Shape := ⟨3, ![1, 16, 8192]⟩
abbrev S1x16x8192x1 : Shape := ⟨4, ![1, 16, 8192, 1]⟩
abbrev S1x16x128x8192 : Shape := ⟨4, ![1, 16, 128, 8192]⟩
abbrev S1x8192x16x128 : Shape := ⟨4, ![1, 8192, 16, 128]⟩
abbrev S8192x2048 : Shape := ⟨2, ![8192, 2048]⟩

abbrev nBuf : Space → Nat
  | .hbm => 34
  | .vmem => 0
  | .smem => 0
  | _ => 0

abbrev bufTy : (tb : Table) → Fin (tcTables nBuf tb) → BufTy
  | .hbm, ⟨0, _⟩ => ⟨S1x8192x16x192, .bf16⟩
  | .hbm, ⟨1, _⟩ => ⟨S1x8448x16x192, .bf16⟩
  | .hbm, ⟨2, _⟩ => ⟨S1x8448x16x128, .bf16⟩
  | .hbm, ⟨3, _⟩ => ⟨S192, .f32⟩
  | .hbm, ⟨4, _⟩ => ⟨S192, .f32⟩
  | .hbm, ⟨5, _⟩ => ⟨S8192x4096, .bf16⟩
  | .hbm, ⟨6, _⟩ => ⟨S1x8192x16x192, .f32⟩
  | .hbm, ⟨7, _⟩ => ⟨S1x8448x16x192, .f32⟩
  | .hbm, ⟨8, _⟩ => ⟨S1x16x8192x8448, .f32⟩
  | .hbm, ⟨9, _⟩ => ⟨S_, .f32⟩
  | .hbm, ⟨10, _⟩ => ⟨S_, .f32⟩
  | .hbm, ⟨11, _⟩ => ⟨S1x16x8192x8448, .f32⟩
  | .hbm, ⟨12, _⟩ => ⟨S1x16x8192x8448, .f32⟩
  | .hbm, ⟨13, _⟩ => ⟨S_, .f32⟩
  | .hbm, ⟨14, _⟩ => ⟨S1x16x8192, .f32⟩
  | .hbm, ⟨15, _⟩ => ⟨S_, .f32⟩
  | .hbm, ⟨16, _⟩ => ⟨S1x16x8192, .f32⟩
  | .hbm, ⟨17, _⟩ => ⟨S1x16x8192, .f32⟩
  | .hbm, ⟨18, _⟩ => ⟨S1x16x8192x1, .f32⟩
  | .hbm, ⟨19, _⟩ => ⟨S1x16x8192x8448, .f32⟩
  | .hbm, ⟨20, _⟩ => ⟨S1x16x8192x8448, .f32⟩
  | .hbm, ⟨21, _⟩ => ⟨S1x16x8192x8448, .f32⟩
  | .hbm, ⟨22, _⟩ => ⟨S_, .f32⟩
  | .hbm, ⟨23, _⟩ => ⟨S1x16x8192, .f32⟩
  | .hbm, ⟨24, _⟩ => ⟨S1x16x8192x1, .f32⟩
  | .hbm, ⟨25, _⟩ => ⟨S1x16x8192x8448, .f32⟩
  | .hbm, ⟨26, _⟩ => ⟨S1x16x8192x8448, .f32⟩
  | .hbm, ⟨27, _⟩ => ⟨S1x8448x16x128, .f32⟩
  | .hbm, ⟨28, _⟩ => ⟨S1x16x128x8192, .f32⟩
  | .hbm, ⟨29, _⟩ => ⟨S1x8192x16x128, .f32⟩
  | .hbm, ⟨30, _⟩ => ⟨S8192x2048, .bf16⟩
  | .hbm, ⟨31, _⟩ => ⟨S8192x2048, .f32⟩
  | .hbm, ⟨32, _⟩ => ⟨S8192x2048, .bf16⟩
  | .hbm, ⟨33, _⟩ => ⟨S8192x4096, .bf16⟩
  | _, _ => ⟨S1x8192x16x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Mlp.lean ====
abbrev S1x8192x4096 : Shape := ⟨3, ![1, 8192, 4096]⟩
abbrev S2x1x24576 : Shape := ⟨3, ![2, 1, 24576]⟩
abbrev S2x4096 : Shape := ⟨2, ![2, 4096]⟩
abbrev S2x4096x16384 : Shape := ⟨3, ![2, 4096, 16384]⟩
abbrev S2x16384x4096 : Shape := ⟨3, ![2, 16384, 4096]⟩
abbrev S_ : Shape := ⟨0, ![]⟩
abbrev S2x8x24576 : Shape := ⟨3, ![2, 8, 24576]⟩
abbrev S8192x4096 : Shape := ⟨2, ![8192, 4096]⟩
abbrev S1x4096 : Shape := ⟨2, ![1, 4096]⟩
abbrev S4096 : Shape := ⟨1, ![4096]⟩
abbrev S512x4096 : Shape := ⟨2, ![512, 4096]⟩
abbrev S1x8x4096 : Shape := ⟨3, ![1, 8, 4096]⟩
abbrev S512 : Shape := ⟨1, ![512]⟩
abbrev S512x1 : Shape := ⟨2, ![512, 1]⟩
abbrev S1x1x4096 : Shape := ⟨3, ![1, 1, 4096]⟩
abbrev S8192x16384 : Shape := ⟨2, ![8192, 16384]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S2048x1024 : Shape := ⟨2, ![2048, 1024]⟩
abbrev S1x1024x1024 : Shape := ⟨3, ![1, 1024, 1024]⟩
abbrev S1x8x1024 : Shape := ⟨3, ![1, 8, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 15
  | .vmem => 23
  | .smem => 0
  | _ => 0

abbrev bufTy : (tb : Table) → Fin (tcTables nBuf tb) → BufTy
  | .hbm, ⟨0, _⟩ => ⟨S1x8192x4096, .f32⟩
  | .hbm, ⟨1, _⟩ => ⟨S2x1x24576, .f32⟩
  | .hbm, ⟨2, _⟩ => ⟨S2x4096, .f32⟩
  | .hbm, ⟨3, _⟩ => ⟨S2x4096x16384, .f32⟩
  | .hbm, ⟨4, _⟩ => ⟨S2x16384x4096, .f32⟩
  | .hbm, ⟨5, _⟩ => ⟨S_, .i32⟩
  | .hbm, ⟨6, _⟩ => ⟨S_, .f32⟩
  | .hbm, ⟨7, _⟩ => ⟨S2x8x24576, .f32⟩
  | .hbm, ⟨8, _⟩ => ⟨S8192x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S8192x4096, .bf16⟩
  | .hbm, ⟨13, _⟩ => ⟨S8192x16384, .bf16⟩
  | .hbm, ⟨14, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x8x4096, .f32⟩
  | .local _ .vmem, ⟨4, _⟩ => ⟨S1x8x4096, .f32⟩
  | .local _ .vmem, ⟨5, _⟩ => ⟨S512x4096, .bf16⟩
  | .local _ .vmem, ⟨6, _⟩ => ⟨S512x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1x4096x512, .f32⟩
  | .local _ .vmem, ⟨10, _⟩ => ⟨S1x4096x512, .f32⟩
  | .local _ .vmem, ⟨11, _⟩ => ⟨S1024x512, .bf16⟩
  | .local _ .vmem, ⟨12, _⟩ => ⟨S1024x512, .bf16⟩
  | .local _ .vmem, ⟨13, _⟩ => ⟨S2048x1024, .bf16⟩
  | .local _ .vmem, ⟨14, _⟩ => ⟨S2048x1024, .bf16⟩
  | .local _ .vmem, ⟨15, _⟩ => ⟨S1x1024x1024, .f32⟩
  | .local _ .vmem, ⟨16, _⟩ => ⟨S1x1024x1024, .f32⟩
  | .local _ .vmem, ⟨17, _⟩ => ⟨S2048x1024, .f32⟩
  | .local _ .vmem, ⟨18, _⟩ => ⟨S2048x1024, .f32⟩
  | .local _ .vmem, ⟨19, _⟩ => ⟨S1x8x1024, .f32⟩
  | .local _ .vmem, ⟨20, _⟩ => ⟨S1x8x1024, .f32⟩
  | .local _ .vmem, ⟨21, _⟩ => ⟨S2048x1024, .f32⟩
  | .local _ .vmem, ⟨22, _⟩ => ⟨S2048x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c3_i32 : BitVec 32 := 3#32
  let c0_i32_0 : BitVec 32 := 0#32
  ![c1_i32.toNat, c0_i32.toNat, c3_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c4_i32 : BitVec 32 := 4#32
  let c0_i32_0 : BitVec 32 := 0#32
  ![c1_i32.toNat, c0_i32.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 32, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c0_i32_0 : BitVec 32 := 0#32
  ![c1_i32.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 16], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let c0_i32_0 : BitVec 32 := 0#32
  ![c1_i32.toNat, arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c1_i32 : BitVec 32 := 1#32
  let c0_i32 : BitVec 32 := 0#32
  let c0_i32_0 : BitVec 32 := 0#32
  ![c1_i32.toNat, c0_i32.toNat, v0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x8x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]
-- ==== MlpReferenceIdeal.lean ====
abbrev S1x8192x4096 : Shape := ⟨3, ![1, 8192, 4096]⟩
abbrev S2x1x24576 : Shape := ⟨3, ![2, 1, 24576]⟩
abbrev S2x4096 : Shape := ⟨2, ![2, 4096]⟩
abbrev S2x4096x16384 : Shape := ⟨3, ![2, 4096, 16384]⟩
abbrev S2x16384x4096 : Shape := ⟨3, ![2, 16384, 4096]⟩
abbrev S1x1x24576 : Shape := ⟨3, ![1, 1, 24576]⟩
abbrev S1x24576 : Shape := ⟨2, ![1, 24576]⟩
abbrev S1x1x4096 : Shape := ⟨3, ![1, 1, 4096]⟩
abbrev S_ : Shape := ⟨0, ![]⟩
abbrev S1x8192 : Shape := ⟨2, ![1, 8192]⟩
abbrev S1x8192x1 : Shape := ⟨3, ![1, 8192, 1]⟩
abbrev S1x4096 : Shape := ⟨2, ![1, 4096]⟩
abbrev S4096 : Shape := ⟨1, ![4096]⟩
abbrev S1x4096x16384 : Shape := ⟨3, ![1, 4096, 16384]⟩
abbrev S4096x16384 : Shape := ⟨2, ![4096, 16384]⟩
abbrev S1x8192x16384 : Shape := ⟨3, ![1, 8192, 16384]⟩
abbrev S1x16384x4096 : Shape := ⟨3, ![1, 16384, 4096]⟩
abbrev S16384x4096 : Shape := ⟨2, ![16384, 4096]⟩
abbrev S8192x4096 : Shape := ⟨2, ![8192, 4096]⟩

abbrev nBuf : Space → Nat
  | .hbm => 53
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S2x1x24576, .f32⟩
  | .hbm, ⟨2, _⟩ => ⟨S2x4096, .f32⟩
  | .hbm, ⟨3, _⟩ => ⟨S2x4096x16384, .f32⟩
  | .hbm, ⟨4, _⟩ => ⟨S2x16384x4096, .f32⟩
  | .hbm, ⟨5, _⟩ => ⟨S1x1x24576, .f32⟩
  | .hbm, ⟨6, _⟩ => ⟨S1x24576, .f32⟩
  | .hbm, ⟨7, _⟩ => ⟨S1x1x24576, .f32⟩
  | .hbm, ⟨8, _⟩ => ⟨S1x1x4096, .f32⟩
  | .hbm, ⟨9, _⟩ => ⟨S1x1x4096, .f32⟩
  | .hbm, ⟨10, _⟩ => ⟨S1x1x4096, .f32⟩
  | .hbm, ⟨11, _⟩ => ⟨S1x1x4096, .f32⟩
  | .hbm, ⟨12, _⟩ => ⟨S1x1x4096, .f32⟩
  | .hbm, ⟨13, _⟩ => ⟨S1x1x4096, .f32⟩
  | .hbm, ⟨14, _⟩ => ⟨S1x8192x4096, .f32⟩
  | .hbm, ⟨15, _⟩ => ⟨S_, .f32⟩
  | .hbm, ⟨16, _⟩ => ⟨S1x8192, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S1x8192x4096, .f32⟩
  | .hbm, ⟨26, _⟩ => ⟨S1x8192x4096, .f32⟩
  | .hbm, ⟨27, _⟩ => ⟨S1x4096, .f32⟩
  | .hbm, ⟨28, _⟩ => ⟨S4096, .f32⟩
  | .hbm, ⟨29, _⟩ => ⟨S1x1x4096, .f32⟩
  | .hbm, ⟨30, _⟩ => ⟨S1x8192x4096, .f32⟩
  | .hbm, ⟨31, _⟩ => ⟨S1x8192x4096, .f32⟩
  | .hbm, ⟨32, _⟩ => ⟨S_, .f32⟩
  | .hbm, ⟨33, _⟩ => ⟨S1x1x4096, .f32⟩
  | .hbm, ⟨34, _⟩ => ⟨S1x1x4096, .f32⟩
  | .hbm, ⟨35, _⟩ => ⟨S1x8192x4096, .f32⟩
  | .hbm, ⟨36, _⟩ => ⟨S1x8192x4096, .f32⟩
  | .hbm, ⟨37, _⟩ => ⟨S1x8192x4096, .f32⟩
  | .hbm, ⟨38, _⟩ => ⟨S1x8192x4096, .f32⟩
  | .hbm, ⟨39, _⟩ => ⟨S1x4096x16384, .f32⟩
  | .hbm, ⟨40, _⟩ => ⟨S4096x16384, .f32⟩
  | .hbm, ⟨41, _⟩ => ⟨S1x8192x16384, .f32⟩
  | .hbm, ⟨42, _⟩ => ⟨S_, .f32⟩
  | .hbm, ⟨43, _⟩ => ⟨S1x8192x16384, .f32⟩
  | .hbm, ⟨44, _⟩ => ⟨S1x8192x16384, .f32⟩
  | .hbm, ⟨45, _⟩ => ⟨S1x8192x16384, .f32⟩
  | .hbm, ⟨46, _⟩ => ⟨S1x16384x4096, .f32⟩
  | .hbm, ⟨47, _⟩ => ⟨S16384x4096, .f32⟩
  | .hbm, ⟨48, _⟩ => ⟨S1x8192x4096, .f32⟩
  | .hbm, ⟨49, _⟩ => ⟨S1x8192x4096, .f32⟩
  | .hbm, ⟨50, _⟩ => ⟨S1x8192x4096, .f32⟩
  | .hbm, ⟨51, _⟩ => ⟨S1x8192x4096, .f32⟩
  | .hbm, ⟨52, _⟩ => ⟨S8192x4096, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_cst : Ref sig .tc := ⟨.hbm, 42, rfl⟩
abbrev main_call0_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Glu.lean ====
abbrev S1x8192x4096 : Shape := ⟨3, ![1, 8192, 4096]⟩
abbrev S2x1x24576 : Shape := ⟨3, ![2, 1, 24576]⟩
abbrev S2x4096 : Shape := ⟨2, ![2, 4096]⟩
abbrev S1x4096x8192 : Shape := ⟨3, ![1, 4096, 8192]⟩
abbrev S1x8192 : Shape := ⟨2, ![1, 8192]⟩
abbrev S_ : Shape := ⟨0, ![]⟩
abbrev S2x8x24576 : Shape := ⟨3, ![2, 8, 24576]⟩
abbrev S8192x4096 : Shape := ⟨2, ![8192, 4096]⟩
abbrev S1x4096 : Shape := ⟨2, ![1, 4096]⟩
abbrev S4096 : Shape := ⟨1, ![4096]⟩
abbrev S512x4096 : Shape := ⟨2, ![512, 4096]⟩
abbrev S1x8x4096 : Shape := ⟨3, ![1, 8, 4096]⟩
abbrev S512 : Shape := ⟨1, ![512]⟩
abbrev S512x1 : Shape := ⟨2, ![512, 1]⟩
abbrev S1x1x4096 : Shape := ⟨3, ![1, 1, 4096]⟩
abbrev S8192 : Shape := ⟨1, ![8192]⟩
abbrev S1024x4096 : Shape := ⟨2, ![1024, 4096]⟩
abbrev S1x4096x256 : Shape := ⟨3, ![1, 4096, 256]⟩
abbrev S1x256 : Shape := ⟨2, ![1, 256]⟩
abbrev S1024x256 : Shape := ⟨2, ![1024, 256]⟩
abbrev S4096x256 : Shape := ⟨2, ![4096, 256]⟩

abbrev nBuf : Space → Nat
  | .hbm => 19
  | .vmem => 19
  | .smem => 0
  | _ => 0

abbrev bufTy : (tb : Table) → Fin (tcTables nBuf tb) → BufTy
  | .hbm, ⟨0, _⟩ => ⟨S1x8192x4096, .f32⟩
  | .hbm, ⟨1, _⟩ => ⟨S2x1x24576, .f32⟩
  | .hbm, ⟨2, _⟩ => ⟨S2x4096, .f32⟩
  | .hbm, ⟨3, _⟩ => ⟨S1x4096x8192, .f32⟩
  | .hbm, ⟨4, _⟩ => ⟨S1x8192, .f32⟩
  | .hbm, ⟨5, _⟩ => ⟨S_, .i32⟩
  | .hbm, ⟨6, _⟩ => ⟨S_, .f32⟩
  | .hbm, ⟨7, _⟩ => ⟨S2x8x24576, .f32⟩
  | .hbm, ⟨8, _⟩ => ⟨S8192x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S8192x4096, .bf16⟩
  | .hbm, ⟨13, _⟩ => ⟨S8192, .f32⟩
  | .hbm, ⟨14, _⟩ => ⟨S4096, .f32⟩
  | .hbm, ⟨15, _⟩ => ⟨S4096, .f32⟩
  | .hbm, ⟨16, _⟩ => ⟨S1x4096, .f32⟩
  | .hbm, ⟨17, _⟩ => ⟨S1x4096, .f32⟩
  | .hbm, ⟨18, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x8x4096, .f32⟩
  | .local _ .vmem, ⟨4, _⟩ => ⟨S1x8x4096, .f32⟩
  | .local _ .vmem, ⟨5, _⟩ => ⟨S512x4096, .bf16⟩
  | .local _ .vmem, ⟨6, _⟩ => ⟨S512x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1x4096x256, .f32⟩
  | .local _ .vmem, ⟨10, _⟩ => ⟨S1x4096x256, .f32⟩
  | .local _ .vmem, ⟨11, _⟩ => ⟨S1x4096x256, .f32⟩
  | .local _ .vmem, ⟨12, _⟩ => ⟨S1x4096x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1024x256, .bf16⟩
  | .local _ .vmem, ⟨18, _⟩ => ⟨S1024x256, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c1_i32_0 : BitVec 32 := 1#32
  let c0_i32_1 : BitVec 32 := 0#32
  ![c1_i32.toNat, c0_i32.toNat, c1_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 16, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![c0_i32.toNat, arg2.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== GluReferenceIdeal.lean ====
abbrev S1x8192x4096 : Shape := ⟨3, ![1, 8192, 4096]⟩
abbrev S2x1x24576 : Shape := ⟨3, ![2, 1, 24576]⟩
abbrev S2x4096 : Shape := ⟨2, ![2, 4096]⟩
abbrev S1x4096x8192 : Shape := ⟨3, ![1, 4096, 8192]⟩
abbrev S1x8192 : Shape := ⟨2, ![1, 8192]⟩
abbrev S1x1x24576 : Shape := ⟨3, ![1, 1, 24576]⟩
abbrev S1x24576 : Shape := ⟨2, ![1, 24576]⟩
abbrev S1x1x4096 : Shape := ⟨3, ![1, 1, 4096]⟩
abbrev S_ : Shape := ⟨0, ![]⟩
abbrev S1x8192x1 : Shape := ⟨3, ![1, 8192, 1]⟩
abbrev S1x4096 : Shape := ⟨2, ![1, 4096]⟩
abbrev S4096 : Shape := ⟨1, ![4096]⟩
abbrev S4096x8192 : Shape := ⟨2, ![4096, 8192]⟩
abbrev S1x8192x8192 : Shape := ⟨3, ![1, 8192, 8192]⟩
abbrev S8192 : Shape := ⟨1, ![8192]⟩
abbrev S1x1x8192 : Shape := ⟨3, ![1, 1, 8192]⟩
abbrev S8192x4096 : Shape := ⟨2, ![8192, 4096]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S2x1x24576, .f32⟩
  | .hbm, ⟨2, _⟩ => ⟨S2x4096, .f32⟩
  | .hbm, ⟨3, _⟩ => ⟨S1x4096x8192, .f32⟩
  | .hbm, ⟨4, _⟩ => ⟨S1x8192, .f32⟩
  | .hbm, ⟨5, _⟩ => ⟨S1x1x24576, .f32⟩
  | .hbm, ⟨6, _⟩ => ⟨S1x24576, .f32⟩
  | .hbm, ⟨7, _⟩ => ⟨S1x1x24576, .f32⟩
  | .hbm, ⟨8, _⟩ => ⟨S1x1x4096, .f32⟩
  | .hbm, ⟨9, _⟩ => ⟨S1x1x4096, .f32⟩
  | .hbm, ⟨10, _⟩ => ⟨S1x1x4096, .f32⟩
  | .hbm, ⟨11, _⟩ => ⟨S1x1x4096, .f32⟩
  | .hbm, ⟨12, _⟩ => ⟨S1x1x4096, .f32⟩
  | .hbm, ⟨13, _⟩ => ⟨S1x1x4096, .f32⟩
  | .hbm, ⟨14, _⟩ => ⟨S1x8192x4096, .f32⟩
  | .hbm, ⟨15, _⟩ => ⟨S_, .f32⟩
  | .hbm, ⟨16, _⟩ => ⟨S1x8192, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S1x8192x4096, .f32⟩
  | .hbm, ⟨26, _⟩ => ⟨S1x8192x4096, .f32⟩
  | .hbm, ⟨27, _⟩ => ⟨S1x4096, .f32⟩
  | .hbm, ⟨28, _⟩ => ⟨S4096, .f32⟩
  | .hbm, ⟨29, _⟩ => ⟨S1x1x4096, .f32⟩
  | .hbm, ⟨30, _⟩ => ⟨S1x8192x4096, .f32⟩
  | .hbm, ⟨31, _⟩ => ⟨S1x8192x4096, .f32⟩
  | .hbm, ⟨32, _⟩ => ⟨S_, .f32⟩
  | .hbm, ⟨33, _⟩ => ⟨S1x1x4096, .f32⟩
  | .hbm, ⟨34, _⟩ => ⟨S1x1x4096, .f32⟩
  | .hbm, ⟨35, _⟩ => ⟨S1x8192x4096, .f32⟩
  | .hbm, ⟨36, _⟩ => ⟨S1x8192x4096, .f32⟩
  | .hbm, ⟨37, _⟩ => ⟨S1x8192x4096, .f32⟩
  | .hbm, ⟨38, _⟩ => ⟨S1x8192x4096, .f32⟩
  | .hbm, ⟨39, _⟩ => ⟨S4096x8192, .f32⟩
  | .hbm, ⟨40, _⟩ => ⟨S1x8192x8192, .f32⟩
  | .hbm, ⟨41, _⟩ => ⟨S8192, .f32⟩
  | .hbm, ⟨42, _⟩ => ⟨S1x1x8192, .f32⟩
  | .hbm, ⟨43, _⟩ => ⟨S1x8192x8192, .f32⟩
  | .hbm, ⟨44, _⟩ => ⟨S1x8192x8192, .f32⟩
  | .hbm, ⟨45, _⟩ => ⟨S1x8192x4096, .f32⟩
  | .hbm, ⟨46, _⟩ => ⟨S1x8192x4096, .f32⟩
  | .hbm, ⟨47, _⟩ => ⟨S1x8192x4096, .f32⟩
  | .hbm, ⟨48, _⟩ => ⟨S1x8192x4096, .f32⟩
  | .hbm, ⟨49, _⟩ => ⟨S_, .f32⟩
  | .hbm, ⟨50, _⟩ => ⟨S1x8192x4096, .f32⟩
  | .hbm, ⟨51, _⟩ => ⟨S1x8192x4096, .f32⟩
  | .hbm, ⟨52, _⟩ => ⟨S_, .f32⟩
  | .hbm, ⟨53, _⟩ => ⟨S1x8192x4096, .f32⟩
  | .hbm, ⟨54, _⟩ => ⟨S1x8192x4096, .f32⟩
  | .hbm, ⟨55, _⟩ => ⟨S1x8192x4096, .f32⟩
  | .hbm, ⟨56, _⟩ => ⟨S8192x4096, .f32⟩
  | .hbm, ⟨57, _⟩ => ⟨S8192x4096, .bf16⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== ConvOut.lean ====
abbrev S8192x4096 : Shape := ⟨2, ![8192, 4096]⟩
abbrev S1x8192x4096 : Shape := ⟨3, ![1, 8192, 4096]⟩
abbrev S2x1x24576 : Shape := ⟨3, ![2, 1, 24576]⟩
abbrev S1x4096x4096 : Shape := ⟨3, ![1, 4096, 4096]⟩
abbrev S1x4096 : Shape := ⟨2, ![1, 4096]⟩
abbrev S_ : Shape := ⟨0, ![]⟩
abbrev S2x8x24576 : Shape := ⟨3, ![2, 8, 24576]⟩
abbrev S4096 : Shape := ⟨1, ![4096]⟩
abbrev S1024x4096 : Shape := ⟨2, ![1024, 4096]⟩
abbrev S1x4096x512 : Shape := ⟨3, ![1, 4096, 512]⟩
abbrev S1x512 : Shape := ⟨2, ![1, 512]⟩
abbrev S1024x512 : Shape := ⟨2, ![1024, 512]⟩
abbrev S1x8x512 : Shape := ⟨3, ![1, 8, 512]⟩
abbrev S4096x512 : Shape := ⟨2, ![4096, 512]⟩
abbrev S1x1x512 : Shape := ⟨3, ![1, 1, 512]⟩

abbrev nBuf : Space → Nat
  | .hbm => 12
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S1x8192x4096, .f32⟩
  | .hbm, ⟨2, _⟩ => ⟨S2x1x24576, .f32⟩
  | .hbm, ⟨3, _⟩ => ⟨S1x4096x4096, .f32⟩
  | .hbm, ⟨4, _⟩ => ⟨S1x4096, .f32⟩
  | .hbm, ⟨5, _⟩ => ⟨S_, .i32⟩
  | .hbm, ⟨6, _⟩ => ⟨S_, .f32⟩
  | .hbm, ⟨7, _⟩ => ⟨S2x8x24576, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1x8x512, .f32⟩
  | .local _ .vmem, ⟨9, _⟩ => ⟨S1x8x512, .f32⟩
  | .local _ .vmem, ⟨10, _⟩ => ⟨S1024x512, .f32⟩
  | .local _ .vmem, ⟨11, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ConvOutReferenceIdeal.lean ====
abbrev S8192x4096 : Shape := ⟨2, ![8192, 4096]⟩
abbrev S1x8192x4096 : Shape := ⟨3, ![1, 8192, 4096]⟩
abbrev S2x1x24576 : Shape := ⟨3, ![2, 1, 24576]⟩
abbrev S1x4096x4096 : Shape := ⟨3, ![1, 4096, 4096]⟩
abbrev S1x4096 : Shape := ⟨2, ![1, 4096]⟩
abbrev S1x1x24576 : Shape := ⟨3, ![1, 1, 24576]⟩
abbrev S1x24576 : Shape := ⟨2, ![1, 24576]⟩
abbrev S1x1x4096 : Shape := ⟨3, ![1, 1, 4096]⟩
abbrev S4096x4096 : Shape := ⟨2, ![4096, 4096]⟩
abbrev S4096 : Shape := ⟨1, ![4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x8192x4096, .f32⟩
  | .hbm, ⟨2, _⟩ => ⟨S2x1x24576, .f32⟩
  | .hbm, ⟨3, _⟩ => ⟨S1x4096x4096, .f32⟩
  | .hbm, ⟨4, _⟩ => ⟨S1x4096, .f32⟩
  | .hbm, ⟨5, _⟩ => ⟨S1x1x24576, .f32⟩
  | .hbm, ⟨6, _⟩ => ⟨S1x24576, .f32⟩
  | .hbm, ⟨7, _⟩ => ⟨S1x1x24576, .f32⟩
  | .hbm, ⟨8, _⟩ => ⟨S1x1x4096, .f32⟩
  | .hbm, ⟨9, _⟩ => ⟨S1x1x4096, .f32⟩
  | .hbm, ⟨10, _⟩ => ⟨S1x1x4096, .f32⟩
  | .hbm, ⟨11, _⟩ => ⟨S1x1x4096, .f32⟩
  | .hbm, ⟨12, _⟩ => ⟨S1x1x4096, .f32⟩
  | .hbm, ⟨13, _⟩ => ⟨S1x1x4096, .f32⟩
  | .hbm, ⟨14, _⟩ => ⟨S8192x4096, .f32⟩
  | .hbm, ⟨15, _⟩ => ⟨S4096x4096, .f32⟩
  | .hbm, ⟨16, _⟩ => ⟨S8192x4096, .f32⟩
  | .hbm, ⟨17, _⟩ => ⟨S4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S1x8192x4096, .f32⟩
  | .hbm, ⟨22, _⟩ => ⟨S1x8192x4096, .f32⟩
  | .hbm, ⟨23, _⟩ => ⟨S1x8192x4096, .f32⟩
  | .hbm, ⟨24, _⟩ => ⟨S1x8192x4096, .f32⟩
  | .hbm, ⟨25, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== AttOut.lean ====
abbrev S8192x4096 : Shape := ⟨2, ![8192, 4096]⟩
abbrev S1x8192x4096 : Shape := ⟨3, ![1, 8192, 4096]⟩
abbrev S2x1x24576 : Shape := ⟨3, ![2, 1, 24576]⟩
abbrev S1x4096x4096 : Shape := ⟨3, ![1, 4096, 4096]⟩
abbrev S_ : Shape := ⟨0, ![]⟩
abbrev S2x8x24576 : Shape := ⟨3, ![2, 8, 24576]⟩
abbrev S1024x4096 : Shape := ⟨2, ![1024, 4096]⟩
abbrev S1x4096x512 : Shape := ⟨3, ![1, 4096, 512]⟩
abbrev S1024x512 : Shape := ⟨2, ![1024, 512]⟩
abbrev S1x8x512 : Shape := ⟨3, ![1, 8, 512]⟩
abbrev S4096x512 : Shape := ⟨2, ![4096, 512]⟩
abbrev S1x1x512 : Shape := ⟨3, ![1, 1, 512]⟩
abbrev S1x512 : Shape := ⟨2, ![1, 512]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S1x8192x4096, .f32⟩
  | .hbm, ⟨2, _⟩ => ⟨S2x1x24576, .f32⟩
  | .hbm, ⟨3, _⟩ => ⟨S1x4096x4096, .f32⟩
  | .hbm, ⟨4, _⟩ => ⟨S_, .i32⟩
  | .hbm, ⟨5, _⟩ => ⟨S_, .f32⟩
  | .hbm, ⟨6, _⟩ => ⟨S2x8x24576, .f32⟩
  | .hbm, ⟨7, _⟩ => ⟨S8192x4096, .f32⟩
  | .hbm, ⟨8, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .f32⟩
  | .local _ .vmem, ⟨5, _⟩ => ⟨S1024x512, .f32⟩
  | .local _ .vmem, ⟨6, _⟩ => ⟨S1x8x512, .f32⟩
  | .local _ .vmem, ⟨7, _⟩ => ⟨S1x8x512, .f32⟩
  | .local _ .vmem, ⟨8, _⟩ => ⟨S1024x512, .f32⟩
  | .local _ .vmem, ⟨9, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== AttOutReferenceIdeal.lean ====
abbrev S8192x4096 : Shape := ⟨2, ![8192, 4096]⟩
abbrev S1x8192x4096 : Shape := ⟨3, ![1, 8192, 4096]⟩
abbrev S2x1x24576 : Shape := ⟨3, ![2, 1, 24576]⟩
abbrev S1x4096x4096 : Shape := ⟨3, ![1, 4096, 4096]⟩
abbrev S1x1x24576 : Shape := ⟨3, ![1, 1, 24576]⟩
abbrev S1x24576 : Shape := ⟨2, ![1, 24576]⟩
abbrev S1x1x4096 : Shape := ⟨3, ![1, 1, 4096]⟩
abbrev S4096x4096 : Shape := ⟨2, ![4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x8192x4096, .f32⟩
  | .hbm, ⟨2, _⟩ => ⟨S2x1x24576, .f32⟩
  | .hbm, ⟨3, _⟩ => ⟨S1x4096x4096, .f32⟩
  | .hbm, ⟨4, _⟩ => ⟨S1x1x24576, .f32⟩
  | .hbm, ⟨5, _⟩ => ⟨S1x24576, .f32⟩
  | .hbm, ⟨6, _⟩ => ⟨S1x1x24576, .f32⟩
  | .hbm, ⟨7, _⟩ => ⟨S1x1x4096, .f32⟩
  | .hbm, ⟨8, _⟩ => ⟨S1x1x4096, .f32⟩
  | .hbm, ⟨9, _⟩ => ⟨S1x1x4096, .f32⟩
  | .hbm, ⟨10, _⟩ => ⟨S1x1x4096, .f32⟩
  | .hbm, ⟨11, _⟩ => ⟨S1x1x4096, .f32⟩
  | .hbm, ⟨12, _⟩ => ⟨S1x1x4096, .f32⟩
  | .hbm, ⟨13, _⟩ => ⟨S8192x4096, .f32⟩
  | .hbm, ⟨14, _⟩ => ⟨S4096x4096, .f32⟩
  | .hbm, ⟨15, _⟩ => ⟨S8192x4096, .f32⟩
  | .hbm, ⟨16, _⟩ => ⟨S1x8192x4096, .f32⟩
  | .hbm, ⟨17, _⟩ => ⟨S1x8192x4096, .f32⟩
  | .hbm, ⟨18, _⟩ => ⟨S1x8192x4096, .f32⟩
  | .hbm, ⟨19, _⟩ => ⟨S1x8192x4096, .f32⟩
  | .hbm, ⟨20, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== AttInQk.lean ====
abbrev S8192x4096 : Shape := ⟨2, ![8192, 4096]⟩
abbrev S1x4096x8256 : Shape := ⟨3, ![1, 4096, 8256]⟩
abbrev S1x128 : Shape := ⟨2, ![1, 128]⟩
abbrev S_ : Shape := ⟨0, ![]⟩
abbrev S128 : Shape := ⟨1, ![128]⟩
abbrev S16x128 : Shape := ⟨2, ![16, 128]⟩
abbrev S2048 : Shape := ⟨1, ![2048]⟩
abbrev S1x8256x4096 : Shape := ⟨3, ![1, 8256, 4096]⟩
abbrev S4096 : Shape := ⟨1, ![4096]⟩
abbrev S1x4096 : Shape := ⟨2, ![1, 4096]⟩
abbrev S1024x4096 : Shape := ⟨2, ![1024, 4096]⟩
abbrev S1x512x4096 : Shape := ⟨3, ![1, 512, 4096]⟩
abbrev S1x512 : Shape := ⟨2, ![1, 512]⟩
abbrev S1024x512 : Shape := ⟨2, ![1024, 512]⟩
abbrev S512x4096 : Shape := ⟨2, ![512, 4096]⟩
abbrev S1024x128 : Shape := ⟨2, ![1024, 128]⟩
abbrev S1024 : Shape := ⟨1, ![1024]⟩
abbrev S1024x1 : Shape := ⟨2, ![1024, 1]⟩

abbrev nBuf : Space → Nat
  | .hbm => 25
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x8256, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S16x128, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S128, .f32⟩
  | .hbm, ⟨18, _⟩ => ⟨S1x128, .f32⟩
  | .hbm, ⟨19, _⟩ => ⟨S16x128, .f32⟩
  | .hbm, ⟨20, _⟩ => ⟨S2048, .f32⟩
  | .hbm, ⟨21, _⟩ => ⟨S1x8256x4096, .f32⟩
  | .hbm, ⟨22, _⟩ => ⟨S4096, .f32⟩
  | .hbm, ⟨23, _⟩ => ⟨S1x4096, .f32⟩
  | .hbm, ⟨24, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttInQkReferenceIdeal.lean ====
abbrev S8192x4096 : Shape := ⟨2, ![8192, 4096]⟩
abbrev S1x4096x8256 : Shape := ⟨3, ![1, 4096, 8256]⟩
abbrev S1x128 : Shape := ⟨2, ![1, 128]⟩
abbrev S4096x8256 : Shape := ⟨2, ![4096, 8256]⟩
abbrev S8192x8256 : Shape := ⟨2, ![8192, 8256]⟩
abbrev S8192x2048 : Shape := ⟨2, ![8192, 2048]⟩
abbrev S8192x16x128 : Shape := ⟨3, ![8192, 16, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x8256, .f32⟩
  | .hbm, ⟨2, _⟩ => ⟨S1x128, .f32⟩
  | .hbm, ⟨3, _⟩ => ⟨S1x128, .f32⟩
  | .hbm, ⟨4, _⟩ => ⟨S8192x4096, .f32⟩
  | .hbm, ⟨5, _⟩ => ⟨S4096x8256, .f32⟩
  | .hbm, ⟨6, _⟩ => ⟨S8192x8256, .f32⟩
  | .hbm, ⟨7, _⟩ => ⟨S8192x2048, .f32⟩
  | .hbm, ⟨8, _⟩ => ⟨S8192x16x128, .f32⟩
  | .hbm, ⟨9, _⟩ => ⟨S128, .f32⟩
  | .hbm, ⟨10, _⟩ => ⟨S8192x16x128, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x128, .f32⟩
  | .hbm, ⟨22, _⟩ => ⟨S8192x16x128, .f32⟩
  | .hbm, ⟨23, _⟩ => ⟨S1x1x128, .f32⟩
  | .hbm, ⟨24, _⟩ => ⟨S8192x16x128, .f32⟩
  | .hbm, ⟨25, _⟩ => ⟨S8192x16x128, .f32⟩
  | .hbm, ⟨26, _⟩ => ⟨S8192x2048, .f32⟩
  | .hbm, ⟨27, _⟩ => ⟨S8192x16x128, .f32⟩
  | .hbm, ⟨28, _⟩ => ⟨S128, .f32⟩
  | .hbm, ⟨29, _⟩ => ⟨S8192x16x128, .f32⟩
  | .hbm, ⟨30, _⟩ => ⟨S_, .f32⟩
  | .hbm, ⟨31, _⟩ => ⟨S8192x16, .f32⟩
  | .hbm, ⟨32, _⟩ => ⟨S8192x16x1, .f32⟩
  | .hbm, ⟨33, _⟩ => ⟨S_, .f32⟩
  | .hbm, ⟨34, _⟩ => ⟨S8192x16x1, .f32⟩
  | .hbm, ⟨35, _⟩ => ⟨S8192x16x1, .f32⟩
  | .hbm, ⟨36, _⟩ => ⟨S_, .f32⟩
  | .hbm, ⟨37, _⟩ => ⟨S8192x16x1, .f32⟩
  | .hbm, ⟨38, _⟩ => ⟨S8192x16x1, .f32⟩
  | .hbm, ⟨39, _⟩ => ⟨S8192x16x1, .f32⟩
  | .hbm, ⟨40, _⟩ => ⟨S8192x16x128, .f32⟩
  | .hbm, ⟨41, _⟩ => ⟨S8192x16x128, .f32⟩
  | .hbm, ⟨42, _⟩ => ⟨S1x1x128, .f32⟩
  | .hbm, ⟨43, _⟩ => ⟨S8192x16x128, .f32⟩
  | .hbm, ⟨44, _⟩ => ⟨S8192x16x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192x16x128, .f32⟩
  | .hbm, ⟨51, _⟩ => ⟨S8192x16x128, .f32⟩
  | .hbm, ⟨52, _⟩ => ⟨S8192x2048, .f32⟩
  | .hbm, ⟨53, _⟩ => ⟨S8192x2048, .f32⟩
  | .hbm, ⟨54, _⟩ => ⟨S8192x4096, .f32⟩
  | .hbm, ⟨55, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== AttInV.lean ====
abbrev S8192x4096 : Shape := ⟨2, ![8192, 4096]⟩
abbrev S1x4096x8256 : Shape := ⟨3, ![1, 4096, 8256]⟩
abbrev S1x8256x4096 : Shape := ⟨3, ![1, 8256, 4096]⟩
abbrev S8192x2048 : Shape := ⟨2, ![8192, 2048]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x8256, .f32⟩
  | .hbm, ⟨2, _⟩ => ⟨S1x8256x4096, .f32⟩
  | .hbm, ⟨3, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![c0_i32.toNat, v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttInVReferenceIdeal.lean ====
abbrev S8192x4096 : Shape := ⟨2, ![8192, 4096]⟩
abbrev S1x4096x8256 : Shape := ⟨3, ![1, 4096, 8256]⟩
abbrev S4096x8256 : Shape := ⟨2, ![4096, 8256]⟩
abbrev S8192x8256 : Shape := ⟨2, ![8192, 8256]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x8256, .f32⟩
  | .hbm, ⟨2, _⟩ => ⟨S8192x4096, .f32⟩
  | .hbm, ⟨3, _⟩ => ⟨S4096x8256, .f32⟩
  | .hbm, ⟨4, _⟩ => ⟨S8192x8256, .f32⟩
  | .hbm, ⟨5, _⟩ => ⟨S8192x2048, .f32⟩
  | .hbm, ⟨6, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttInQLat.lean ====
abbrev S8192x4096 : Shape := ⟨2, ![8192, 4096]⟩
abbrev S1x4096x8256 : Shape := ⟨3, ![1, 4096, 8256]⟩
abbrev S1x8256x4096 : Shape := ⟨3, ![1, 8256, 4096]⟩
abbrev S8192x1536 : Shape := ⟨2, ![8192, 1536]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x8256, .f32⟩
  | .hbm, ⟨2, _⟩ => ⟨S1x8256x4096, .f32⟩
  | .hbm, ⟨3, _⟩ => ⟨S8192x1536, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![c0_i32.toNat, v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttInQLatReferenceIdeal.lean ====
abbrev S8192x4096 : Shape := ⟨2, ![8192, 4096]⟩
abbrev S1x4096x8256 : Shape := ⟨3, ![1, 4096, 8256]⟩
abbrev S4096x8256 : Shape := ⟨2, ![4096, 8256]⟩
abbrev S8192x8256 : Shape := ⟨2, ![8192, 8256]⟩
abbrev S8192x1536 : Shape := ⟨2, ![8192, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x8256, .f32⟩
  | .hbm, ⟨2, _⟩ => ⟨S8192x4096, .f32⟩
  | .hbm, ⟨3, _⟩ => ⟨S4096x8256, .f32⟩
  | .hbm, ⟨4, _⟩ => ⟨S8192x8256, .f32⟩
  | .hbm, ⟨5, _⟩ => ⟨S8192x1536, .f32⟩
  | .hbm, ⟨6, _⟩ => ⟨S8192x1536, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AttInKvLat.lean ====
abbrev S8192x4096 : Shape := ⟨2, ![8192, 4096]⟩
abbrev S1x4096x8256 : Shape := ⟨3, ![1, 4096, 8256]⟩
abbrev S1x8256x4096 : Shape := ⟨3, ![1, 8256, 4096]⟩
abbrev S8192x512 : Shape := ⟨2, ![8192, 512]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1x4096x8256, .f32⟩
  | .hbm, ⟨2, _⟩ => ⟨S1x8256x4096, .f32⟩
  | .hbm, ⟨3, _⟩ => ⟨S8192x512, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1024x512, .bf16⟩
  | .local _ .vmem, ⟨4, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.addi c15_i32 arg1
  let c0_i32 : BitVec 32 := 0#32
  let c0_i32_0 : BitVec 32 := 0#32
  ![c0_i32.toNat, v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttInKvLatReferenceIdeal.lean ====
abbrev S8192x4096 : Shape := ⟨2, ![8192, 4096]⟩
abbrev S1x4096x8256 : Shape := ⟨3, ![1, 4096, 8256]⟩
abbrev S4096x8256 : Shape := ⟨2, ![4096, 8256]⟩
abbrev S8192x8256 : Shape := ⟨2, ![8192, 8256]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x8256, .f32⟩
  | .hbm, ⟨2, _⟩ => ⟨S8192x4096, .f32⟩
  | .hbm, ⟨3, _⟩ => ⟨S4096x8256, .f32⟩
  | .hbm, ⟨4, _⟩ => ⟨S8192x8256, .f32⟩
  | .hbm, ⟨5, _⟩ => ⟨S8192x512, .f32⟩
  | .hbm, ⟨6, _⟩ => ⟨S8192x512, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QUp.lean ====
abbrev S8192x1536 : Shape := ⟨2, ![8192, 1536]⟩
abbrev S1x1536 : Shape := ⟨2, ![1, 1536]⟩
abbrev S1x1536x3072 : Shape := ⟨3, ![1, 1536, 3072]⟩
abbrev S1536x3072 : Shape := ⟨2, ![1536, 3072]⟩
abbrev S1536x16x192 : Shape := ⟨3, ![1536, 16, 192]⟩
abbrev S1536x16x64 : Shape := ⟨3, ![1536, 16, 64]⟩
abbrev S_ : Shape := ⟨0, ![]⟩
abbrev S1536x16x128 : Shape := ⟨3, ![1536, 16, 128]⟩
abbrev S1536x2048 : Shape := ⟨2, ![1536, 2048]⟩
abbrev S1536x4096 : Shape := ⟨2, ![1536, 4096]⟩
abbrev S1536 : Shape := ⟨1, ![1536]⟩
abbrev S512x1536 : Shape := ⟨2, ![512, 1536]⟩
abbrev S512 : Shape := ⟨1, ![512]⟩
abbrev S512x1 : Shape := ⟨2, ![512, 1]⟩
abbrev S8192x4096 : Shape := ⟨2, ![8192, 4096]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 17
  | .vmem => 11
  | .smem => 0
  | _ => 0

abbrev bufTy : (tb : Table) → Fin (tcTables nBuf tb) → BufTy
  | .hbm, ⟨0, _⟩ => ⟨S8192x1536, .bf16⟩
  | .hbm, ⟨1, _⟩ => ⟨S1x1536, .f32⟩
  | .hbm, ⟨2, _⟩ => ⟨S1x1536x3072, .f32⟩
  | .hbm, ⟨3, _⟩ => ⟨S1536x3072, .f32⟩
  | .hbm, ⟨4, _⟩ => ⟨S1536x16x192, .f32⟩
  | .hbm, ⟨5, _⟩ => ⟨S1536x16x64, .f32⟩
  | .hbm, ⟨6, _⟩ => ⟨S_, .i32⟩
  | .hbm, ⟨7, _⟩ => ⟨S_, .f32⟩
  | .hbm, ⟨8, _⟩ => ⟨S1536x16x128, .f32⟩
  | .hbm, ⟨9, _⟩ => ⟨S1536x16x128, .f32⟩
  | .hbm, ⟨10, _⟩ => ⟨S1536x2048, .f32⟩
  | .hbm, ⟨11, _⟩ => ⟨S1536x2048, .f32⟩
  | .hbm, ⟨12, _⟩ => ⟨S1536x4096, .f32⟩
  | .hbm, ⟨13, _⟩ => ⟨S1536, .f32⟩
  | .hbm, ⟨14, _⟩ => ⟨S1x1536, .f32⟩
  | .hbm, ⟨15, _⟩ => ⟨S8192x1536, .bf16⟩
  | .hbm, ⟨16, _⟩ => ⟨S8192x4096, .bf16⟩
  | .local _ .vmem, ⟨0, _⟩ => ⟨S512x1536, .bf16⟩
  | .local _ .vmem, ⟨1, _⟩ => ⟨S512x1536, .bf16⟩
  | .local _ .vmem, ⟨2, _⟩ => ⟨S1x1536, .f32⟩
  | .local _ .vmem, ⟨3, _⟩ => ⟨S512x1536, .bf16⟩
  | .local _ .vmem, ⟨4, _⟩ => ⟨S512x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1536x1024, .f32⟩
  | .local _ .vmem, ⟨8, _⟩ => ⟨S1536x1024, .f32⟩
  | .local _ .vmem, ⟨9, _⟩ => ⟨S1024x1024, .bf16⟩
  | .local _ .vmem, ⟨10, _⟩ => ⟨S1024x1024, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1536x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== QUpReferenceIdeal.lean ====
abbrev S8192x1536 : Shape := ⟨2, ![8192, 1536]⟩
abbrev S1x1536 : Shape := ⟨2, ![1, 1536]⟩
abbrev S1x1536x3072 : Shape := ⟨3, ![1, 1536, 3072]⟩
abbrev S_ : Shape := ⟨0, ![]⟩
abbrev S8192 : Shape := ⟨1, ![8192]⟩
abbrev S8192x1 : Shape := ⟨2, ![8192, 1]⟩
abbrev S1536 : Shape := ⟨1, ![1536]⟩
abbrev S1536x3072 : Shape := ⟨2, ![1536, 3072]⟩
abbrev S8192x3072 : Shape := ⟨2, ![8192, 3072]⟩
abbrev S8192x16x192 : Shape := ⟨3, ![8192, 16, 192]⟩
abbrev S8192x16x128 : Shape := ⟨3, ![8192, 16, 128]⟩
abbrev S8192x2048 : Shape := ⟨2, ![8192, 2048]⟩
abbrev S8192x16x64 : Shape := ⟨3, ![8192, 16, 64]⟩
abbrev S8192x4096 : Shape := ⟨2, ![8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1x1536, .f32⟩
  | .hbm, ⟨2, _⟩ => ⟨S1x1536x3072, .f32⟩
  | .hbm, ⟨3, _⟩ => ⟨S8192x1536, .f32⟩
  | .hbm, ⟨4, _⟩ => ⟨S8192x1536, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1536, .f32⟩
  | .hbm, ⟨16, _⟩ => ⟨S8192x1536, .f32⟩
  | .hbm, ⟨17, _⟩ => ⟨S1536, .f32⟩
  | .hbm, ⟨18, _⟩ => ⟨S1x1536, .f32⟩
  | .hbm, ⟨19, _⟩ => ⟨S8192x1536, .f32⟩
  | .hbm, ⟨20, _⟩ => ⟨S8192x1536, .f32⟩
  | .hbm, ⟨21, _⟩ => ⟨S1536x3072, .f32⟩
  | .hbm, ⟨22, _⟩ => ⟨S8192x3072, .f32⟩
  | .hbm, ⟨23, _⟩ => ⟨S8192x16x192, .f32⟩
  | .hbm, ⟨24, _⟩ => ⟨S8192x16x128, .f32⟩
  | .hbm, ⟨25, _⟩ => ⟨S8192x2048, .f32⟩
  | .hbm, ⟨26, _⟩ => ⟨S8192x16x64, .f32⟩
  | .hbm, ⟨27, _⟩ => ⟨S_, .i32⟩
  | .hbm, ⟨28, _⟩ => ⟨S_, .f32⟩
  | .hbm, ⟨29, _⟩ => ⟨S8192x16x128, .f32⟩
  | .hbm, ⟨30, _⟩ => ⟨S8192x2048, .f32⟩
  | .hbm, ⟨31, _⟩ => ⟨S8192x4096, .f32⟩
  | .hbm, ⟨32, _⟩ => ⟨S8192x4096, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== KvUp.lean ====
abbrev S8448x512 : Shape := ⟨2, ![8448, 512]⟩
abbrev S1x512 : Shape := ⟨2, ![1, 512]⟩
abbrev S1x512x4096 : Shape := ⟨3, ![1, 512, 4096]⟩
abbrev S512 : Shape := ⟨1, ![512]⟩
abbrev S384x512 : Shape := ⟨2, ![384, 512]⟩
abbrev S384 : Shape := ⟨1, ![384]⟩
abbrev S384x1 : Shape := ⟨2, ![384, 1]⟩
abbrev S8448x4096 : Shape := ⟨2, ![8448, 4096]⟩
abbrev S768x512 : Shape := ⟨2, ![768, 512]⟩
abbrev S768x4096 : Shape := ⟨2, ![768, 4096]⟩
abbrev S512x4096 : Shape := ⟨2, ![512, 4096]⟩

abbrev nBuf : Space → Nat
  | .hbm => 7
  | .vmem => 10
  | .smem => 0
  | _ => 0

abbrev bufTy : (tb : Table) → Fin (tcTables nBuf tb) → BufTy
  | .hbm, ⟨0, _⟩ => ⟨S8448x512, .bf16⟩
  | .hbm, ⟨1, _⟩ => ⟨S1x512, .f32⟩
  | .hbm, ⟨2, _⟩ => ⟨S1x512x4096, .f32⟩
  | .hbm, ⟨3, _⟩ => ⟨S512, .f32⟩
  | .hbm, ⟨4, _⟩ => ⟨S1x512, .f32⟩
  | .hbm, ⟨5, _⟩ => ⟨S8448x512, .bf16⟩
  | .hbm, ⟨6, _⟩ => ⟨S8448x4096, .bf16⟩
  | .local _ .vmem, ⟨0, _⟩ => ⟨S384x512, .bf16⟩
  | .local _ .vmem, ⟨1, _⟩ => ⟨S384x512, .bf16⟩
  | .local _ .vmem, ⟨2, _⟩ => ⟨S1x512, .f32⟩
  | .local _ .vmem, ⟨3, _⟩ => ⟨S384x512, .bf16⟩
  | .local _ .vmem, ⟨4, _⟩ => ⟨S384x512, .bf16⟩
  | .local _ .vmem, ⟨5, _⟩ => ⟨S768x512, .bf16⟩
  | .local _ .vmem, ⟨6, _⟩ => ⟨S768x512, .bf16⟩
  | .local _ .vmem, ⟨7, _⟩ => ⟨S1x512x4096, .f32⟩
  | .local _ .vmem, ⟨8, _⟩ => ⟨S768x4096, .bf16⟩
  | .local _ .vmem, ⟨9, _⟩ => ⟨S768x4096, .bf16⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![11, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S768x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S1x512x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S768x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== KvUpReferenceIdeal.lean ====
abbrev S8448x512 : Shape := ⟨2, ![8448, 512]⟩
abbrev S1x512 : Shape := ⟨2, ![1, 512]⟩
abbrev S1x512x4096 : Shape := ⟨3, ![1, 512, 4096]⟩
abbrev S_ : Shape := ⟨0, ![]⟩
abbrev S8448 : Shape := ⟨1, ![8448]⟩
abbrev S8448x1 : Shape := ⟨2, ![8448, 1]⟩
abbrev S512 : Shape := ⟨1, ![512]⟩
abbrev S512x4096 : Shape := ⟨2, ![512, 4096]⟩
abbrev S8448x4096 : Shape := ⟨2, ![8448, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S1x512, .f32⟩
  | .hbm, ⟨2, _⟩ => ⟨S1x512x4096, .f32⟩
  | .hbm, ⟨3, _⟩ => ⟨S8448x512, .f32⟩
  | .hbm, ⟨4, _⟩ => ⟨S8448x512, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x512, .f32⟩
  | .hbm, ⟨16, _⟩ => ⟨S8448x512, .f32⟩
  | .hbm, ⟨17, _⟩ => ⟨S512, .f32⟩
  | .hbm, ⟨18, _⟩ => ⟨S1x512, .f32⟩
  | .hbm, ⟨19, _⟩ => ⟨S8448x512, .f32⟩
  | .hbm, ⟨20, _⟩ => ⟨S8448x512, .f32⟩
  | .hbm, ⟨21, _⟩ => ⟨S512x4096, .f32⟩
  | .hbm, ⟨22, _⟩ => ⟨S8448x4096, .f32⟩
  | .hbm, ⟨23, _⟩ => ⟨S8448x4096, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.FlashBody.lean ====
/-
  The body of the flash-attention kernel, run once at a generic grid point.  The kernel chooses between two ways of
  computing a block of the softmax by a run-time word (an upper bound of every score): a fixed shift, or a running maximum.
  The body's triple says which block each way leaves; the frame keeps only that some block is left.
-/
module

public import proofs.«01_k».proof.Proof.Gen.KernelIdeal.Frame
public import proofs.«01_k».proof.Proof.Gen.KernelIdeal.Skeleton
public import Idealize.ShloMosaic.Lib.Claim
public import Idealize.ShloMosaic.Lib.Pipeline.ValueKit

@[expose] public section

set_option maxRecDepth 16384

noncomputable section

namespace Cert.Proof.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

/-- The one bound word. -/
abbrev rB : Rect S1 := Rect.unit (s := S1) ![0] S1.size inb_S1_S1_0
/-- The query block. -/
abbrev rQ : Rect S1x1024x256 := Rect.unit (s := S1x1024x256) ![0, 0, 0] S1x1024x256.size inb_S1x1024x256_S1x1024x256_0_0_0
/-- The three chunks of keys, -/
abbrev rK0 : Rect S1x8448x256 := Rect.unit (s := S1x8448x256) ![0, 0, 0] S1x2816x256.size inb_S1x8448x256_S1x2816x256_0_0_0
abbrev rK1 : Rect S1x8448x256 := Rect.unit (s := S1x8448x256) ![0, 2816, 0] S1x2816x256.size inb_S1x8448x256_S1x2816x256_0_2816_0
abbrev rK2 : Rect S1x8448x256 := Rect.unit (s := S1x8448x256) ![0, 5632, 0] S1x2816x256.size inb_S1x8448x256_S1x2816x256_0_5632_0
/-- and of values. -/
abbrev rV0 : Rect S1x3x144x2816 := Rect.unit (s := S1x3x144x2816) ![0, 0, 0, 0] S1x1x144x2816.size inb_S1x3x144x2816_S1x1x144x2816_0_0_0_0
abbrev rV1 : Rect S1x3x144x2816 := Rect.unit (s := S1x3x144x2816) ![0, 1, 0, 0] S1x1x144x2816.size inb_S1x3x144x2816_S1x1x144x2816_0_1_0_0
abbrev rV2 : Rect S1x3x144x2816 := Rect.unit (s := S1x3x144x2816) ![0, 2, 0, 0] S1x1x144x2816.size inb_S1x3x144x2816_S1x1x144x2816_0_2_0_0
/-- The output block. -/
abbrev rO : Rect S1024x128 := Rect.unit (s := S1024x128) ![0, 0] S1024x128.size inb_S1024x128_S1024x128_0_0

/-! ## The two ways -/

/-- The bound is at most 60: the fixed shift is taken. -/
abbrev low (b : F .f32) : Prop := Scalar.cmpi .ne (Scalar.extui (Scalar.cmpf .ole b (Scalar.ofBits .f32 0x42700000#32))) 0#32 = 1#1
/-- The bound is above 60: the running maximum is taken. -/
abbrev high (b : F .f32) : Prop := Scalar.cmpi .ne (Scalar.extui (Scalar.cmpf .ogt b (Scalar.ofBits .f32 0x42700000#32))) 0#32 = 1#1

/-- The block the fixed shift leaves. -/
def outLow (b : F .f32) (x1 : Vec F S1x1024x256 .bf16) (x2 : Vec F S1x8448x256 .bf16) (x3 : Vec F S1x3x144x2816 .bf16) : FVec F S1024x128 .bf16 :=
  k0_pay2 (k0_pay4 (k0_pay1 (View.ld x1 rQ)) b (View.ld x2 rK0) (View.ld x3 rV0) (View.ld x2 rK1) (View.ld x3 rV1))
    (k0_pay5 (k0_pay1 (View.ld x1 rQ)) b (View.ld x2 rK2)) (k0_pay6 (View.ld x3 rV2)) (constant S144x1024 .f32 0x00000000#32)

/-- The block the running maximum leaves. -/
def outHigh (x1 : Vec F S1x1024x256 .bf16) (x2 : Vec F S1x8448x256 .bf16) (x3 : Vec F S1x3x144x2816 .bf16) : FVec F S1024x128 .bf16 :=
  k0_pay3 (View.ld x1 rQ) (k0_pay11 (k0_pay1 (View.ld x1 rQ)) (View.ld x2 rK0) (View.ld x2 rK1))
    (k0_pay12 (k0_pay1 (View.ld x1 rQ)) (View.ld x2 rK0) (View.ld x3 rV0) (View.ld x2 rK1) (View.ld x3 rV1))
    (View.ld x2 rK2) (View.ld x3 rV2)

/-- The bound word as the body loads it. -/
abbrev word (x0 : Vec F S1 .f32) : F .f32 := View.ld x0 rB (Shape.Idx.first (s := S1) (numel1_S1.symm ▸ Nat.one_pos))

open Classical in
/-- The block one of the two ways leaves, as the bound word chooses. -/
def outAt (x0 : Vec F S1 .f32) (x1 : Vec F S1x1024x256 .bf16) (x2 : Vec F S1x8448x256 .bf16) (x3 : Vec F S1x3x144x2816 .bf16) : FVec F S1024x128 .bf16 :=
  if high (word x0) then outHigh x1 x2 x3 else outLow (word x0) x1 x2 x3

theorem cover (p0 : Vec F S1024x128 .bf16) (y : S1024x128.Idx) :
    ∃ pc ∈ ([⟨rO, p0⟩] : List (View.Piece (Elt F) S1024x128 .bf16)), y ∈ pc.1.set :=
  View.cover_of_tiled [⟨rO, p0⟩] S1024x128.size (by rfl) y

theorem canon_rO (p0 : Vec F S1024x128 .bf16) : View.canon ([⟨rO, p0⟩] : List (View.Piece (Elt F) S1024x128 .bf16)) = p0 :=
  View.canon_cons_unit_lit (S := S1024x128) inb_S1024x128_S1024x128_0_0 p0 [] (by decide)

/-! ## The body's triple -/

set_option maxHeartbeats 1600000 in
/-- From the four input blocks and some output block, the body leaves the inputs as they were and an output block which,
    when the bound is comparable with 60, is the one of the way chosen. -/
theorem sound_kernel (c : Dev nD) (E : Set ℕ) (i : grid0.Coords) (arg2 : Memref sig .tc .smem S1 .f32) (harg2 : arg2.IsWhole) (arg3 : Memref sig .tc .vmem S1x1024x256 .bf16) (harg3 : arg3.IsWhole) (arg4 : Memref sig .tc .vmem S1x8448x256 .bf16) (harg4 : arg4.IsWhole) (arg5 : Memref sig .tc .vmem S1x3x144x2816 .bf16) (harg5 : arg5.IsWhole) (arg6 : Memref sig .tc .hbm S8192x4096 .bf16) (harg6 : arg6.IsWhole) (arg7 : Memref sig .tc .vmem S1024x128 .bf16) (harg7 : arg7.IsWhole)
    (x0 : Vec F S1 .f32) (x1 : Vec F S1x1024x256 .bf16) (x2 : Vec F S1x8448x256 .bf16) (x3 : Vec F S1x3x144x2816 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ y, ⌜low (word x0) ∨ high (word x0) → y = outAt x0 x1 x2 x3⌝ ∗ owns (c : Thread nD τ) arg7 fullShare y)) -∗ K ⟨⟩))
      ⊢ wp frame (wpE (defs₀ (F := F)) Variants.none c none) E (cc0_mla_flash_attention i arg2 harg2 arg3 harg3 arg4 harg4 arg5 harg5 arg6 harg6 arg7 harg7) K := by
  simp only [cc0_mla_flash_attention_eq_skeleton]; unfold cc0_mla_flash_attention_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _
  isplitr; swap
  · iexists _
    isplitr; swap
    · iexact H4
    · ipureintro; rfl
  · ipureintro
    intro hb
    unfold outAt
    by_cases hH : high (word (View.read (Elt F) arg2.view f0))
    · rw [if_pos hH, dif_pos (show sound_kernel.sl.v8 c arg2 f0 = 1#1 from hH)]
      exact (View.read_writes_eq_canon _ _ _ (cover _)).trans (canon_rO _)
    · rw [if_neg hH, dif_neg (show ¬ sound_kernel.sl.v8 c arg2 f0 = 1#1 from hH), dif_pos (show sound_kernel.sl.v5 c arg2 f0 = 1#1 from hb.resolve_right hH)]
      exact (View.read_writes_eq_canon _ _ _ (cover _)).trans (canon_rO _)

/-! ## The pipeline's proof data -/

variable (m : (ℓ : Loc nD τ sig) → Buf (Elt F) ℓ) (ρ : Dev nD → PrngReg)

/-- The arrays as the region finds them; each input's buffer at its block and the output's at the block of the way chosen. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outAt (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body at a grid point -/

/-- What the body is called with: the four input blocks and any output block, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ X, owns (c : Thread nD τ) (st0_4 t) fullShare X))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜low (word (iblk m c 0 t)) ∨ high (word (iblk m c 0 t)) → X = (dats m 0 c).after 4 t⌝ ∗ owns (c : Thread nD τ) (st0_4 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

/-- The output window's contents are forgotten. -/
abbrev fgt : Fin cfg0.W → Bool := fun w => w == 4

/-- What the body leaves, saying nothing of the output block. -/
def bodyPostF (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, owns (c : Thread nD τ) (st0_4 t) fullShare X))

theorem bodyPost_forget (c : Dev nD) (t : Fin cfg0.N) : bodyPost m c t ⊢ bodyPostF m c t := by
  unfold bodyPost bodyPostF
  iintro ⟨HΦ, Ho, H0, H1, H2, H3, ⟨%X, %hX, H4⟩⟩
  isplitl [HΦ]; · iexact HΦ
  isplitl [Ho]; · iexact Ho
  isplitl [H0]; · iexact H0
  isplitl [H1]; · iexact H1
  isplitl [H2]; · iexact H2
  isplitl [H3]; · iexact H3
  iexists _; iexact H4

/-- The body's obligation with the output's contents forgotten: at any values. -/
theorem body_forget (c : Dev nD) : BodyObligation (dats (F := F) m 0 c) (defs₀ (F := F)) Variants.none () Set.univ fgt := fun t => by
  rw [bigSep_W0, bigSep_W0, defs₀_row]
  exact triple_restated (sound_body m c t) rfl .rfl fun _ => bodyPost_forget m c t

/-- The body's obligation naming the output block, when the bound word is comparable with 60 at every point. -/
theorem body_exact (c : Dev nD) (hb : ∀ t, low (word (iblk m c 0 t)) ∨ high (word (iblk m c 0 t))) :
    BodyObligation (dats (F := F) m 0 c) (defs₀ (F := F)) Variants.none () Set.univ := fun t => by
  rw [bigSep_W0, bigSep_W0, defs₀_row]
  refine triple_restated (sound_body m c t) rfl ?_ fun _ => ?_
  · unfold bodyPre
    iintro ⟨HΦ, Ho, H0, H1, H2, H3, ⟨%d, H4⟩⟩
    isplitl [HΦ]; · iexact HΦ
    isplitl [Ho]; · iexact Ho
    isplitl [H0]; · iexact H0
    isplitl [H1]; · iexact H1
    isplitl [H2]; · iexact H2
    isplitl [H3]; · iexact H3
    iexists _; iexact H4
  · unfold bodyPost
    iintro ⟨HΦ, Ho, H0, H1, H2, H3, ⟨%X, %hX, H4⟩⟩
    rw [hX (hb t)]
    isplitl [HΦ]; · iexact HΦ
    isplitl [Ho]; · iexact Ho
    isplitl [H0]; · iexact H0
    isplitl [H1]; · iexact H1
    isplitl [H2]; · iexact H2
    isplitl [H3]; · iexact H3
    iexact H4

/-! ## The run and the frame -/

set_option backward.isDefEq.respectTransparency.types false in
/-- The launch with the output forgotten. -/
theorem run_forget : θ_run defs (onTc (τ := τ) (main (F := F))) (s₀ m ρ) (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_forget m c).loose) (hshare := fun c => (dats m 0 c).share_full fun _ => rfl)
    (howed := fun _ _ => rfl) (V := V m) (hmain := hmain m Variants.none) (hA := A_eq m) (hΦ := fun _ _ => rfl)

set_option backward.isDefEq.respectTransparency.types false in
/-- The launch naming the output. -/
theorem run_exact (hb : ∀ c t, low (word (iblk m c 0 t)) ∨ high (word (iblk m c 0 t))) :
    θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_exact m c (hb c)).loose) (hshare := fun c => (dats m 0 c).share_full fun _ => rfl)
    (howed := fun _ _ => rfl) (V := V m) (hmain := hmain m Variants.none) (hA := A_eq m) (hΦ := fun _ _ => rfl)

/-- The frame: every execution ends, the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c)⟩, h.2⟩)
    (run_forget m ρ)

end Cert.Proof.Flash

end
-- ==== Proof.FlashTwin.lean ====
/-
# The attention kernel as printed, at the machine's floats

The program and its ideal reading are the same text in two namespaces: the frame proved for the
one is the frame of the other.
-/
module

public import proofs.«01_k».proof.Defs
public import proofs.«01_k».proof.Proof.FlashBody
public import proofs.«01_k».proof.Proof.Gen.Kernel

@[expose] public section

set_option maxRecDepth 16384

noncomputable section

namespace Cert.Proof

open Idealize.ShloMosaic Idealize.ShloMosaic.TcCoe

attribute [local instance] Cert.Kernel.Gen.facts

theorem defs₀_eq : Cert.Kernel.defs₀ (F := Bits) = Cert.KernelIdeal.defs₀ := by
  unfold Cert.Kernel.defs₀ Cert.KernelIdeal.defs₀
  refine congrArg Defs.onTc (funext fun l => funext fun x => ?_)
  match l, x with
  | 0, (t, s) =>
    dsimp only
    rfl

theorem defs_eq : Cert.Kernel.defs (F := Bits) = Cert.KernelIdeal.defs :=
  congrArg (Pipeline.defs Cert.KernelIdeal.pcfgs) defs₀_eq

set_option maxHeartbeats 2000000 in
theorem main_eq : Cert.Kernel.main (F := Bits) = Cert.KernelIdeal.main := rfl

theorem frame_kernel : Cert.quiescent_Kernel := fun m ρ _ => by
  rw [defs_eq, main_eq]
  exact Flash.frame (F := Bits) m ρ

end Cert.Proof
-- ==== Proof.FlashMath.lean ====
/-
# Softmax weights in base two over the extended reals

The attention kernel reads its 8448 keys in three chunks of 2816 and forms, per query row, sums of
`v κ * 2^(σ κ - b)` for a shift `b`; it divides by the same sum with every `v κ` equal to one.
These lemmas show that such a quotient does not depend on the shift, that a running sum is carried
from one shift to another, and that the same weights come out of `e^x`.  The values `v κ` are any
extended reals; only the scores are real numbers.
-/
module

public import Idealize.ShloMosaic.PureOps.Ideal
public import Mathlib.Data.EReal.Operations
public import Mathlib.Analysis.SpecialFunctions.Pow.Real

@[expose] public section

set_option maxRecDepth 16384

noncomputable section

namespace Cert.Proof.FlashMath

open Idealize.ShloMosaic

/-- A real factor that is not negative goes into a sum of products with real weights. -/
theorem sum_mul_coe {ι : Type*} (s : Finset ι) (v : ι → EReal) (a : ι → ℝ) (c : ℝ) (hc : 0 ≤ c) :
    (∑ i ∈ s, v i * (a i : EReal)) * (c : EReal) = ∑ i ∈ s, v i * ((a i * c : ℝ) : EReal) := by
  classical
  induction s using Finset.induction_on with
  | empty => simp
  | insert i s hi ih =>
    rw [Finset.sum_insert hi, Finset.sum_insert hi,
      EReal.right_distrib_of_nonneg_of_ne_top (by exact_mod_cast hc) (EReal.coe_ne_top c), ih, mul_assoc,
      EReal.coe_mul]

/-- A sum of real numbers is the real sum. -/
theorem coe_sum {ι : Type*} (s : Finset ι) (a : ι → ℝ) :
    (∑ i ∈ s, (a i : EReal)) = ((∑ i ∈ s, a i : ℝ) : EReal) := by
  classical
  induction s using Finset.induction_on with
  | empty => simp
  | insert i s hi ih => rw [Finset.sum_insert hi, Finset.sum_insert hi, ih, EReal.coe_add]

/-- The greatest of a nonempty family of real numbers is a real number. -/
theorem fold_max_coe {n : ℕ} (hn : 0 < n) (f : Fin n → ℝ) :
    ∃ m : ℝ, Finset.fold max (⊥ : EReal) (fun i => (f i : EReal)) Finset.univ = (m : EReal) := by
  have hne : (Finset.univ : Finset (Fin n)).Nonempty := ⟨⟨0, hn⟩, Finset.mem_univ _⟩
  obtain ⟨i, -, hi⟩ := Finset.exists_mem_eq_sup Finset.univ hne (fun i => (f i : EReal))
  exact ⟨f i, hi⟩

/-- Row `x` of chunk `j` among the 8448 keys. -/
def key (j : Fin 3) (x : Fin 2816) : Fin 8448 := ⟨2816 * j.val + x.val, by omega⟩

/-- A sum over the keys is the sum of the three chunks' sums. -/
theorem sum_keys {M : Type*} [AddCommMonoid M] (f : Fin 8448 → M) :
    ∑ κ, f κ = ∑ x, f (key 0 x) + ∑ x, f (key 1 x) + ∑ x, f (key 2 x) := by
  have h : ∑ κ, f κ = ∑ p : Fin 3 × Fin 2816, f (finProdFinEquiv p) :=
    (Equiv.sum_comp (finProdFinEquiv (m := 3) (n := 2816)) f).symm
  rw [h, Fintype.sum_prod_type, Fin.sum_univ_three]
  refine congrArg₂ (· + ·) (congrArg₂ (· + ·) ?_ ?_) ?_ <;>
    refine Finset.sum_congr rfl fun x _ => congrArg f (Fin.ext ?_) <;>
    simp [finProdFinEquiv, key, add_comm]

/-- The softmax weight of key `κ` in base two. -/
def wt (σ : Fin 8448 → ℝ) (κ : Fin 8448) : ℝ := (2 : ℝ) ^ σ κ / ∑ κ', (2 : ℝ) ^ σ κ'

/-- What chunk `j` adds to the sum taken at the shift `b`. -/
def part (v : Fin 8448 → EReal) (σ : Fin 8448 → ℝ) (b : ℝ) (j : Fin 3) : EReal :=
  ∑ x, v (key j x) * (((2 : ℝ) ^ (σ (key j x) - b) : ℝ) : EReal)

theorem two_pow_pos (x : ℝ) : 0 < (2 : ℝ) ^ x := Real.rpow_pos_of_pos two_pos x

/-- A chunk's sum is carried from the shift `b` to the shift `b'`. -/
theorem part_shift (v : Fin 8448 → EReal) (σ : Fin 8448 → ℝ) (b b' : ℝ) (j : Fin 3) :
    (((2 : ℝ) ^ (b - b') : ℝ) : EReal) * part v σ b j = part v σ b' j := by
  rw [mul_comm, part, sum_mul_coe _ _ _ _ (two_pow_pos _).le, part]
  refine Finset.sum_congr rfl fun x _ => ?_
  rw [← Real.rpow_add two_pos, sub_add_sub_cancel]

theorem parts_shift (v : Fin 8448 → EReal) (σ : Fin 8448 → ℝ) (b b' : ℝ) :
    (((2 : ℝ) ^ (b - b') : ℝ) : EReal) * (part v σ b 0 + part v σ b 1)
      = part v σ b' 0 + part v σ b' 1 := by
  rw [EReal.left_distrib_of_nonneg_of_ne_top (by exact_mod_cast (two_pow_pos _).le)
    (EReal.coe_ne_top _), part_shift, part_shift]

/-- The three chunks' sum at one shift. -/
theorem parts_eq (v : Fin 8448 → EReal) (σ : Fin 8448 → ℝ) (b : ℝ) :
    part v σ b 0 + part v σ b 1 + part v σ b 2
      = ∑ κ, v κ * (((2 : ℝ) ^ (σ κ - b) : ℝ) : EReal) :=
  (sum_keys fun κ => v κ * (((2 : ℝ) ^ (σ κ - b) : ℝ) : EReal)).symm

/-- The quotient is the weighted sum with the softmax weights, whatever the shift. -/
theorem quotient (v u : Fin 8448 → EReal) (hu : ∀ κ, u κ = 1) (σ : Fin 8448 → ℝ) (b : ℝ) :
    (part v σ b 0 + part v σ b 1 + part v σ b 2)
        * Ideal.div 1 (part u σ b 0 + part u σ b 1 + part u σ b 2)
      = ∑ κ, v κ * (wt σ κ : EReal) := by
  have hD : 0 < ∑ κ, (2 : ℝ) ^ (σ κ - b) :=
    Finset.sum_pos (fun κ _ => two_pow_pos _) ⟨0, Finset.mem_univ _⟩
  have h1 : part u σ b 0 + part u σ b 1 + part u σ b 2
      = ((∑ κ, (2 : ℝ) ^ (σ κ - b) : ℝ) : EReal) := by
    rw [parts_eq, ← coe_sum]
    exact Finset.sum_congr rfl fun κ _ => by rw [hu, one_mul]
  rw [h1, parts_eq, ← EReal.coe_one, Ideal.div_coe hD.ne', ← EReal.coe_mul, one_mul, sum_mul_coe _ _ _ _ (by positivity)]
  refine Finset.sum_congr rfl fun κ _ => ?_
  congr 2
  rw [wt]
  have h2 : ∀ κ, (2 : ℝ) ^ (σ κ - b) = (2 : ℝ) ^ σ κ * (2 : ℝ) ^ (-b) := fun κ => by
    rw [← Real.rpow_add two_pos, sub_eq_add_neg]
  simp only [h2, ← Finset.sum_mul]
  have := (two_pow_pos (-b)).ne'
  have h3 : (∑ κ, (2 : ℝ) ^ σ κ) ≠ 0 :=
    (Finset.sum_pos (fun κ _ => two_pow_pos (σ κ)) ⟨0, Finset.mem_univ _⟩).ne'
  field_simp

/-- The same weights written with `e^x`, the scores being `σ κ * log 2`, at a shift of its own. -/
theorem wt_exp (σ τ : Fin 8448 → ℝ) (h : ∀ κ, τ κ = σ κ * Real.log 2) (M : ℝ) (κ : Fin 8448) :
    Real.exp (τ κ - M) / ∑ κ', Real.exp (τ κ' - M) = wt σ κ := by
  have h2 : ∀ κ, Real.exp (τ κ - M) = (2 : ℝ) ^ σ κ * Real.exp (-M) := fun κ => by
    rw [Real.rpow_def_of_pos two_pos, ← Real.exp_add, h, mul_comm (σ κ), sub_eq_add_neg]
  rw [wt]
  simp only [h2, ← Finset.sum_mul]
  exact mul_div_mul_right _ _ (Real.exp_pos _).ne'

end Cert.Proof.FlashMath
-- ==== Proof.FlashPay.lean ====
/-
# The attention kernel's block, entry by entry

One grid point of the kernel holds one head's 1024 query rows `x1`, the head's 8448 keys `x2` and
its transposed values `x3` in three chunks.  With real scores, both of the kernel's branches store
the softmax of the scores applied to the values.
-/
module

public import proofs.«01_k».proof.Proof.FlashBody
public import proofs.«01_k».proof.Proof.FlashMath
public import Idealize.ShloMosaic.Lib.Pointwise

@[expose] public section

set_option maxRecDepth 16384

noncomputable section

namespace Cert.Proof.Flash

open Cert.KernelIdeal Cert.KernelIdeal.Gen
open Idealize.ShloMosaic Idealize.ShloMosaic.TcCoe Idealize.ShloMosaic.Tactic
open Cert.Proof.FlashMath

variable (x1 : Vec Ideal S1x1024x256 .bf16) (x2 : Vec Ideal S1x8448x256 .bf16)
  (x3 : Vec Ideal S1x3x144x2816 .bf16)

/-- The score of key `κ` for query row `r`. -/
def score (r : Fin 1024) (κ : Fin 8448) : EReal :=
  ∑ c : Fin 256, x2 (ix3 0 κ c) * x1 (ix3 0 r c)

/-- Row `d` of the transposed values, at key `κ`. -/
def vrow (d : Fin 144) (κ : Fin 8448) : EReal :=
  x3 (ix4 0 ⟨κ.val / 2816, by omega⟩ d ⟨κ.val % 2816, by omega⟩)

theorem vrow_key (d : Fin 144) (j : Fin 3) (x : Fin 2816) :
    vrow x3 d (key j x) = x3 (ix4 0 j d x) := by
  have h1 : (2816 * j.val + x.val) / 2816 = j.val := by omega
  have h2 : (2816 * j.val + x.val) % 2816 = x.val := by omega
  simp only [vrow, key, h1, h2]

theorem key_zero (x : Fin 2816) : key 0 x = ⟨x.val, by omega⟩ := Fin.ext (by simp [key])
theorem key_one (x : Fin 2816) : key 1 x = ⟨2816 + x.val, by omega⟩ := Fin.ext (by simp [key])
theorem key_two (x : Fin 2816) : key 2 x = ⟨5632 + x.val, by omega⟩ := Fin.ext (by simp [key])

/-- The chunk of values `j` weighted by two to the scores less `b`. -/
def psum (b : EReal) (r : Fin 1024) (d : Fin 144) (j : Fin 3) : EReal :=
  ∑ x, vrow x3 d (key j x) * FloatOps.exp2 (F := Ideal) (φ := .f32) (score x1 x2 r (key j x) - b)

theorem low_apply (b : EReal) (r : Fin 1024) (d : Fin 128) :
    outLow (F := Ideal) b x1 x2 x3 (ix2 r d)
      = (psum x1 x2 x3 b r ⟨d, by omega⟩ 0 + psum x1 x2 x3 b r ⟨d, by omega⟩ 1
          + psum x1 x2 x3 b r ⟨d, by omega⟩ 2)
        * Ideal.div 1 (psum x1 x2 x3 b r 128 0 + psum x1 x2 x3 b r 128 1
          + psum x1 x2 x3 b r 128 2) := by
  unfold outLow
  pointwise [k0_pay1, k0_pay2, k0_pay4, k0_pay5, k0_pay6]
  simp only [psum, vrow_key]
  simp only [score, key_zero, key_one, key_two]

theorem pay8_apply (r : Fin 1024) (x : Fin 2816) :
    k0_pay8 (k0_pay1 (View.ld x1 rQ)) (View.ld x2 rK0) (ix2 x r) = score x1 x2 r (key 0 x) := by
  pointwise [k0_pay1, k0_pay8]
  simp only [score, key_zero]

theorem pay10_apply (r : Fin 1024) (x : Fin 2816) :
    k0_pay10 (k0_pay1 (View.ld x1 rQ)) (View.ld x2 rK1) (ix2 x r) = score x1 x2 r (key 1 x) := by
  pointwise [k0_pay1, k0_pay10]
  simp only [score, key_one]

theorem pay10_apply₂ (r : Fin 1024) (x : Fin 2816) :
    k0_pay10 (k0_pay1 (View.ld x1 rQ)) (View.ld x2 rK2) (ix2 x r) = score x1 x2 r (key 2 x) := by
  pointwise [k0_pay1, k0_pay10]
  simp only [score, key_two]

/-- A running maximum over one more chunk of real scores is a real number. -/
theorem max_real (m : FVec Ideal S1x1024 .f32) (s : FVec Ideal S2816x1024 .f32) (r : Fin 1024)
    (hs : ∀ i, ∃ a : ℝ, s i = (a : EReal))
    (hm : m (ix2 0 r) = (⊥ : EReal) ∨ ∃ a : ℝ, m (ix2 0 r) = (a : EReal)) :
    ∃ a : ℝ, maximumf m (shapeCast S1x1024 (multiReduction .maximumf [0] S1024 s 0xFF800000#32
        reduces_S2816x1024_S1024 (.inl rfl) rfl) shapeCasts_S1024_S1x1024) (ix2 0 r)
      = (a : EReal) := by
  have hM : ∀ j, ∃ a : ℝ, multiReduction .maximumf [0] S1024 s 0xFF800000#32
      reduces_S2816x1024_S1024 (.inl rfl) rfl j = (a : EReal) := fun j => by
    choose f hf using hs
    have hb : (FloatOps.ofBits .f32 0xFF800000#32 : Ideal .f32) = (⊥ : EReal) := by
      simp [FloatOps.ofBits, Ideal.ofBits, Ideal.ieee]
    obtain ⟨a, ha⟩ := fold_max_coe (n := 2816) (by omega)
      (fun k => f (reduces_S2816x1024_S1024.lift j k))
    refine ⟨a, (Ideal.multiReduction_maximumf_single s 0xFF800000#32 reduces_S2816x1024_S1024
      (.inl rfl) rfl j).trans ?_⟩
    rw [hb]
    exact (Finset.fold_congr fun k _ => hf _).trans ha
  generalize multiReduction .maximumf [0] S1024 s 0xFF800000#32
      reduces_S2816x1024_S1024 (.inl rfl) rfl = M at hM
  obtain ⟨b, hb⟩ := hM (ix1 r)
  have h : maximumf m (shapeCast S1x1024 M shapeCasts_S1024_S1x1024) (ix2 0 r)
      = max (m (ix2 0 r)) (M (ix1 r)) := by
    pointwise
  rw [h, hb]
  rcases hm with hm | ⟨a, hm⟩
  · exact ⟨b, by rw [hm]; exact max_eq_right bot_le⟩
  · exact ⟨max a b, by rw [hm]; exact (EReal.coe_strictMono.monotone.map_max (a := a) (b := b)).symm⟩

/-- The accumulator after one more chunk. -/
theorem acc_apply (m m' : FVec Ideal S1x1024 .f32) (s : FVec Ideal S2816x1024 .f32)
    (acc : FVec Ideal S144x1024 .f32) (v : FVec Ideal S144x2816 .bf16) (d : Fin 144)
    (r : Fin 1024) :
    addf (mulf (broadcastTo S144x1024 (exp2 (subf m m')) broadcasts_S1x1024_S144x1024) acc)
      (matmul dot_S144x2816_S2816x1024_S144x1024_1_0_0_1_n_n none v
        (truncf .bf16 (exp2 (subf s (broadcastTo S2816x1024 m' broadcasts_S1x1024_S2816x1024)))
          bitsLt_bf16_f32) (constant S144x1024 .f32 0x00000000#32)) (ix2 d r)
      = Ideal.exp2 (m (ix2 0 r) - m' (ix2 0 r)) * acc (ix2 d r)
        + ∑ x, v (ix2 d x) * Ideal.exp2 (s (ix2 x r) - m' (ix2 0 r)) := by
  pointwise
  try rfl

/-- The accumulator's value rows over its row of ones, written as the output block. -/
theorem finish_apply (a : FVec Ideal S144x1024 .f32) (r : Fin 1024) (d : Fin 128) :
    truncf .bf16 (transpose S1024x128 [1, 0] (mulf
      (extractStridedSlice S128x1024 ![0, 0] a slices_S144x1024_o0_0_S128x1024)
      (broadcastTo S128x1024 (divf (broadcast S1x1024 (Scalar.ofBits .f32 0x3F800000#32))
        (extractStridedSlice S1x1024 ![128, 0] a slices_S144x1024_o128_0_S1x1024))
        broadcasts_S1x1024_S128x1024)) transposes_S128x1024_p1_0_S1024x128) bitsLt_bf16_f32
        (ix2 r d)
      = a (ix2 ⟨d.val, by omega⟩ r) * Ideal.div 1 (a (ix2 128 r)) := by
  pointwise

theorem v0_apply (d : Fin 144) (x : Fin 2816) :
    shapeCast S144x2816 (View.ld x3 rV0) shapeCasts_S1x1x144x2816_S144x2816 (ix2 d x)
      = vrow x3 d (key 0 x) := by
  rw [vrow_key]
  pointwise

theorem v1_apply (d : Fin 144) (x : Fin 2816) :
    shapeCast S144x2816 (View.ld x3 rV1) shapeCasts_S1x1x144x2816_S144x2816 (ix2 d x)
      = vrow x3 d (key 1 x) := by
  rw [vrow_key]
  pointwise

theorem v2_apply (d : Fin 144) (x : Fin 2816) :
    shapeCast S144x2816 (View.ld x3 rV2) shapeCasts_S1x1x144x2816_S144x2816 (ix2 d x)
      = vrow x3 d (key 2 x) := by
  rw [vrow_key]
  pointwise

/-- With real scores the low branch stores the softmax of the scores applied to the values. -/
theorem low_value (σ : Fin 1024 → Fin 8448 → ℝ) (hσ : ∀ r κ, score x1 x2 r κ = (σ r κ : EReal))
    (h1 : ∀ κ, vrow x3 128 κ = 1) (b : ℝ) (r : Fin 1024) (d : Fin 128) :
    outLow (F := Ideal) (b : EReal) x1 x2 x3 (ix2 r d)
      = ∑ κ, vrow x3 ⟨d, by omega⟩ κ * (wt (σ r) κ : EReal) := by
  have hp : ∀ (d : Fin 144) (j : Fin 3), psum x1 x2 x3 b r d j = part (vrow x3 d) (σ r) b j :=
    fun d j => Finset.sum_congr rfl fun x _ => by
      rw [hσ, ← EReal.coe_sub]; rfl
  rw [low_apply]
  simp only [hp]
  exact quotient _ _ h1 _ _

theorem exp2_sub (a b : ℝ) :
    Ideal.exp2 ((a : EReal) - (b : EReal)) = (((2 : ℝ) ^ (a - b) : ℝ) : EReal) := by
  rw [← EReal.coe_sub]; rfl

/-- The high branch's steps named: with real scores the running maxima are real numbers, and the
    block stored is the softmax of the scores applied to the values. -/
theorem high_value (σ : Fin 1024 → Fin 8448 → ℝ) (hσ : ∀ r κ, score x1 x2 r κ = (σ r κ : EReal))
    (h1 : ∀ κ, vrow x3 128 κ = 1) (r : Fin 1024) (d : Fin 128) :
    outHigh (F := Ideal) x1 x2 x3 (ix2 r d)
      = ∑ κ, vrow x3 ⟨d, by omega⟩ κ * (wt (σ r) κ : EReal) := by
  have hs0 : ∀ i, ∃ a : ℝ, k0_pay8 (k0_pay1 (View.ld x1 rQ)) (View.ld x2 rK0) i = (a : EReal) :=
    fun i => by
      idx_vars i
      exact ⟨_, (pay8_apply x1 x2 _ _).trans (hσ _ _)⟩
  have hs1 : ∀ i, ∃ a : ℝ, k0_pay10 (k0_pay1 (View.ld x1 rQ)) (View.ld x2 rK1) i = (a : EReal) :=
    fun i => by
      idx_vars i
      exact ⟨_, (pay10_apply x1 x2 _ _).trans (hσ _ _)⟩
  have hs2 : ∀ i, ∃ a : ℝ, k0_pay10 (k0_pay1 (View.ld x1 rQ)) (View.ld x2 rK2) i = (a : EReal) :=
    fun i => by
      idx_vars i
      exact ⟨_, (pay10_apply₂ x1 x2 _ _).trans (hσ _ _)⟩
  obtain ⟨m0, hm0⟩ := max_real (k0_pay7 (F := Ideal)) _ r hs0 (.inl (by
    show (FloatOps.ofBits .f32 0xFF800000#32 : Ideal .f32) = (⊥ : EReal)
    simp [FloatOps.ofBits, Ideal.ofBits, Ideal.ieee]))
  obtain ⟨m1, hm1⟩ := max_real (k0_pay9 (k0_pay1 (View.ld x1 rQ)) (View.ld x2 rK0)) _ r hs1
    (.inr ⟨m0, hm0⟩)
  obtain ⟨m2, hm2⟩ := max_real (k0_pay11 (k0_pay1 (View.ld x1 rQ)) (View.ld x2 rK0)
    (View.ld x2 rK1)) _ r hs2 (.inr ⟨m1, hm1⟩)
  have ha : ∀ d : Fin 144, k0_pay12 (k0_pay1 (View.ld x1 rQ)) (View.ld x2 rK0) (View.ld x3 rV0)
      (View.ld x2 rK1) (View.ld x3 rV1) (ix2 d r)
        = part (vrow x3 d) (σ r) m1 0 + part (vrow x3 d) (σ r) m1 1 := fun d => by
    refine (acc_apply _ _ _ _ _ d r).trans ?_
    rw [acc_apply]
    have hz : broadcast S144x1024 (Scalar.ofBits (F := Ideal) .f32 0x00000000#32) (ix2 d r)
        = (0 : EReal) := Ideal.ofBits_zero_f32
    have hm0' : k0_pay9 (k0_pay1 (View.ld x1 rQ)) (View.ld x2 rK0) (ix2 0 r) = (m0 : EReal) := hm0
    have hm1' : k0_pay11 (k0_pay1 (View.ld x1 rQ)) (View.ld x2 rK0) (View.ld x2 rK1) (ix2 0 r)
        = (m1 : EReal) := hm1
    simp only [hm0', hm1', pay8_apply, pay10_apply, hσ, exp2_sub]
    rw [hz, mul_zero, zero_add]
    exact congrArg₂ (· + ·)
      ((congrArg (_ * ·) (Finset.sum_congr rfl fun x _ => congrArg (· * _) (v0_apply x3 d x))).trans
        (part_shift (vrow x3 d) (σ r) m0 m1 0))
      (Finset.sum_congr rfl fun x _ => congrArg (· * _) (v1_apply x3 d x))
  have hf : ∀ d : Fin 144, addf (mulf (broadcastTo S144x1024 (exp2 (subf
      (k0_pay11 (k0_pay1 (View.ld x1 rQ)) (View.ld x2 rK0) (View.ld x2 rK1))
      (maximumf (k0_pay11 (k0_pay1 (View.ld x1 rQ)) (View.ld x2 rK0) (View.ld x2 rK1))
        (shapeCast S1x1024 (multiReduction .maximumf [0] S1024
          (k0_pay10 (k0_pay1 (View.ld x1 rQ)) (View.ld x2 rK2)) 0xFF800000#32
          reduces_S2816x1024_S1024 (.inl rfl) rfl) shapeCasts_S1024_S1x1024))))
        broadcasts_S1x1024_S144x1024)
      (k0_pay12 (k0_pay1 (View.ld x1 rQ)) (View.ld x2 rK0) (View.ld x3 rV0)
        (View.ld x2 rK1) (View.ld x3 rV1)))
      (matmul dot_S144x2816_S2816x1024_S144x1024_1_0_0_1_n_n none
        (shapeCast S144x2816 (View.ld x3 rV2) shapeCasts_S1x1x144x2816_S144x2816)
        (truncf .bf16 (exp2 (subf (k0_pay10 (k0_pay1 (View.ld x1 rQ)) (View.ld x2 rK2))
          (broadcastTo S2816x1024
            (maximumf (k0_pay11 (k0_pay1 (View.ld x1 rQ)) (View.ld x2 rK0) (View.ld x2 rK1))
              (shapeCast S1x1024 (multiReduction .maximumf [0] S1024
                (k0_pay10 (k0_pay1 (View.ld x1 rQ)) (View.ld x2 rK2)) 0xFF800000#32
                reduces_S2816x1024_S1024 (.inl rfl) rfl) shapeCasts_S1024_S1x1024))
            broadcasts_S1x1024_S2816x1024)))
          bitsLt_bf16_f32) (constant S144x1024 .f32 0x00000000#32)) (ix2 d r)
      = part (vrow x3 d) (σ r) m2 0 + part (vrow x3 d) (σ r) m2 1
        + part (vrow x3 d) (σ r) m2 2 := fun d => by
    refine (acc_apply _ _ _ _ _ d r).trans ?_
    have hm1' : k0_pay11 (k0_pay1 (View.ld x1 rQ)) (View.ld x2 rK0) (View.ld x2 rK1) (ix2 0 r)
        = (m1 : EReal) := hm1
    rw [hm2]
    simp only [hm1', ha, pay10_apply₂, hσ, exp2_sub]
    exact congrArg₂ (· + ·) (parts_shift (vrow x3 d) (σ r) m1 m2)
      (Finset.sum_congr rfl fun x _ => congrArg (· * _) (v2_apply x3 d x))
  refine (finish_apply _ r d).trans ?_
  refine (congrArg₂ (fun a b => a * Ideal.div 1 b) (hf _) (hf 128)).trans ?_
  exact quotient _ _ h1 _ _

end Cert.Proof.Flash
-- ==== Proof.FlashEntry.lean ====
/-
# What the host lines hand to the attention kernel

The contents of the kernel's operands when it starts, entry by entry, from the program's
arguments: the scaled and padded queries, the padded keys, the transposed values with rows of ones
under them, and the bound on the scores.
-/
module

public import proofs.«01_k».proof.Proof.FlashPay

@[expose] public section

set_option maxRecDepth 16384

noncomputable section

namespace Cert.Proof.Flash

open Cert.KernelIdeal Cert.KernelIdeal.Gen
open Idealize.ShloMosaic Idealize.ShloMosaic.TcCoe Idealize.ShloMosaic.Tactic
open Cert.Proof.FlashMath

variable (m : (ℓ : Loc nD τ sig) → Buf (Elt Ideal) ℓ) (c : Dev nD)

/-- The arguments the attention reads. -/
abbrev argQ : Vec Ideal S1x8192x16x192 .bf16 := m ((c.tc : Thread nD τ).loc main_arg0)
abbrev argK : Vec Ideal S1x8448x16x192 .bf16 := m ((c.tc : Thread nD τ).loc main_arg1)
abbrev argV : Vec Ideal S1x8448x16x128 .bf16 := m ((c.tc : Thread nD τ).loc main_arg2)
abbrev argO : Vec Ideal S8192x4096 .bf16 := m ((c.tc : Thread nD τ).loc main_arg5)

theorem sitofp_zero : (FloatOps.sitofp FTy.bf16 (0#32 : BitVec 32) : Ideal FTy.bf16) = (0 : EReal) := by
  show ((((0#32 : BitVec 32).toInt : ℝ)) : EReal) = 0
  simp

/-- The factor on the queries. -/
def scale : EReal :=
  Ideal.div 1 (Ideal.sqrt (Ideal.ofBits FTy.f32 1128267776#32)
    * Ideal.log (Ideal.ofBits FTy.f32 1073741824#32))

theorem q_entry (h : Fin 16) (t : Fin 8192) (x : Fin 256) :
    (V m c main_v10 : Vec Ideal S16x8192x256 .bf16) (ix3 h t x)
      = if hx : x.val < 192 then argQ m c (ix4 0 t h ⟨x.val, hx⟩) * scale else 0 := by
  unfold V
  simp only [hostOps0, hostOps0_1, hostOps0_2, hostOps0_3, hostOps0_4, List.flatten_cons,
    List.flatten_nil, List.append_nil, List.cons_append, List.nil_append]
  entry_read
  simp -implicitDefEqProofs only [StableHlo.TRef.toBuf, StableHlo.TRef.ofBuf, cast_cast, cast_eq]
  pointwise
  exact dite_congr rfl (fun _ => rfl) fun _ => sitofp_zero

theorem k_entry (h : Fin 16) (t : Fin 8448) (x : Fin 256) :
    (V m c main_v13 : Vec Ideal S16x8448x256 .bf16) (ix3 h t x)
      = if hx : x.val < 192 then argK m c (ix4 0 t h ⟨x.val, hx⟩) else 0 := by
  unfold V
  simp only [hostOps0, hostOps0_1, hostOps0_2, hostOps0_3, hostOps0_4, List.flatten_cons,
    List.flatten_nil, List.append_nil, List.cons_append, List.nil_append]
  entry_read
  simp -implicitDefEqProofs only [StableHlo.TRef.toBuf, StableHlo.TRef.ofBuf, cast_cast, cast_eq]
  pointwise
  exact dite_congr rfl (fun _ => rfl) fun _ => sitofp_zero

theorem v_entry (h : Fin 16) (j : Fin 3) (d : Fin 144) (x : Fin 2816) :
    (V m c main_v18 : Vec Ideal S16x3x144x2816 .bf16) (ix4 h j d x)
      = if hd : d.val < 128 then argV m c (ix4 0 (key j x) h ⟨d.val, hd⟩) else 1 := by
  unfold V
  simp only [hostOps0, hostOps0_1, hostOps0_2, hostOps0_3, hostOps0_4, List.flatten_cons,
    List.flatten_nil, List.append_nil, List.cons_append, List.nil_append]
  entry_read
  pointwise
  simp only [key, Nat.mul_comm]
  try rfl

theorem o_entry : V m c main_v26 = m ((c.tc : Thread nD τ).loc main_arg5) := by
  unfold V
  simp only [hostOps0, hostOps0_1, hostOps0_2, hostOps0_3, hostOps0_4, List.flatten_cons,
    List.flatten_nil, List.append_nil, List.cons_append, List.nil_append]
  entry_read
  rfl

/-- A host maximum of numbers that are not negative is not negative. -/
theorem reduce_nonneg {s t u : Shape} {axes : List (Fin s.rank)} (x : FVec Ideal s .f32)
    (hx : ∀ i, (0 : EReal) ≤ x i) (init : FVec Ideal u .f32) (h : s.ReducesTo axes t)
    (hu : 0 < u.numel) (j : t.Idx) (i : s.Idx) (hi : h.drop i = j) :
    (0 : EReal) ≤ Host.reduce FloatOps.maximumf x init h hu j := by
  rw [Host.reduce_eq_fold]
  exact (Finset.le_fold_max (0 : EReal)).mpr
    (.inr ⟨i, Finset.mem_filter.mpr ⟨Finset.mem_univ _, hi⟩, hx _⟩)

theorem abs_nonneg' (x : FVec Ideal S192 .f32) (i : S192.Idx) : (0 : EReal) ≤ Host.absf x i := by
  show (0 : EReal) ≤ max (x i) (-(x i))
  rcases le_total (0 : EReal) (x i) with h | h
  · exact le_max_of_le_left h
  · exact le_max_of_le_right (EReal.neg_nonneg.mpr h)

/-- The bound the kernel compares with 60. -/
def bound : EReal := (V m c main_v25 : Vec Ideal S1 .f32) (ix1 0)

theorem bound_nonneg : 0 ≤ bound m c := by
  unfold bound V
  simp only [hostOps0, hostOps0_1, hostOps0_2, hostOps0_3, hostOps0_4, List.flatten_cons,
    List.flatten_nil, List.append_nil, List.cons_append, List.nil_append]
  entry_read
  have h (x : FVec Ideal S192 .f32) (i : S_.Idx) : (0 : EReal) ≤ Host.reduce FloatOps.maximumf
      (Host.absf x) (constant S_ .f32 0xFF800000#32) reducesTo_S192_S_d0 h_S_ i :=
    reduce_nonneg _ (abs_nonneg' x) _ _ _ i (ix1 0) (Subsingleton.elim _ _)
  refine mul_nonneg ?_ (mul_nonneg (h _ _) (h _ _))
  show (0 : EReal) ≤ Ideal.ofBits FTy.f32 1101104664#32
  simp [Ideal.ofBits, Ideal.ieee, -EReal.coe_mul]

end Cert.Proof.Flash
-- ==== Proof.FlashRef.lean ====
/-
# The attention of the reference, entry by entry

The reference's host operations read at one row and column of the result.  With queries and keys
that are real numbers the result's right half is the softmax of the scores applied to the values,
written with the base-two weights the kernel's side is written with.
-/
module

public import proofs.«01_k».proof.Proof.Gen.ReferenceIdeal.Run
public import proofs.«01_k».proof.Proof.FlashMath
public import Idealize.ShloMosaic.Lib.Pointwise

@[expose] public section

set_option maxRecDepth 16384

noncomputable section

namespace Cert.Proof.FlashRef

open Cert.ReferenceIdeal Cert.ReferenceIdeal.Gen
open Idealize.ShloMosaic Idealize.ShloMosaic.TcCoe Idealize.ShloMosaic.Tactic
open Cert.Proof.FlashMath

/-- The scaled scores. -/
def logits (q : Vec Ideal S1x8192x16x192 .bf16) (k : Vec Ideal S1x8448x16x192 .bf16) :
    FVec Ideal S1x16x8192x8448 .f32 :=
  Host.divf (Host.dotGeneral dot_S1x8192x16x192_S1x8448x16x192_S1x16x8192x8448_3_3_1_1_02_02 none
      (extf .f32 q bitsLt_bf16_f32) (extf .f32 k bitsLt_bf16_f32))
    (broadcastInDim S1x16x8192x8448 ![] bcast_S_S1x16x8192x8448
      (Host.sqrt (constant S_ .f32 0x43400000#32)))

/-- The rows' greatest scores. -/
def tops (l : FVec Ideal S1x16x8192x8448 .f32) : FVec Ideal S1x16x8192 .f32 :=
  maximumf (broadcastInDim S1x16x8192 ![] bcast_S_S1x16x8192 (constant S_ .f32 0xFF800000#32))
    (Host.reduce FloatOps.maximumf l (constant S_ .f32 0xFF800000#32)
      reducesTo_S1x16x8192x8448_S1x16x8192_d3 h_S_)

/-- The exponentials of the scores less a row's number. -/
def unnorm (l : FVec Ideal S1x16x8192x8448 .f32) (mx : FVec Ideal S1x16x8192 .f32) :
    FVec Ideal S1x16x8192x8448 .f32 :=
  Host.exp (subf l (broadcastInDim S1x16x8192x8448 ![0, 1, 2, 3]
    bcast_S1x16x8192x1_S1x16x8192x8448_0_1_2_3
    (broadcastInDim S1x16x8192x1 ![0, 1, 2] bcast_S1x16x8192_S1x16x8192x1_0_1_2 mx)))

/-- Each entry over its row's sum. -/
def norm (e : FVec Ideal S1x16x8192x8448 .f32) : FVec Ideal S1x16x8192x8448 .f32 :=
  Host.divf e (broadcastInDim S1x16x8192x8448 ![0, 1, 2, 3]
    bcast_S1x16x8192x1_S1x16x8192x8448_0_1_2_3
    (broadcastInDim S1x16x8192x1 ![0, 1, 2] bcast_S1x16x8192_S1x16x8192x1_0_1_2
      (Host.reduceAdd e (constant S_ .f32 0x00000000#32)
        reducesTo_S1x16x8192x8448_S1x16x8192_d3 h_S_)))

/-- The weights applied to the values, put beside the left half of `o`. -/
def attn (v : Vec Ideal S1x8448x16x128 .bf16) (p : FVec Ideal S1x16x8192x8448 .f32)
    (o : Vec Ideal S8192x4096 .bf16) : Vec Ideal S8192x4096 .bf16 :=
  concatenate S8192x4096 1
    [⟨S8192x2048, extractStridedSlice S8192x2048 ![0, 0] o slices_S8192x4096_S8192x2048_0_0⟩,
     ⟨S8192x2048, truncf .bf16 (shapeCast S8192x2048 (transpose S1x8192x16x128 [0, 3, 1, 2]
       (Host.dotGeneral dot_S1x8448x16x128_S1x16x8192x8448_S1x16x128x8192_1_3_3_2_02_01 none
         (extf .f32 v bitsLt_bf16_f32) p)
       transposes_S1x16x128x8192_S1x8192x16x128_0_3_1_2)
       shapeCasts_S1x8192x16x128_S8192x2048) bitsLt_bf16_f32⟩]
    concatenates_S8192x2048_S8192x2048_S8192x4096_d1

theorem logits_apply (q k) (h : Fin 16) (t : Fin 8192) (κ : Fin 8448) :
    logits q k (ix4 0 h t κ) = Ideal.div (∑ x, q (ix4 0 t h x) * k (ix4 0 κ h x))
      (Ideal.sqrt (Ideal.ofBits FTy.f32 1128267776#32)) := by
  pointwise [logits]

theorem unnorm_apply (l mx) (h : Fin 16) (t : Fin 8192) (κ : Fin 8448) :
    unnorm l mx (ix4 0 h t κ) = Ideal.exp (l (ix4 0 h t κ) - mx (ix3 0 h t)) := by
  pointwise [unnorm]

theorem norm_apply (e) (h : Fin 16) (t : Fin 8192) (κ : Fin 8448) :
    norm e (ix4 0 h t κ) = Ideal.div (e (ix4 0 h t κ)) (∑ x, e (ix4 0 h t x)) := by
  pointwise [norm]

theorem attn_apply (v p o) (t : Fin 8192) (n : Fin 4096) :
    attn v p o (ix2 t n) = if h : n.val < 2048 then o (ix2 t n)
      else ∑ x, v (ix4 0 x ⟨(n.val - 2048) / 128, by omega⟩ ⟨(n.val - 2048) % 128, by omega⟩)
        * p (ix4 0 ⟨(n.val - 2048) / 128, by omega⟩ t x) := by
  pointwise [attn]

/-- A host maximum from −∞ over one axis of real numbers is a real number. -/
theorem reduce_real {s t u : Shape} {a : Fin s.rank} (x : FVec Ideal s .f32)
    (hx : ∀ i, ∃ r : ℝ, x i = (r : EReal)) (init : FVec Ideal u .f32)
    (hi : ∀ i, init i = (⊥ : EReal)) (h' : s.ReducesTo [a] t) (h : s.Reduces [a] t)
    (hu : 0 < u.numel) (hpos : 0 < s.size a) (j : t.Idx) :
    ∃ r : ℝ, Host.reduce FloatOps.maximumf x init h' hu j = (r : EReal) := by
  choose f hf using hx
  obtain ⟨r, hr⟩ := fold_max_coe hpos (fun k => f (h.lift j k))
  refine ⟨r, (Host.reduce_eq_fold_single _ x init h' h hu j).trans ?_⟩
  rw [hi]
  exact (Finset.fold_congr fun k _ => hf _).trans hr

theorem reduces_keys : S1x16x8192x8448.Reduces [3] S1x16x8192 := by decide

theorem keys_pos : 0 < S1x16x8192x8448.size 3 := Nat.succ_pos 8447

theorem reduce_real_keys (l : FVec Ideal S1x16x8192x8448 .f32)
    (hl : ∀ i, ∃ a : ℝ, l i = (a : EReal)) (init : FVec Ideal S_ .f32)
    (hi : ∀ i, init i = (⊥ : EReal)) : ∀ j, ∃ a : ℝ, Host.reduce FloatOps.maximumf l init
      reducesTo_S1x16x8192x8448_S1x16x8192_d3 h_S_ j = (a : EReal) :=
  reduce_real l hl _ hi _ reduces_keys _ keys_pos

theorem bot_bits : (FloatOps.ofBits .f32 0xFF800000#32 : Ideal .f32) = (⊥ : EReal) := by
  simp [FloatOps.ofBits, Ideal.ofBits, Ideal.ieee]

theorem max_bot (M : FVec Ideal S1x16x8192 .f32) (j : S1x16x8192.Idx)
    (hM : ∃ a : ℝ, M j = (a : EReal)) :
    ∃ a : ℝ, maximumf (broadcastInDim S1x16x8192 ![] bcast_S_S1x16x8192
      (constant S_ .f32 0xFF800000#32)) M j = (a : EReal) := by
  obtain ⟨a, ha⟩ := hM
  refine ⟨a, ?_⟩
  show max (FloatOps.ofBits .f32 0xFF800000#32 : Ideal .f32) (M j) = _
  rw [ha, bot_bits]
  exact max_eq_right bot_le

/-- Row maxima of real scores are real numbers. -/
theorem tops_real (l) (hl : ∀ i, ∃ a : ℝ, l i = (a : EReal)) (j : S1x16x8192.Idx) :
    ∃ a : ℝ, tops l j = (a : EReal) :=
  max_bot _ j (reduce_real_keys l hl _ (fun _ => bot_bits) j)

/-- The base-two score of query row `t` and key `κ` at head `h`. -/
def sg (q : Vec Ideal S1x8192x16x192 .bf16) (k : Vec Ideal S1x8448x16x192 .bf16) (h : Fin 16)
    (t : Fin 8192) (κ : Fin 8448) : ℝ :=
  (∑ x : Fin 192, (q (ix4 0 t h x) : EReal).toReal * (k (ix4 0 κ h x) : EReal).toReal)
    / (√192 * Real.log 2)

theorem ofBits_192 : Ideal.ofBits FTy.f32 1128267776#32 = ((192 : ℝ) : EReal) := by
  simp [Ideal.ofBits, Ideal.ieee, -EReal.coe_mul]
  norm_num

theorem log2_pos : 0 < Real.log 2 := Real.log_pos (by norm_num)

theorem logits_real (q k) (hq : ∀ i, ∃ a : ℝ, q i = (a : EReal))
    (hk : ∀ i, ∃ a : ℝ, k i = (a : EReal)) (h : Fin 16) (t : Fin 8192) (κ : Fin 8448) :
    logits q k (ix4 0 h t κ) = ((sg q k h t κ * Real.log 2 : ℝ) : EReal) := by
  have hterm : ∀ x, q (ix4 0 t h x) * k (ix4 0 κ h x)
      = (((q (ix4 0 t h x) : EReal).toReal * (k (ix4 0 κ h x) : EReal).toReal : ℝ) : EReal) :=
    fun x => by
      obtain ⟨a, ha⟩ := hq (ix4 0 t h x)
      obtain ⟨b, hb⟩ := hk (ix4 0 κ h x)
      rw [ha, hb]; simp
  have hs : Ideal.sqrt (Ideal.ofBits FTy.f32 1128267776#32) = ((√192 : ℝ) : EReal) := by
    rw [ofBits_192, Ideal.sqrt_coe, if_neg (by norm_num)]
  have h0 : (√192 : ℝ) ≠ 0 := by positivity
  rw [logits_apply, hs, Finset.sum_congr rfl fun x _ => hterm x, coe_sum, Ideal.div_coe h0,
    ← EReal.coe_mul, sg]
  congr 1
  have := log2_pos.ne'
  field_simp

theorem logits_all (q k) (hq : ∀ i, ∃ a : ℝ, q i = (a : EReal))
    (hk : ∀ i, ∃ a : ℝ, k i = (a : EReal)) (i : S1x16x8192x8448.Idx) :
    ∃ a : ℝ, logits q k i = (a : EReal) := by
  idx_vars i
  rw [Subsingleton.elim i0 0]
  exact ⟨_, logits_real q k hq hk i1 i2 i3⟩

/-- The reference's result from its arguments. -/
def out (q : Vec Ideal S1x8192x16x192 .bf16) (k : Vec Ideal S1x8448x16x192 .bf16)
    (v : Vec Ideal S1x8448x16x128 .bf16) (o : Vec Ideal S8192x4096 .bf16) :
    Vec Ideal S8192x4096 .bf16 :=
  attn v (norm (unnorm (logits q k) (tops (logits q k)))) o

/-- Every entry of the result, in base two. -/
def value (q : Vec Ideal S1x8192x16x192 .bf16) (k : Vec Ideal S1x8448x16x192 .bf16)
    (v : Vec Ideal S1x8448x16x128 .bf16) (o : Vec Ideal S8192x4096 .bf16)
    (t : Fin 8192) (n : Fin 4096) : EReal :=
  if n.val < 2048 then o (ix2 t n)
    else ∑ κ, v (ix4 0 κ ⟨(n.val - 2048) / 128, by omega⟩ ⟨(n.val - 2048) % 128, by omega⟩)
      * (wt (sg q k ⟨(n.val - 2048) / 128, by omega⟩ t) κ : EReal)

theorem out_apply (q k v o) (hq : ∀ i, ∃ a : ℝ, q i = (a : EReal))
    (hk : ∀ i, ∃ a : ℝ, k i = (a : EReal)) (t : Fin 8192) (n : Fin 4096) :
    out q k v o (ix2 t n) = value q k v o t n := by
  have hw : ∀ (h : Fin 16) (κ : Fin 8448), norm (unnorm (logits q k) (tops (logits q k)))
      (ix4 0 h t κ) = (wt (sg q k h t) κ : EReal) := fun h κ => by
    obtain ⟨M, hM⟩ := tops_real (logits q k) (logits_all q k hq hk) (ix3 0 h t)
    have he : ∀ κ, unnorm (logits q k) (tops (logits q k)) (ix4 0 h t κ)
        = ((Real.exp (sg q k h t κ * Real.log 2 - M) : ℝ) : EReal) := fun κ => by
      rw [unnorm_apply, hM, logits_real q k hq hk, ← EReal.coe_sub]; rfl
    have hD : 0 < ∑ κ, Real.exp (sg q k h t κ * Real.log 2 - M) :=
      Finset.sum_pos (fun κ _ => Real.exp_pos _) ⟨0, Finset.mem_univ _⟩
    rw [norm_apply]
    simp only [he]
    rw [coe_sum, Ideal.div_coe hD.ne', ← EReal.coe_mul, mul_one_div,
      wt_exp _ _ (fun _ => rfl)]
  refine (attn_apply _ _ _ t n).trans ?_
  unfold value
  by_cases hn : n.val < 2048
  · rw [dif_pos hn, if_pos hn]
  · rw [dif_neg hn, if_neg hn]
    exact Finset.sum_congr rfl fun κ _ => congrArg (v _ * ·) (hw _ κ)

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = out (m ((c.tc : Thread nD τ).loc main_arg0)) (m ((c.tc : Thread nD τ).loc main_arg1))
          (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Value.run (F := Ideal) m ρ)

end Cert.Proof.FlashRef
-- ==== Proof.FlashValue.lean ====
/-
# What the attention kernel leaves

The blocks of the kernel's operands at a grid point, read from the program's arguments; the choice
between the two ways of computing a row; and the whole result array.
-/
module

public import proofs.«01_k».proof.Proof.FlashEntry
public import proofs.«01_k».proof.Proof.FlashRef
public import Idealize.ShloMosaic.Lib.Pipeline.ValueKit

@[expose] public section

set_option maxRecDepth 16384

noncomputable section

namespace Cert.Proof.Flash

open Cert.KernelIdeal Cert.KernelIdeal.Gen
open Idealize.ShloMosaic Idealize.ShloMosaic.TcCoe Idealize.ShloMosaic.Tactic
open Idealize.ShloMosaic.Pipeline
open Cert.Proof.FlashMath

variable (m : (ℓ : Loc nD τ sig) → Buf (Elt Ideal) ℓ) (c : Dev nD)

/-- The head and the block of rows of a grid point. -/
def hd (t : Fin grid0.N) : Fin 16 := ⟨t.val / 8, by have := t.isLt; simp only [show grid0.N = 128 from by decide +kernel] at this; omega⟩
def rb (t : Fin grid0.N) : Fin 8 := ⟨t.val % 8, by omega⟩
/-- A row of the array from a row of its block. -/
def row (t : Fin grid0.N) (r : Fin 1024) : Fin 8192 := ⟨1024 * (rb t).val + r.val, by have := (rb t).isLt; omega⟩

theorem e0 : ∀ t : Fin grid0.N, win0_0.index t = ![0] := by decide +kernel
theorem e1 : ∀ t : Fin grid0.N, win0_1.index t = ![(hd t).val, (rb t).val, 0] := by decide +kernel
theorem e2 : ∀ t : Fin grid0.N, win0_2.index t = ![(hd t).val, 0, 0] := by decide +kernel
theorem e3 : ∀ t : Fin grid0.N, win0_3.index t = ![(hd t).val, 0, 0, 0] := by decide +kernel
theorem e4 : ∀ t : Fin grid0.N, win0_4.index t = ![(rb t).val, 16 + (hd t).val] := by decide +kernel

theorem blk1 (t : Fin cfg0.N) (r : Fin 1024) (x : Fin 256) :
    iblk m c 1 t (ix3 0 r x) = (V m c main_v10 : Vec Ideal S16x8192x256 .bf16) (ix3 (hd t) (row t r) x) := by
  blk_simp [iblk, e1]
  blk_ext [e1, row]

theorem blk2 (t : Fin cfg0.N) (κ : Fin 8448) (x : Fin 256) :
    iblk m c 2 t (ix3 0 κ x) = (V m c main_v13 : Vec Ideal S16x8448x256 .bf16) (ix3 (hd t) κ x) := by
  blk_simp [iblk, e2]
  blk_ext [e2]

theorem blk3 (t : Fin cfg0.N) (j : Fin 3) (d : Fin 144) (x : Fin 2816) :
    iblk m c 3 t (ix4 0 j d x) = (V m c main_v18 : Vec Ideal S16x3x144x2816 .bf16) (ix4 (hd t) j d x) := by
  blk_simp [iblk, e3]
  blk_ext [e3]

theorem blk0 (t : Fin cfg0.N) : word (iblk m c 0 t) = bound m c :=
  congrArg (V m c main_v25 : Vec Ideal S1 .f32)
    (funext fun a => Fin.ext (by fin_cases a; exact Nat.lt_one_iff.mp (Fin.isLt _)))

theorem scale_eq : scale = ((1 / (√192 * Real.log 2) : ℝ) : EReal) := by
  have h0 : (√192 : ℝ) ≠ 0 := by positivity
  have hs : Ideal.sqrt (Ideal.ofBits FTy.f32 1128267776#32) = ((√192 : ℝ) : EReal) := by
    rw [FlashRef.ofBits_192, Ideal.sqrt_coe, if_neg (by norm_num)]
  have h2 : Ideal.ofBits FTy.f32 1073741824#32 = ((2 : ℝ) : EReal) := by
    simp [Ideal.ofBits, Ideal.ieee, -EReal.coe_mul]
    norm_num
  rw [scale, hs, h2, Ideal.log_coe, if_neg (by norm_num), ← EReal.coe_mul,
    Ideal.div_coe (mul_ne_zero h0 FlashRef.log2_pos.ne'), one_mul]

theorem score_real (q : Vec Ideal S1x8192x16x192 .bf16) (k : Vec Ideal S1x8448x16x192 .bf16)
    (hq : ∀ i, ∃ a : ℝ, q i = (a : EReal)) (hk : ∀ i, ∃ a : ℝ, k i = (a : EReal)) (h : Fin 16)
    (ρ : Fin 8192) (x1 : Vec Ideal S1x1024x256 .bf16) (x2 : Vec Ideal S1x8448x256 .bf16)
    (r : Fin 1024) (κ : Fin 8448)
    (h1 : ∀ x : Fin 256, x1 (ix3 0 r x)
      = if hx : x.val < 192 then q (ix4 0 ρ h ⟨x.val, hx⟩) * scale else 0)
    (h2 : ∀ x : Fin 256, x2 (ix3 0 κ x)
      = if hx : x.val < 192 then k (ix4 0 κ h ⟨x.val, hx⟩) else 0) :
    score x1 x2 r κ = (FlashRef.sg q k h ρ κ : EReal) := by
  have hterm : ∀ x : Fin 256, x2 (ix3 0 κ x) * x1 (ix3 0 r x)
      = ((if hx : x.val < 192 then
          (q (ix4 0 ρ h ⟨x, hx⟩) : EReal).toReal
            * (k (ix4 0 κ h ⟨x, hx⟩) : EReal).toReal / (√192 * Real.log 2)
          else 0 : ℝ) : EReal) := fun x => by
    rw [h1, h2]
    by_cases hx : x.val < 192
    · obtain ⟨a, ha⟩ := hq (ix4 0 ρ h ⟨x, hx⟩)
      obtain ⟨b, hb⟩ := hk (ix4 0 κ h ⟨x, hx⟩)
      simp only [dif_pos hx, ha, hb, scale_eq, EReal.toReal_coe]
      rw [← EReal.coe_mul, ← EReal.coe_mul]
      congr 1
      ring
    · simp only [dif_neg hx, mul_zero, EReal.coe_zero]
  refine (Finset.sum_congr rfl fun x _ => hterm x).trans ?_
  rw [coe_sum, FlashRef.sg, Finset.sum_div]
  congr 1
  rw [show (256 : ℕ) = 192 + 64 from rfl, Fin.sum_univ_add]
  simp

/-- The kernel's score is the reference's, in base two. -/
theorem score_eq (hq : ∀ i, ∃ a : ℝ, argQ m c i = (a : EReal))
    (hk : ∀ i, ∃ a : ℝ, argK m c i = (a : EReal)) (t : Fin cfg0.N) (r : Fin 1024) (κ : Fin 8448) :
    score (iblk m c 1 t) (iblk m c 2 t) r κ
      = (FlashRef.sg (argQ m c) (argK m c) (hd t) (row t r) κ : EReal) :=
  score_real _ _ hq hk (hd t) (row t r) _ _ r κ
    (fun x => (blk1 m c t r x).trans (q_entry m c (hd t) (row t r) x))
    (fun x => (blk2 m c t κ x).trans (k_entry m c (hd t) κ x))

theorem vrow_ones (t : Fin cfg0.N) (κ : Fin 8448) : vrow (iblk m c 3 t) 128 κ = 1 := by
  rw [vrow, blk3, v_entry]
  exact dif_neg (by decide)

theorem vrow_eq (t : Fin cfg0.N) (d : Fin 128) (κ : Fin 8448) :
    vrow (iblk m c 3 t) ⟨d, by omega⟩ κ = argV m c (ix4 0 κ (hd t) d) := by
  rw [vrow, blk3, v_entry]
  refine (dif_pos d.isLt).trans (congrArg (argV m c) ?_)
  have : key ⟨κ.val / 2816, by omega⟩ ⟨κ.val % 2816, by omega⟩ = κ :=
    Fin.ext (by simp only [key]; omega)
  rw [this]

theorem sixty : Ideal.ofBits FTy.f32 0x42700000#32 = ((60 : ℝ) : EReal) := by
  simp [Ideal.ofBits, Ideal.ieee, -EReal.coe_mul]
  norm_num

theorem cmp_one (p : Bool) :
    (Scalar.cmpi .ne (Scalar.extui (BitVec.ofBool p) : BitVec 32) 0#32 = 1#1) ↔ p = true := by
  cases p <;> decide

theorem low_iff (b : EReal) : low (F := Ideal) b ↔ b ≤ ((60 : ℝ) : EReal) := by
  rw [← sixty]
  exact (cmp_one _).trans decide_eq_true_iff

theorem high_iff (b : EReal) : high (F := Ideal) b ↔ ((60 : ℝ) : EReal) < b := by
  rw [← sixty]
  exact (cmp_one _).trans decide_eq_true_iff

/-- One of the two ways is taken. -/
theorem low_or_high (b : EReal) : low (F := Ideal) b ∨ high (F := Ideal) b := by
  rw [low_iff, high_iff]
  exact le_or_gt _ _

/-- A block of the result. -/
theorem out_block (hq : ∀ i, ∃ a : ℝ, argQ m c i = (a : EReal))
    (hk : ∀ i, ∃ a : ℝ, argK m c i = (a : EReal)) (t : Fin cfg0.N) (r : Fin 1024) (d : Fin 128) :
    outAt (iblk m c 0 t) (iblk m c 1 t) (iblk m c 2 t) (iblk m c 3 t) (ix2 r d)
      = ∑ κ, argV m c (ix4 0 κ (hd t) d)
        * (wt (FlashRef.sg (argQ m c) (argK m c) (hd t) (row t r)) κ : EReal) := by
  have hσ := score_eq m c hq hk t
  have h1 := vrow_ones m c t
  have hv : ∀ κ, vrow (iblk m c 3 t) ⟨d, by omega⟩ κ = argV m c (ix4 0 κ (hd t) d) :=
    vrow_eq m c t d
  have e : (∑ κ, vrow (iblk m c 3 t) ⟨d, by omega⟩ κ
        * (wt (FlashRef.sg (argQ m c) (argK m c) (hd t) (row t r)) κ : EReal))
      = ∑ κ, argV m c (ix4 0 κ (hd t) d)
        * (wt (FlashRef.sg (argQ m c) (argK m c) (hd t) (row t r)) κ : EReal) :=
    Finset.sum_congr rfl fun κ _ => congrArg (· * _) (hv κ)
  unfold outAt
  split
  · exact (high_value _ _ _ (fun r => FlashRef.sg (argQ m c) (argK m c) (hd t) (row t r)) hσ h1 r d).trans e
  · rename_i hn
    have hle : bound m c ≤ ((60 : ℝ) : EReal) := by
      rw [blk0, high_iff] at hn
      exact not_lt.mp hn
    obtain ⟨b, hb⟩ : ∃ b : ℝ, bound m c = (b : EReal) :=
      ⟨(bound m c).toReal, (EReal.coe_toReal (ne_top_of_le_ne_top (EReal.coe_ne_top _) hle)
        (ne_bot_of_le_ne_bot (by decide) (bound_nonneg m c))).symm⟩
    rw [blk0, hb]
    exact (low_value _ _ _ (fun r => FlashRef.sg (argQ m c) (argK m c) (hd t) (row t r)) hσ h1 b r d).trans e

/-- The reference's entry in a head's columns. -/
theorem value_head (q : Vec Ideal S1x8192x16x192 .bf16) (k : Vec Ideal S1x8448x16x192 .bf16)
    (v : Vec Ideal S1x8448x16x128 .bf16) (o : Vec Ideal S8192x4096 .bf16) (ρ : Fin 8192)
    (h : Fin 16) (d : Fin 128) (hh : 2048 + 128 * h.val + d.val < 4096) :
    FlashRef.value q k v o ρ ⟨2048 + 128 * h.val + d.val, hh⟩
      = ∑ κ, v (ix4 0 κ h d) * (wt (FlashRef.sg q k h ρ) κ : EReal) := by
  have a : (⟨(2048 + 128 * h.val + d.val - 2048) / 128, by omega⟩ : Fin 16) = h :=
    Fin.ext (by simp only []; omega)
  have b : (⟨(2048 + 128 * h.val + d.val - 2048) % 128, by omega⟩ : Fin 128) = d :=
    Fin.ext (by simp only []; omega)
  refine (if_neg (by simp only []; omega)).trans ?_
  simp only [a, b]

/-- The result array after the run. -/
theorem final (hq : ∀ i, ∃ a : ℝ, argQ m c i = (a : EReal))
    (hk : ∀ i, ∃ a : ℝ, argK m c i = (a : EReal)) :
    (dats m 0 c).arrAt 4 cfg0.N
      = FlashRef.out (argQ m c) (argK m c) (argV m c) (argO m c) := by
  have h := (dats m 0 c).arrAt_eq_of_coversWhere 4
    (fun i => FlashRef.value (argQ m c) (argK m c) (argV m c) (argO m c) (i 0) (i 1))
    (fun β => 16 ≤ β (1 : Fin _)) (P := fun i => 2048 ≤ (i 1 : ℕ)) (by decide +kernel)
    (fun t hf y => ?_) (fun j => ?_)
  · rw [h]
    funext i
    idx_vars i
    rw [FlashRef.out_apply _ _ _ _ hq hk]
    by_cases hn : 2048 ≤ i1.val
    · exact if_pos hn
    · refine (if_neg hn).trans ?_
      rw [A_eq]
      refine (congrFun (o_entry m c) (ix2 i0 i1)).trans ?_
      rw [FlashRef.value, if_pos (by omega)]
  · obtain ⟨r, d, rfl⟩ : ∃ (r : Fin 1024) (d : Fin 128), y = ix2 r d :=
      ⟨y 0, y 1, funext fun a => by fin_cases a <;> rfl⟩
    blk_simp [e4]
    rw [after0_4]
    have h0 : (win0_4.blk t).view.emb (ix2 r d) 0 = row t r := Fin.ext (by
      blk_simp [e4]
      simp only [row]
      omega)
    have h1 : (win0_4.blk t).view.emb (ix2 r d) 1
        = (⟨2048 + 128 * (hd t).val + d.val, by have := (hd t).isLt; omega⟩ : Fin 4096) :=
      Fin.ext (by
        blk_simp [e4]
        show (16 + (hd t).val) * 128 + d.val = 2048 + 128 * (hd t).val + d.val
        omega)
    have hb := out_block m c hq hk t r d
    generalize outAt (iblk m c 0 t) (iblk m c 1 t) (iblk m c 2 t) (iblk m c 3 t) = B at hb ⊢
    refine Eq.trans hb ?_
    rw [h0, h1, value_head]
  · blk_simp [Pipeline.Window.cell_apply]
    omega

/-- The run of the kernel's program: the reference's function of the arguments is left. -/
theorem run (ρ : Dev nD → PrngReg) (hq : ∀ c i, ∃ a : ℝ, argQ m c i = (a : EReal))
    (hk : ∀ c i, ∃ a : ℝ, argK m c i = (a : EReal)) :
    θ_run defs (onTc (τ := τ) (main (F := Ideal))) ⟨m, fun _ => 0, ρ⟩ fun r => ∀ c : Dev nD,
      r.2.mem ((c.tc : Thread nD τ).loc main_v26)
        = FlashRef.out (argQ m c) (argK m c) (argV m c) (argO m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h.1 c).1 4).trans (final m c (hq c) (hk c)),
     ((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c)⟩)
    (run_exact m ρ fun _ _ => low_or_high _)

end Cert.Proof.Flash
-- ==== Proof.MlpMath.lean ====
/-
# The squared-ReLU MLP on coordinates

The numbers the MLP sub-layer computes, as functions of coordinates: the modulated RMS norm `hid`,
the squared ReLU `act` of the first product, and the gated residual `res` of the second.
-/
module

public import Idealize.ShloMosaic.Lib.Pointwise

@[expose] public section

noncomputable section

namespace Cert.Proof.MlpMath

open Idealize.ShloMosaic

/-- The modulated RMS norm of row `x` with gain `g`, shift `sh` and scale `sc`. -/
def hid (x g sh sc : Fin 4096 → EReal) (d : Fin 4096) : EReal :=
  x d * Ideal.rsqrt (Ideal.div (∑ k, x k * x k) (Ideal.ofBits FTy.f32 0x45800000#32)
    + Ideal.ofBits FTy.f32 0x358637BD#32) * g d * (1 + sc d) + sh d

/-- The squared ReLU of row `h` times column `w`. -/
def act (h w : Fin 4096 → EReal) : EReal :=
  max (∑ d, h d * w d) 0 * max (∑ d, h d * w d) 0

theorem hid_congr {x x' g g' sh sh' sc sc' : Fin 4096 → EReal} (hx : ∀ d, x d = x' d)
    (hg : ∀ d, g d = g' d) (hsh : ∀ d, sh d = sh' d) (hsc : ∀ d, sc d = sc' d) (d : Fin 4096) :
    hid x g sh sc d = hid x' g' sh' sc' d := by
  rw [funext hx, funext hg, funext hsh, funext hsc]

theorem act_congr {h h' w w' : Fin 4096 → EReal} (hh : ∀ d, h d = h' d) (hw : ∀ d, w d = w' d) :
    act h w = act h' w' := by
  rw [funext hh, funext hw]

/-- The position of column `x` of chunk `k`. -/
def pos (k : ℕ) (x : Fin 1024) (h : k < 16) : Fin 16384 := ⟨1024 * k + x.val, by omega⟩

/-- The products of the first `k` chunks. -/
def part (a w : Fin 16384 → EReal) : (k : ℕ) → k ≤ 16 → EReal
  | 0, _ => 0
  | k + 1, h => part a w k (by omega) + ∑ x : Fin 1024, a (pos k x (by omega)) * w (pos k x (by omega))

theorem part_eq (a w : Fin 16384 → EReal) (k : ℕ) (h : k ≤ 16) :
    part a w k h = ∑ i : Fin (1024 * k), a ⟨i.val, by omega⟩ * w ⟨i.val, by omega⟩ := by
  induction k with
  | zero => simp [part]
  | succ k ih =>
    rw [part, ih]
    exact (Fin.sum_univ_add fun i : Fin (1024 * k + 1024) =>
      a ⟨i.val, by omega⟩ * w ⟨i.val, by omega⟩).symm

/-- All sixteen chunks are the whole product. -/
theorem part_all (a w : Fin 16384 → EReal) : part a w 16 le_rfl = ∑ f, a f * w f :=
  part_eq a w 16 le_rfl

end Cert.Proof.MlpMath
-- ==== Proof.MlpPay.lean ====
/-
# The MLP kernels' blocks, entry by entry

What the bodies of the three kernels store, read at one row and column of a block: the modulated
norm; the squared ReLU of a product; and a running sum of products, at the end gated and added to
the residual.
-/
module

public import proofs.«01_k».proof.Proof.Gen.MlpIdeal.Frame
public import proofs.«01_k».proof.Proof.MlpMath
public import Idealize.ShloMosaic.Lib.Pipeline.ValueKit

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Cert.Proof.MlpMath

theorem pay_norm (x0 : Vec Ideal S512x4096 .f32) (x1 : Vec Ideal S1x4096 .f32)
    (x2 x3 : Vec Ideal S1x8x4096 .f32) (r : Fin 512) (d : Fin 4096) :
    out0_4 x0 x1 x2 x3 (ix2 r d)
      = hid (fun d => x0 (ix2 r d)) (fun d => x1 (ix2 0 d)) (fun d => x2 (ix3 0 0 d))
        (fun d => x3 (ix3 0 0 d)) d := by
  refine (congrFun (View.canon_cons_unit_lit (S := S512x4096)
    inb_S512x4096_S512x4096_0_0 _ [] (by decide)) (ix2 r d)).trans ?_
  pointwise [k0_pay1, hid]

theorem pay_act (x0 : Vec Ideal S1024x4096 .bf16) (x1 : Vec Ideal S1x4096x512 .f32)
    (r : Fin 1024) (f : Fin 512) :
    out1_2 x0 x1 (ix2 r f) = act (fun d => x0 (ix2 r d)) (fun d => x1 (ix3 0 d f)) := by
  refine (congrFun (View.canon_cons_unit_lit (S := S1024x512)
    inb_S1024x512_S1024x512_0_0 _ [] (by decide)) (ix2 r f)).trans ?_
  pointwise [k1_pay1, act]

/-- One chunk's products. -/
def chunk (x0 : Vec Ideal S2048x1024 .bf16) (x1 : Vec Ideal S1x1024x1024 .f32) (r : Fin 2048)
    (n : Fin 1024) : EReal := ∑ x, x0 (ix2 r x) * x1 (ix3 0 x n)

variable (c : Dev nD) (i : grid2.Coords)
  (a3 : Memref sig .tc .vmem S2048x1024 .bf16) (h3 : a3.IsWhole)
  (a4 : Memref sig .tc .vmem S1x1024x1024 .f32) (h4 : a4.IsWhole)
  (a5 : Memref sig .tc .vmem S2048x1024 .f32) (h5 : a5.IsWhole)
  (a6 : Memref sig .tc .vmem S1x8x1024 .f32) (h6 : a6.IsWhole)
  (a7 : Memref sig .tc .vmem S2048x1024 .f32) (h7 : a7.IsWhole)
  (x0 : Vec Ideal S2048x1024 .bf16) (x1 : Vec Ideal S1x1024x1024 .f32)
  (x2 : Vec Ideal S2048x1024 .f32) (x3 : Vec Ideal S1x8x1024 .f32)
  (o : Vec Ideal S2048x1024 .f32)

theorem first_apply (hc0 : cond2_0 i) (hc1 : ¬cond2_1 i) (r : Fin 2048) (n : Fin 1024) :
    out2_A_4 c i a3 h3 a4 h4 a5 h5 a6 h6 a7 h7 hc0 hc1 x0 x1 x2 x3 (ix2 r n)
      = chunk x0 x1 r n := by
  frame_out
  pointwise [k2_pay2, k2_pay1, chunk]

theorem next_apply (hc0 : ¬cond2_0 i) (hc1 : ¬cond2_1 i) (r : Fin 2048) (n : Fin 1024) :
    out2_B_4 c i a3 h3 a4 h4 a5 h5 a6 h6 a7 h7 hc0 hc1 x0 x1 x2 x3 o (ix2 r n)
      = o (ix2 r n) + chunk x0 x1 r n := by
  frame_out
  pointwise [k2_pay2, chunk]

theorem last_apply (hc0 : ¬cond2_0 i) (hc1 : cond2_1 i) (r : Fin 2048) (n : Fin 1024) :
    out2_C_4 c i a3 h3 a4 h4 a5 h5 a6 h6 a7 h7 hc0 hc1 x0 x1 x2 x3 o (ix2 r n)
      = x2 (ix2 r n) + x3 (ix3 0 0 n) * (o (ix2 r n) + chunk x0 x1 r n) := by
  frame_out
  pointwise [k2_pay3, k2_pay2, chunk]

end Cert.Proof.Mlp
-- ==== Proof.MlpValue.lean ====
/-
# What the MLP's three kernels leave

The blocks of each kernel's operands at a grid point, read from the arrays it starts from, and from
them each kernel's whole output array: the modulated norm, the activations, and the gated residual,
whose products a block gathers over sixteen grid points.
-/
module

public import proofs.«01_k».proof.Proof.MlpPay

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.ShloMosaic.Pipeline
open Cert.Proof.MlpMath

variable (V : (c : Dev nD) → (b : Ref sig .tc) → Buf (Elt Ideal) ((c : Thread nD τ).loc b)) (c : Dev nD)

/-- The arrays the kernels read, at the contents `V`. -/
abbrev arrX : Vec Ideal S8192x4096 .f32 := V c main_v1
abbrev arrG : Vec Ideal S1x4096 .f32 := V c main_v4
abbrev arrM : Vec Ideal S2x8x24576 .f32 := V c main_v0
abbrev arrH : Vec Ideal S8192x4096 .bf16 := V c main_v5
abbrev arrW1 : Vec Ideal S2x4096x16384 .f32 := V c main_arg3
abbrev arrU : Vec Ideal S8192x16384 .bf16 := V c main_v6
abbrev arrW2 : Vec Ideal S2x16384x4096 .f32 := V c main_arg4

/-! ## The norm -/

theorem lt0 (t : Fin cfg0.N) : t.val < 16 := lt_of_lt_of_eq t.isLt N_0

/-- A row of the array from a row of its block. -/
def row0 (t : Fin cfg0.N) (r : Fin 512) : Fin 8192 := ⟨512 * t.val + r.val, by have := lt0 t; omega⟩

theorem e00 : ∀ t : Fin grid0.N, win0_0.index t = ![t.val, 0] := by decide +kernel
theorem e01 : ∀ t : Fin grid0.N, win0_1.index t = ![0, 0] := by decide +kernel
theorem e02 : ∀ t : Fin grid0.N, win0_2.index t = ![1, 0, 3] := by decide +kernel
theorem e03 : ∀ t : Fin grid0.N, win0_3.index t = ![1, 0, 4] := by decide +kernel
theorem e04 : ∀ t : Fin grid0.N, win0_4.index t = ![t.val, 0] := by decide +kernel

theorem b00 (t : Fin cfg0.N) (r : Fin 512) (d : Fin 4096) :
    iblk0 V c 0 t (ix2 r d) = arrX V c (ix2 (row0 t r) d) := by
  blk_simp [iblk0, e00]
  blk_ext [e00, row0]

theorem b01 (t : Fin cfg0.N) (d : Fin 4096) : iblk0 V c 1 t (ix2 0 d) = arrG V c (ix2 0 d) := by
  blk_simp [iblk0, e01]
  blk_ext [e01]

theorem b02 (t : Fin cfg0.N) (d : Fin 4096) :
    iblk0 V c 2 t (ix3 0 0 d) = arrM V c (ix3 1 0 ⟨12288 + d.val, by omega⟩) := by
  blk_simp [iblk0, e02]
  blk_ext [e02]

theorem b03 (t : Fin cfg0.N) (d : Fin 4096) :
    iblk0 V c 3 t (ix3 0 0 d) = arrM V c (ix3 1 0 ⟨16384 + d.val, by omega⟩) := by
  blk_simp [iblk0, e03]
  blk_ext [e03]

/-- Entry (`t`, `d`) of the norm. -/
def normAt (t : Fin 8192) (d : Fin 4096) : EReal :=
  hid (fun d => arrX V c (ix2 t d)) (fun d => arrG V c (ix2 0 d))
    (fun d => arrM V c (ix3 1 0 ⟨12288 + d.val, by omega⟩))
    (fun d => arrM V c (ix3 1 0 ⟨16384 + d.val, by omega⟩)) d

theorem block0 (t : Fin cfg0.N) (r : Fin 512) (d : Fin 4096) :
    out0_4 (iblk0 V c 0 t) (iblk0 V c 1 t) (iblk0 V c 2 t) (iblk0 V c 3 t) (ix2 r d)
      = normAt V c (row0 t r) d := by
  refine (pay_norm _ _ _ _ r d).trans ?_
  simp only [normAt, b00, b01, b02, b03]

theorem final0 : (dat0 V c).arrAt 4 cfg0.N = (fun i => normAt V c (i 0) (i 1) : Vec Ideal S8192x4096 .bf16) := by
  refine (dat0 V c).arrAt_eq_of_covers 4 _ (by decide +kernel) fun t hf y => ?_
  obtain ⟨r, d, rfl⟩ : ∃ (r : Fin 512) (d : Fin 4096), y = ix2 r d :=
    ⟨y 0, y 1, funext fun a => by fin_cases a <;> rfl⟩
  blk_simp [e04]
  rw [after0_4]
  have h0 : (win0_4.blk t).view.emb (ix2 r d) 0 = row0 t r := Fin.ext (by
    blk_simp [e04]
    simp only [row0]
    omega)
  have h1 : (win0_4.blk t).view.emb (ix2 r d) 1 = d := Fin.ext (by blk_simp [e04])
  have hb := block0 V c t r d
  generalize out0_4 (iblk0 V c 0 t) (iblk0 V c 1 t) (iblk0 V c 2 t) (iblk0 V c 3 t) = B at hb ⊢
  refine Eq.trans hb ?_
  rw [h0, h1]

/-! ## The activations -/

theorem lt1 (t : Fin cfg1.N) : t.val < 256 := lt_of_lt_of_eq t.isLt N_1

def row1 (t : Fin cfg1.N) (r : Fin 1024) : Fin 8192 := ⟨1024 * (t.val / 32) + r.val, by have := lt1 t; omega⟩
def col1 (t : Fin cfg1.N) (f : Fin 512) : Fin 16384 := ⟨512 * (t.val % 32) + f.val, by omega⟩

theorem e10 : ∀ t : Fin grid1.N, win1_0.index t = ![t.val / 32, 0] := by decide +kernel
theorem e11 : ∀ t : Fin grid1.N, win1_1.index t = ![1, 0, t.val % 32] := by decide +kernel
theorem e12 : ∀ t : Fin grid1.N, win1_2.index t = ![t.val / 32, t.val % 32] := by decide +kernel

theorem b10 (t : Fin cfg1.N) (r : Fin 1024) (d : Fin 4096) :
    iblk1 V c 0 t (ix2 r d) = arrH V c (ix2 (row1 t r) d) := by
  blk_simp [iblk1, e10]
  blk_ext [e10, row1]

theorem b11 (t : Fin cfg1.N) (d : Fin 4096) (f : Fin 512) :
    iblk1 V c 1 t (ix3 0 d f) = arrW1 V c (ix3 1 d (col1 t f)) := by
  blk_simp [iblk1, e11]
  blk_ext [e11, col1]

/-- Entry (`t`, `f`) of the activations. -/
def actAt (t : Fin 8192) (f : Fin 16384) : EReal :=
  act (fun d => arrH V c (ix2 t d)) fun d => arrW1 V c (ix3 1 d f)

theorem block1 (t : Fin cfg1.N) (r : Fin 1024) (f : Fin 512) :
    out1_2 (iblk1 V c 0 t) (iblk1 V c 1 t) (ix2 r f) = actAt V c (row1 t r) (col1 t f) := by
  refine (pay_act _ _ r f).trans ?_
  simp only [actAt, b10, b11]

theorem final1 : (dat1 V c).arrAt 2 cfg1.N = (fun i => actAt V c (i 0) (i 1) : Vec Ideal S8192x16384 .bf16) := by
  refine (dat1 V c).arrAt_eq_of_covers 2 _ (by decide +kernel) fun t hf y => ?_
  obtain ⟨r, d, rfl⟩ : ∃ (r : Fin 1024) (d : Fin 512), y = ix2 r d :=
    ⟨y 0, y 1, funext fun a => by fin_cases a <;> rfl⟩
  blk_simp [e12]
  rw [after1_2]
  have h0 : (win1_2.blk t).view.emb (ix2 r d) 0 = row1 t r := Fin.ext (by
    blk_simp [e12]
    simp only [row1]
    omega)
  have h1 : (win1_2.blk t).view.emb (ix2 r d) 1 = col1 t d := Fin.ext (by
    blk_simp [e12]
    simp only [col1]
    omega)
  have hb := block1 V c t r d
  generalize out1_2 (iblk1 V c 0 t) (iblk1 V c 1 t) = B at hb ⊢
  refine Eq.trans hb ?_
  rw [h0, h1]

/-! ## The gated residual -/

theorem lt2 (t : Fin cfg2.N) : t.val < 256 := lt_of_lt_of_eq t.isLt N_2

def row2 (t : Fin cfg2.N) (r : Fin 2048) : Fin 8192 := ⟨2048 * (t.val / 64) + r.val, by have := lt2 t; omega⟩
def col2 (t : Fin cfg2.N) (n : Fin 1024) : Fin 4096 := ⟨1024 * (t.val / 16 % 4) + n.val, by omega⟩

theorem e20 : ∀ t : Fin grid2.N, win2_0.index t = ![t.val / 64, t.val % 16] := by decide +kernel
theorem e21 : ∀ t : Fin grid2.N, win2_1.index t = ![1, t.val % 16, t.val / 16 % 4] := by decide +kernel
theorem e22 : ∀ t : Fin grid2.N, win2_2.index t = ![t.val / 64, t.val / 16 % 4] := by decide +kernel
theorem e23 : ∀ t : Fin grid2.N, win2_3.index t = ![1, 0, 20 + t.val / 16 % 4] := by decide +kernel
theorem e24 : ∀ t : Fin grid2.N, win2_4.index t = ![t.val / 64, t.val / 16 % 4] := by decide +kernel

theorem b20 (t : Fin cfg2.N) (r : Fin 2048) (x : Fin 1024) :
    iblk2 V c 0 t (ix2 r x) = arrU V c (ix2 (row2 t r) (pos (t.val % 16) x (by omega))) := by
  blk_simp [iblk2, e20]
  blk_ext [e20, row2, pos]

theorem b21 (t : Fin cfg2.N) (x n : Fin 1024) :
    iblk2 V c 1 t (ix3 0 x n) = arrW2 V c (ix3 1 (pos (t.val % 16) x (by omega)) (col2 t n)) := by
  blk_simp [iblk2, e21]
  blk_ext [e21, col2, pos]

theorem b22 (t : Fin cfg2.N) (r : Fin 2048) (n : Fin 1024) :
    iblk2 V c 2 t (ix2 r n) = arrX V c (ix2 (row2 t r) (col2 t n)) := by
  blk_simp [iblk2, e22]
  blk_ext [e22, row2, col2]

theorem b23 (t : Fin cfg2.N) (n : Fin 1024) :
    iblk2 V c 3 t (ix3 0 0 n)
      = arrM V c (ix3 1 0 ⟨20480 + (col2 t n).val, by have := (col2 t n).isLt; omega⟩) := by
  blk_simp [iblk2, e23]
  blk_ext [e23, col2]

/-- The two factors of entry (`t`, `n`)'s products. -/
def lhs (t : Fin 8192) (f : Fin 16384) : EReal := arrU V c (ix2 t f)
def rhs (n : Fin 4096) (f : Fin 16384) : EReal := arrW2 V c (ix3 1 f n)

theorem chunk_eq (t : Fin cfg2.N) (r : Fin 2048) (n : Fin 1024) (k : ℕ) (hk : t.val % 16 = k)
    (h : k < 16) :
    chunk (iblk2 V c 0 t) (iblk2 V c 1 t) r n
      = ∑ x, lhs V c (row2 t r) (pos k x h) * rhs V c (col2 t n) (pos k x h) := by
  subst hk
  simp only [chunk, b20, b21]
  rfl

theorem outs_congr {a b : ℕ} (h : a = b) (ha : a < cfg2.N) (hb : b < cfg2.N) :
    outsAt2 V c a ha = outsAt2 V c b hb := by subst h; rfl

/-- What a block holds before its last point: the products so far. -/
theorem outs_part (k : ℕ) (hk : k < 15) : ∀ (t : Fin cfg2.N), t.val % 16 = k →
    ∀ (r : Fin 2048) (n : Fin 1024), outsAt2 V c t.val t.isLt (ix2 r n)
      = part (lhs V c (row2 t r)) (rhs V c (col2 t n)) (k + 1) (by omega) := by
  induction k with
  | zero =>
    intro t ht r n
    rw [outsAt2_A V c t ht (by omega), first_apply, chunk_eq V c t r n 0 ht (by omega)]
    exact (zero_add _).symm
  | succ k ih =>
    intro t ht r n
    have hp : t.val - 1 < cfg2.N := Nat.lt_of_le_of_lt (Nat.sub_le _ _) t.isLt
    have hr : row2 ⟨t.val - 1, hp⟩ r = row2 t r := Fin.ext (by simp only [row2]; omega)
    have hc : col2 ⟨t.val - 1, hp⟩ n = col2 t n := Fin.ext (by simp only [col2]; omega)
    have h := ih (by omega) ⟨t.val - 1, hp⟩ (by show (t.val - 1) % 16 = k; omega) r n
    rw [hr, hc] at h
    rw [outsAt2_B V c t (by omega) (by omega), next_apply,
      chunk_eq V c t r n (k + 1) ht (by omega)]
    exact congrArg (· + _) h

/-- Entry (`t`, `n`) of the result. -/
def resAt (t : Fin 8192) (n : Fin 4096) : EReal :=
  arrX V c (ix2 t n) + arrM V c (ix3 1 0 ⟨20480 + n.val, by omega⟩)
    * ∑ f, lhs V c t f * rhs V c n f

/-- What a block holds after its last point. -/
theorem block2 (t : Fin cfg2.N) (ht : t.val % 16 = 15) (r : Fin 2048) (n : Fin 1024) :
    outsAt2 V c t.val t.isLt (ix2 r n) = resAt V c (row2 t r) (col2 t n) := by
  have hp : t.val - 1 < cfg2.N := Nat.lt_of_le_of_lt (Nat.sub_le _ _) t.isLt
  have hr : row2 ⟨t.val - 1, hp⟩ r = row2 t r := Fin.ext (by simp only [row2]; omega)
  have hc : col2 ⟨t.val - 1, hp⟩ n = col2 t n := Fin.ext (by simp only [col2]; omega)
  have h := outs_part V c 14 (by omega) ⟨t.val - 1, hp⟩ (by show (t.val - 1) % 16 = 14; omega) r n
  rw [hr, hc] at h
  rw [outsAt2_C V c t (by omega) ht, last_apply, chunk_eq V c t r n 15 ht (by omega), b22, b23,
    resAt, ← part_all]
  exact congrArg (fun z => _ + _ * (z + _)) h

theorem final2 : (dat2 V c).arrAt 4 cfg2.N = (fun i => resAt V c (i 0) (i 1) : Vec Ideal S8192x4096 .f32) := by
  refine (dat2 V c).arrAt_eq_of_covers 4 _ (by decide +kernel) fun t hf y => ?_
  obtain ⟨r, d, rfl⟩ : ∃ (r : Fin 2048) (d : Fin 1024), y = ix2 r d :=
    ⟨y 0, y 1, funext fun a => by fin_cases a <;> rfl⟩
  have hb := block2 V c t ((flush2_4 t).mp hf) r d
  blk_simp [e24]
  rw [after2_4]
  have h0 : (win2_4.blk t).view.emb (ix2 r d) 0 = row2 t r := Fin.ext (by
    blk_simp [e24]
    simp only [row2]
    omega)
  have h1 : (win2_4.blk t).view.emb (ix2 r d) 1 = col2 t d := Fin.ext (by
    blk_simp [e24]
    simp only [col2]
    omega)
  generalize outsAt2 V c t.val t.isLt = B at hb ⊢
  refine Eq.trans hb ?_
  rw [h0, h1]

end Cert.Proof.Mlp
-- ==== Proof.MlpRef.lean ====
/-
# The MLP of the reference, entry by entry

The reference's host operations read at one row and column of the result.
-/
module

public import proofs.«01_k».proof.Proof.Gen.MlpReferenceIdeal.Run
public import proofs.«01_k».proof.Proof.MlpMath

@[expose] public section

set_option maxRecDepth 16384

noncomputable section

namespace Cert.Proof.MlpRef

open Cert.MlpReferenceIdeal Cert.MlpReferenceIdeal.Gen
open Idealize.ShloMosaic Idealize.ShloMosaic.TcCoe Idealize.ShloMosaic.Tactic
open Cert.Proof.MlpMath

/-- The last layer's modulation row. -/
def row (mods : Vec Ideal S2x1x24576 .f32) : Vec Ideal S1x1x24576 .f32 :=
  broadcastInDim S1x1x24576 ![0, 2] bcast_S1x24576_S1x1x24576_0_2
    (shapeCast S1x24576 (extractStridedSlice S1x1x24576 ![1, 0, 0] mods
      slices_S2x1x24576_S1x1x24576_1_0_0) shapeCasts_S1x1x24576_S1x24576)

/-- A row's number for every column. -/
def wide (v : Vec Ideal S1x1x4096 .f32) : Vec Ideal S1x8192x4096 .f32 :=
  broadcastInDim S1x8192x4096 ![0, 1, 2] bcast_S1x1x4096_S1x8192x4096_0_1_2 v

/-- One over the root mean square of each row. -/
def inv (x : Vec Ideal S1x8192x4096 .f32) : FVec Ideal S1x8192x1 .f32 :=
  Host.rsqrt (addf (Host.divf (broadcastInDim S1x8192x1 ![0, 1] bcast_S1x8192_S1x8192x1_0_1
    (Host.reduceAdd (mulf x x) (constant S_ .f32 0x00000000#32)
      reducesTo_S1x8192x4096_S1x8192_d2 h_S_))
    (broadcastInDim S1x8192x1 ![] bcast_S_S1x8192x1 (constant S_ .f32 0x45800000#32)))
    (broadcastInDim S1x8192x1 ![] bcast_S_S1x8192x1 (constant S_ .f32 0x358637BD#32)))

/-- The modulated norm. -/
def norm (x : Vec Ideal S1x8192x4096 .f32) (mods : Vec Ideal S2x1x24576 .f32)
    (g : Vec Ideal S2x4096 .f32) : FVec Ideal S1x8192x4096 .f32 :=
  addf (mulf (mulf (mulf x (broadcastInDim S1x8192x4096 ![0, 1, 2]
      bcast_S1x8192x1_S1x8192x4096_0_1_2 (inv x)))
    (wide (broadcastInDim S1x1x4096 ![2] bcast_S4096_S1x1x4096_2
      (shapeCast S4096 (extractStridedSlice S1x4096 ![1, 0] g slices_S2x4096_S1x4096_1_0)
        shapeCasts_S1x4096_S4096))))
    (wide (addf (F := Ideal) (φ := .f32) (broadcastInDim S1x1x4096 ![] bcast_S_S1x1x4096 (constant S_ .f32 0x3F800000#32))
      (extractStridedSlice S1x1x4096 ![0, 0, 16384] (row mods)
        slices_S1x1x24576_S1x1x4096_0_0_16384))))
    (wide (extractStridedSlice S1x1x4096 ![0, 0, 12288] (row mods)
      slices_S1x1x24576_S1x1x4096_0_0_12288))

/-- The ReLU of the first product. -/
def relu (h : FVec Ideal S1x8192x4096 .f32) (w1 : Vec Ideal S2x4096x16384 .f32) :
    FVec Ideal S1x8192x16384 .f32 :=
  maximumf (Host.dotGeneral (F := Ideal) (φ₁ := .f32) (φ₂ := .f32) dot_S1x8192x4096_S4096x16384_S1x8192x16384_2_0_01_1_n_n none h
    (shapeCast S4096x16384 (extractStridedSlice S1x4096x16384 ![1, 0, 0] w1
      slices_S2x4096x16384_S1x4096x16384_1_0_0) shapeCasts_S1x4096x16384_S4096x16384))
    (broadcastInDim S1x8192x16384 ![] bcast_S_S1x8192x16384 (constant S_ .f32 0x00000000#32))

/-- The gated residual of the second product. -/
def last (x : Vec Ideal S1x8192x4096 .f32) (mods : Vec Ideal S2x1x24576 .f32)
    (u : FVec Ideal S1x8192x16384 .f32) (w2 : Vec Ideal S2x16384x4096 .f32) :
    Vec Ideal S8192x4096 .f32 :=
  shapeCast S8192x4096 (addf x (mulf (wide (extractStridedSlice S1x1x4096 ![0, 0, 20480] (row mods)
      slices_S1x1x24576_S1x1x4096_0_0_20480))
    (Host.dotGeneral (F := Ideal) (φ₁ := .f32) (φ₂ := .f32) dot_S1x8192x16384_S16384x4096_S1x8192x4096_2_0_01_1_n_n none (mulf u u)
      (shapeCast S16384x4096 (extractStridedSlice S1x16384x4096 ![1, 0, 0] w2
        slices_S2x16384x4096_S1x16384x4096_1_0_0) shapeCasts_S1x16384x4096_S16384x4096))))
    shapeCasts_S1x8192x4096_S8192x4096

/-- The reference's result from its arguments. -/
def out (x : Vec Ideal S1x8192x4096 .f32) (mods : Vec Ideal S2x1x24576 .f32)
    (g : Vec Ideal S2x4096 .f32) (w1 : Vec Ideal S2x4096x16384 .f32)
    (w2 : Vec Ideal S2x16384x4096 .f32) : Vec Ideal S8192x4096 .f32 :=
  last x mods (relu (norm x mods g) w1) w2

variable (x : Vec Ideal S1x8192x4096 .f32) (mods : Vec Ideal S2x1x24576 .f32)
  (g : Vec Ideal S2x4096 .f32) (w1 : Vec Ideal S2x4096x16384 .f32)
  (w2 : Vec Ideal S2x16384x4096 .f32)

/-- Row `t` of the norm on coordinates. -/
def hidAt (t : Fin 8192) (d : Fin 4096) : EReal :=
  hid (fun d => x (ix3 0 t d)) (fun d => g (ix2 1 d))
    (fun d => mods (ix3 1 0 ⟨12288 + d.val, by omega⟩))
    (fun d => mods (ix3 1 0 ⟨16384 + d.val, by omega⟩)) d

/-- Every entry of the activations. -/
def actAt (t : Fin 8192) (f : Fin 16384) : EReal :=
  act (hidAt x mods g t) fun d => w1 (ix3 1 d f)

/-- Every entry of the result. -/
def value (t : Fin 8192) (n : Fin 4096) : EReal :=
  x (ix3 0 t n) + mods (ix3 1 0 ⟨20480 + n.val, by omega⟩)
    * ∑ f, actAt x mods g w1 t f * w2 (ix3 1 f n)

theorem inv_apply (t : Fin 8192) : inv x (ix3 0 t 0)
    = Ideal.rsqrt (Ideal.div (∑ k, x (ix3 0 t k) * x (ix3 0 t k))
      (Ideal.ofBits FTy.f32 0x45800000#32) + Ideal.ofBits FTy.f32 0x358637BD#32) := by
  pointwise [inv]

theorem norm_apply (t : Fin 8192) (d : Fin 4096) :
    norm x mods g (ix3 0 t d) = hidAt x mods g t d := by
  unfold hidAt hid
  rw [← inv_apply]
  generalize hi : inv x = iv
  pointwise [norm, wide, row, hi]

theorem relu_apply (h : FVec Ideal S1x8192x4096 .f32) (t : Fin 8192) (f : Fin 16384) :
    relu h w1 (ix3 0 t f) = max (∑ d, h (ix3 0 t d) * w1 (ix3 1 d f)) 0 := by
  pointwise [relu]

theorem last_apply (u : FVec Ideal S1x8192x16384 .f32) (t : Fin 8192) (n : Fin 4096) :
    last x mods u w2 (ix2 t n) = x (ix3 0 t n) + mods (ix3 1 0 ⟨20480 + n.val, by omega⟩)
      * ∑ f, u (ix3 0 t f) * u (ix3 0 t f) * w2 (ix3 1 f n) := by
  pointwise [last, wide, row]

theorem out_apply (t : Fin 8192) (n : Fin 4096) :
    out x mods g w1 w2 (ix2 t n) = value x mods g w1 w2 t n := by
  have h : ∀ f, relu (norm x mods g) w1 (ix3 0 t f)
      = max (∑ d, hidAt x mods g t d * w1 (ix3 1 d f)) 0 := fun f => by
    rw [relu_apply]
    exact congrArg (max · 0) (Finset.sum_congr rfl fun d _ =>
      congrArg (· * _) (norm_apply x mods g t d))
  refine (last_apply x mods w2 _ t n).trans ?_
  simp only [h]
  rfl

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41)
        = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run (F := Ideal) m ρ)

end Cert.Proof.MlpRef
-- ==== Proof.MlpRun.lean ====
/-
# The MLP's run

What the host lines hand to the three kernels, each kernel's output handed to the next, and the
whole program's result: the reference's function of the arguments.
-/
module

public import proofs.«01_k».proof.Proof.MlpValue
public import proofs.«01_k».proof.Proof.MlpRef

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.MlpMath

local notation "𝕄" => MT nD τ sig Unit (Elt Ideal) ℕ (UR sig nD τ) ℕ

variable (m : (ℓ : Loc nD τ sig) → Buf (Elt Ideal) ℓ) (ρ : Dev nD → PrngReg) (c : Dev nD)

/-- The arguments. -/
abbrev argX : Vec Ideal S1x8192x4096 .f32 := m ((c.tc : Thread nD τ).loc main_arg0)
abbrev argM : Vec Ideal S2x1x24576 .f32 := m ((c.tc : Thread nD τ).loc main_arg1)
abbrev argG : Vec Ideal S2x4096 .f32 := m ((c.tc : Thread nD τ).loc main_arg2)
abbrev argW1 : Vec Ideal S2x4096x16384 .f32 := m ((c.tc : Thread nD τ).loc main_arg3)
abbrev argW2 : Vec Ideal S2x16384x4096 .f32 := m ((c.tc : Thread nD τ).loc main_arg4)

theorem x_entry (t : Fin 8192) (d : Fin 4096) :
    arrX (V3 m ρ) c (ix2 t d) = argX m c (ix3 0 t d) := by
  unfold arrX
  simp only [V3, W3, W2, W1, hostOps0, hostOps0_1, hostOps0_2]
  entry_read
  pointwise

theorem g_entry (d : Fin 4096) : arrG (V3 m ρ) c (ix2 0 d) = argG m c (ix2 1 d) := by
  unfold arrG
  simp only [V3, W3, W2, W1, hostOps0, hostOps0_1, hostOps0_2]
  entry_read
  pointwise

theorem m_entry (n : Fin 24576) :
    arrM (V3 m ρ) c (ix3 1 0 n) = argM m c (ix3 1 0 n) := by
  unfold arrM
  simp only [V3, W3, W2, W1, hostOps0, hostOps0_1, hostOps0_2]
  entry_read
  simp -implicitDefEqProofs only [StableHlo.TRef.toBuf, StableHlo.TRef.ofBuf, cast_cast, cast_eq]
  pointwise

/-! ## What a kernel does not write, it leaves -/

theorem m_kept4 : arrM (V4 m ρ) c = arrM (V3 m ρ) c := W4_of m ρ c main_v0 (by decide +kernel)
theorem m_kept5 : arrM (V5 m ρ) c = arrM (V3 m ρ) c :=
  (W5_of m ρ c main_v0 (by decide +kernel)).trans (m_kept4 m ρ c)
theorem x_kept5 : arrX (V5 m ρ) c = arrX (V3 m ρ) c :=
  (W5_of m ρ c main_v1 (by decide +kernel)).trans (W4_of m ρ c main_v1 (by decide +kernel))
theorem w1_kept4 : arrW1 (V4 m ρ) c = argW1 m c := W4_args m ρ c main_arg3 (by decide)
theorem w2_kept5 : arrW2 (V5 m ρ) c = argW2 m c := W5_args m ρ c main_arg4 (by decide)

theorem h_eq (t : Fin 8192) (d : Fin 4096) : arrH (V4 m ρ) c (ix2 t d)
    = MlpRef.hidAt (argX m c) (argM m c) (argG m c) t d := by
  have h : arrH (V4 m ρ) c = _ := (W4_arr m ρ c 4).trans (final0 (V3 m ρ) c)
  rw [h]
  exact hid_congr (fun d => x_entry m ρ c t d) (fun d => g_entry m ρ c d)
    (fun d => m_entry m ρ c _) (fun d => m_entry m ρ c _) d

theorem u_eq (t : Fin 8192) (f : Fin 16384) : arrU (V5 m ρ) c (ix2 t f)
    = MlpRef.actAt (argX m c) (argM m c) (argG m c) (argW1 m c) t f := by
  have h : arrU (V5 m ρ) c = _ := (W5_arr m ρ c 2).trans (final1 (V4 m ρ) c)
  rw [h]
  exact act_congr (fun d => h_eq m ρ c t d) fun d => congrFun (w1_kept4 m ρ c) (ix3 1 d f)

/-- The result array after the run. -/
theorem result : W6 m ρ c (Proc.devRef .tc main_v7)
    = MlpRef.out (argX m c) (argM m c) (argG m c) (argW1 m c) (argW2 m c) := by
  refine (W6_arr m ρ c 4).trans ((final2 (V5 m ρ) c).trans (funext fun i => ?_))
  idx_vars i
  rw [MlpRef.out_apply]
  exact congrArg₂ (· + ·) ((congrFun (x_kept5 m ρ c) (ix2 i0 i1)).trans (x_entry m ρ c i0 i1))
    (congrArg₂ (· * ·) ((congrFun (m_kept5 m ρ c) _).trans (m_entry m ρ c _))
      (Finset.sum_congr rfl fun f _ => congrArg₂ (· * ·) (u_eq m ρ c i0 f)
        (congrFun (w2_kept5 m ρ c) (ix3 1 f i1))))

set_option backward.isDefEq.respectTransparency.types false in
/-- The run of the MLP's program: the reference's function of the arguments is left. -/
theorem run : θ_run defs (onTc (τ := τ) (main (F := Ideal))) ⟨m, fun _ => 0, ρ⟩ fun r => ∀ c : Dev nD,
      r.2.mem ((c.tc : Thread nD τ).loc main_v7)
        = MlpRef.out (argX m c) (argM m c) (argG m c) (argW1 m c) (argW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v7 (by decide))).trans (result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.Proof.Mlp
-- ==== Proof.GluRef.lean ====
/-
# The convolution module's first product in the reference, entry by entry

The reference's host operations (the modulated norm, the product with bias, the gate) read at one row
and column of the result.
-/
module

public import proofs.«01_k».proof.Proof.Gen.GluReferenceIdeal.Run
public import proofs.«01_k».proof.Proof.MlpMath

@[expose] public section

set_option maxRecDepth 16384

noncomputable section

namespace Cert.Proof.GluRef

open Cert.GluReferenceIdeal Cert.GluReferenceIdeal.Gen
open Idealize.ShloMosaic Idealize.ShloMosaic.TcCoe Idealize.ShloMosaic.Tactic
open Cert.Proof.MlpMath

/-- The convolution layer's modulation row. -/
def row (mods : Vec Ideal S2x1x24576 .f32) : Vec Ideal S1x1x24576 .f32 :=
  broadcastInDim S1x1x24576 ![0, 2] bcast_S1x24576_S1x1x24576_0_2
    (shapeCast S1x24576 (extractStridedSlice S1x1x24576 ![1, 0, 0] mods
      slices_S2x1x24576_S1x1x24576_1_0_0) shapeCasts_S1x1x24576_S1x24576)

/-- A row's number for every column. -/
def wide (v : Vec Ideal S1x1x4096 .f32) : Vec Ideal S1x8192x4096 .f32 :=
  broadcastInDim S1x8192x4096 ![0, 1, 2] bcast_S1x1x4096_S1x8192x4096_0_1_2 v

/-- One over the root mean square of each row. -/
def inv (x : Vec Ideal S1x8192x4096 .f32) : FVec Ideal S1x8192x1 .f32 :=
  Host.rsqrt (addf (Host.divf (broadcastInDim S1x8192x1 ![0, 1] bcast_S1x8192_S1x8192x1_0_1
    (Host.reduceAdd (mulf x x) (constant S_ .f32 0x00000000#32)
      reducesTo_S1x8192x4096_S1x8192_d2 h_S_))
    (broadcastInDim S1x8192x1 ![] bcast_S_S1x8192x1 (constant S_ .f32 0x45800000#32)))
    (broadcastInDim S1x8192x1 ![] bcast_S_S1x8192x1 (constant S_ .f32 0x358637BD#32)))

/-- The modulated norm. -/
def norm (x : Vec Ideal S1x8192x4096 .f32) (mods : Vec Ideal S2x1x24576 .f32)
    (g : Vec Ideal S2x4096 .f32) : FVec Ideal S1x8192x4096 .f32 :=
  addf (mulf (mulf (mulf x (broadcastInDim S1x8192x4096 ![0, 1, 2]
      bcast_S1x8192x1_S1x8192x4096_0_1_2 (inv x)))
    (wide (broadcastInDim S1x1x4096 ![2] bcast_S4096_S1x1x4096_2
      (shapeCast S4096 (extractStridedSlice S1x4096 ![1, 0] g slices_S2x4096_S1x4096_1_0)
        shapeCasts_S1x4096_S4096))))
    (wide (addf (F := Ideal) (φ := .f32) (broadcastInDim S1x1x4096 ![] bcast_S_S1x1x4096 (constant S_ .f32 0x3F800000#32))
      (extractStridedSlice S1x1x4096 ![0, 0, 4096] (row mods)
        slices_S1x1x24576_S1x1x4096_0_0_4096))))
    (wide (extractStridedSlice S1x1x4096 ![0, 0, 0] (row mods)
      slices_S1x1x24576_S1x1x4096_0_0_0))

/-- The product with its bias. -/
def proj (h : FVec Ideal S1x8192x4096 .f32) (w : Vec Ideal S1x4096x8192 .f32)
    (b : Vec Ideal S1x8192 .f32) : FVec Ideal S1x8192x8192 .f32 :=
  addf (Host.dotGeneral (F := Ideal) (φ₁ := .f32) (φ₂ := .f32)
      dot_S1x8192x4096_S4096x8192_S1x8192x8192_2_0_01_1_n_n none h
      (shapeCast S4096x8192 w shapeCasts_S1x4096x8192_S4096x8192))
    (broadcastInDim S1x8192x8192 ![0, 1, 2] bcast_S1x1x8192_S1x8192x8192_0_1_2
      (broadcastInDim S1x1x8192 ![2] bcast_S8192_S1x1x8192_2
        (shapeCast S8192 b shapeCasts_S1x8192_S8192)))

/-- The number one in every entry. -/
def ones : FVec Ideal S1x8192x4096 .f32 :=
  broadcastInDim S1x8192x4096 ![] bcast_S_S1x8192x4096 (constant S_ .f32 0x3F800000#32)

/-- The first half of the columns times the logistic function of the second. -/
def last (z : FVec Ideal S1x8192x8192 .f32) : Vec Ideal S8192x4096 .bf16 :=
  truncf (F := Ideal) .bf16 (shapeCast S8192x4096 (mulf (F := Ideal) (φ := .f32)
    (extractStridedSlice S1x8192x4096 ![0, 0, 0] z slices_S1x8192x8192_S1x8192x4096_0_0_0)
    (Host.divf ones (addf ones (Host.exp (Host.negf (F := Ideal) (φ := .f32)
      (extractStridedSlice S1x8192x4096 ![0, 0, 4096] z
        slices_S1x8192x8192_S1x8192x4096_0_0_4096))))))
    shapeCasts_S1x8192x4096_S8192x4096) bitsLt_bf16_f32

/-- The reference's result from its arguments. -/
def out (x : Vec Ideal S1x8192x4096 .f32) (mods : Vec Ideal S2x1x24576 .f32)
    (g : Vec Ideal S2x4096 .f32) (w : Vec Ideal S1x4096x8192 .f32)
    (b : Vec Ideal S1x8192 .f32) : Vec Ideal S8192x4096 .bf16 :=
  last (proj (norm x mods g) w b)

variable (x : Vec Ideal S1x8192x4096 .f32) (mods : Vec Ideal S2x1x24576 .f32)
  (g : Vec Ideal S2x4096 .f32) (w : Vec Ideal S1x4096x8192 .f32) (b : Vec Ideal S1x8192 .f32)

/-- Row `t` of the norm on coordinates. -/
def hidAt (t : Fin 8192) (d : Fin 4096) : EReal :=
  hid (fun d => x (ix3 0 t d)) (fun d => g (ix2 1 d))
    (fun d => mods (ix3 1 0 ⟨d.val, by omega⟩))
    (fun d => mods (ix3 1 0 ⟨4096 + d.val, by omega⟩)) d

/-- A number times the logistic function of another. -/
def glu (p q : EReal) : EReal := p * Ideal.div 1 (1 + Ideal.exp (-q))

/-- Row `h` times column `n` of the weights, plus the bias. -/
def projAt (h : Fin 4096 → EReal) (n : Fin 8192) : EReal :=
  ∑ d, h d * w (ix3 0 d n) + b (ix2 0 n)

/-- Every entry of the result. -/
def value (t : Fin 8192) (n : Fin 4096) : EReal :=
  glu (projAt w b (hidAt x mods g t) ⟨n.val, by omega⟩)
    (projAt w b (hidAt x mods g t) ⟨4096 + n.val, by omega⟩)

theorem inv_apply (t : Fin 8192) : inv x (ix3 0 t 0)
    = Ideal.rsqrt (Ideal.div (∑ k, x (ix3 0 t k) * x (ix3 0 t k))
      (Ideal.ofBits FTy.f32 0x45800000#32) + Ideal.ofBits FTy.f32 0x358637BD#32) := by
  pointwise [inv]

theorem norm_apply (t : Fin 8192) (d : Fin 4096) :
    norm x mods g (ix3 0 t d) = hidAt x mods g t d := by
  unfold hidAt hid
  rw [← inv_apply]
  generalize hi : inv x = iv
  pointwise [norm, wide, row, hi]

theorem proj_apply (h : FVec Ideal S1x8192x4096 .f32) (t n : Fin 8192) :
    proj h w b (ix3 0 t n) = projAt w b (fun d => h (ix3 0 t d)) n := by
  pointwise [proj, projAt]

theorem last_apply (z : FVec Ideal S1x8192x8192 .f32) (t : Fin 8192) (n : Fin 4096) :
    last z (ix2 t n) = glu (z (ix3 0 t ⟨n.val, by omega⟩)) (z (ix3 0 t ⟨4096 + n.val, by omega⟩)) := by
  pointwise [last, ones, glu]

theorem out_apply (t : Fin 8192) (n : Fin 4096) :
    out x mods g w b (ix2 t n) = value x mods g w b t n := by
  have h : ∀ k, proj (norm x mods g) w b (ix3 0 t k) = projAt w b (hidAt x mods g t) k := fun k =>
    (proj_apply w b _ t k).trans
      (congrArg (projAt w b · k) (funext fun d => norm_apply x mods g t d))
  exact (last_apply _ t n).trans (congrArg₂ glu (h _) (h _))

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46)
        = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run (F := Ideal) m ρ)

end Cert.Proof.GluRef
-- ==== Proof.Glu.lean ====
/-
# The convolution module's norm and first product

The blocks of the two kernels (the modulated norm by blocks of rows; the product of a block of rows with
the same columns of both halves of the weights, gated), their output arrays, and their run: the
reference's function of the arguments.
-/
module

public import proofs.«01_k».proof.Proof.Gen.GluIdeal.Frame
public import proofs.«01_k».proof.Proof.GluRef
public import Idealize.ShloMosaic.Lib.Pipeline.ValueKit

@[expose] public section

set_option maxRecDepth 16384

noncomputable section

namespace Cert.Proof.Glu

open Cert.GluIdeal Cert.GluIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.MlpMath
open Cert.Proof.GluRef (glu)

local notation "𝕄" => MT nD τ sig Unit (Elt Ideal) ℕ (UR sig nD τ) ℕ

theorem pay_norm (x0 : Vec Ideal S512x4096 .f32) (x1 : Vec Ideal S1x4096 .f32)
    (x2 x3 : Vec Ideal S1x8x4096 .f32) (r : Fin 512) (d : Fin 4096) :
    out0_4 x0 x1 x2 x3 (ix2 r d)
      = hid (fun d => x0 (ix2 r d)) (fun d => x1 (ix2 0 d)) (fun d => x2 (ix3 0 0 d))
        (fun d => x3 (ix3 0 0 d)) d := by
  refine (congrFun (View.canon_cons_unit_lit (S := S512x4096)
    inb_S512x4096_S512x4096_0_0 _ [] (by decide)) (ix2 r d)).trans ?_
  pointwise [k0_pay1, hid]

theorem pay_glu (x0 : Vec Ideal S1024x4096 .bf16) (x1 x2 : Vec Ideal S1x4096x256 .f32)
    (x3 x4 : Vec Ideal S1x256 .f32) (r : Fin 1024) (n : Fin 256) : out1_5 x0 x1 x2 x3 x4 (ix2 r n)
      = glu (∑ d, x0 (ix2 r d) * x1 (ix3 0 d n) + x3 (ix2 0 n))
        (∑ d, x0 (ix2 r d) * x2 (ix3 0 d n) + x4 (ix2 0 n)) := by
  refine (congrFun (View.canon_cons_unit_lit (S := S1024x256)
    inb_S1024x256_S1024x256_0_0 _ [] (by decide)) (ix2 r n)).trans ?_
  pointwise [k1_pay1, glu]
  rfl

section Blocks

variable (V : (c : Dev nD) → (b : Ref sig .tc) → Buf (Elt Ideal) ((c : Thread nD τ).loc b)) (c : Dev nD)

/-- The arrays the kernels read, at the contents `V`. -/
abbrev arrX : Vec Ideal S8192x4096 .f32 := V c main_v1
abbrev arrG : Vec Ideal S1x4096 .f32 := V c main_v4
abbrev arrM : Vec Ideal S2x8x24576 .f32 := V c main_v0
abbrev arrH : Vec Ideal S8192x4096 .bf16 := V c main_v5
abbrev arrW : Vec Ideal S1x4096x8192 .f32 := V c main_arg3
abbrev arrP : Vec Ideal S1x4096 .f32 := V c main_v9
abbrev arrQ : Vec Ideal S1x4096 .f32 := V c main_v10

/-! ## The norm -/

theorem lt0 (t : Fin cfg0.N) : t.val < 16 := lt_of_lt_of_eq t.isLt N_0

/-- A row of the array from a row of its block. -/
def row0 (t : Fin cfg0.N) (r : Fin 512) : Fin 8192 := ⟨512 * t.val + r.val, by have := lt0 t; omega⟩

theorem e00 : ∀ t : Fin grid0.N, win0_0.index t = ![t.val, 0] := by decide +kernel
theorem e01 : ∀ t : Fin grid0.N, win0_1.index t = ![0, 0] := by decide +kernel
theorem e02 : ∀ t : Fin grid0.N, win0_2.index t = ![1, 0, 0] := by decide +kernel
theorem e03 : ∀ t : Fin grid0.N, win0_3.index t = ![1, 0, 1] := by decide +kernel
theorem e04 : ∀ t : Fin grid0.N, win0_4.index t = ![t.val, 0] := by decide +kernel

theorem b00 (t : Fin cfg0.N) (r : Fin 512) (d : Fin 4096) :
    iblk0 V c 0 t (ix2 r d) = arrX V c (ix2 (row0 t r) d) := by
  blk_simp [iblk0, e00]
  blk_ext [e00, row0]

theorem b01 (t : Fin cfg0.N) (d : Fin 4096) : iblk0 V c 1 t (ix2 0 d) = arrG V c (ix2 0 d) := by
  blk_simp [iblk0, e01]
  blk_ext [e01]

theorem b02 (t : Fin cfg0.N) (d : Fin 4096) :
    iblk0 V c 2 t (ix3 0 0 d) = arrM V c (ix3 1 0 ⟨d.val, by omega⟩) := by
  blk_simp [iblk0, e02]
  blk_ext [e02]

theorem b03 (t : Fin cfg0.N) (d : Fin 4096) :
    iblk0 V c 3 t (ix3 0 0 d) = arrM V c (ix3 1 0 ⟨4096 + d.val, by omega⟩) := by
  blk_simp [iblk0, e03]
  blk_ext [e03]

/-- Entry (`t`, `d`) of the norm. -/
def normAt (t : Fin 8192) (d : Fin 4096) : EReal :=
  hid (fun d => arrX V c (ix2 t d)) (fun d => arrG V c (ix2 0 d))
    (fun d => arrM V c (ix3 1 0 ⟨d.val, by omega⟩))
    (fun d => arrM V c (ix3 1 0 ⟨4096 + d.val, by omega⟩)) d

theorem block0 (t : Fin cfg0.N) (r : Fin 512) (d : Fin 4096) :
    out0_4 (iblk0 V c 0 t) (iblk0 V c 1 t) (iblk0 V c 2 t) (iblk0 V c 3 t) (ix2 r d)
      = normAt V c (row0 t r) d := by
  refine (pay_norm _ _ _ _ r d).trans ?_
  simp only [normAt, b00, b01, b02, b03]

theorem final0 : (dat0 V c).arrAt 4 cfg0.N = (fun i => normAt V c (i 0) (i 1) : Vec Ideal S8192x4096 .bf16) := by
  refine (dat0 V c).arrAt_eq_of_covers 4 _ (by decide +kernel) fun t hf y => ?_
  obtain ⟨r, d, rfl⟩ : ∃ (r : Fin 512) (d : Fin 4096), y = ix2 r d :=
    ⟨y 0, y 1, funext fun a => by fin_cases a <;> rfl⟩
  blk_simp [e04]
  rw [after0_4]
  have h0 : (win0_4.blk t).view.emb (ix2 r d) 0 = row0 t r := Fin.ext (by
    blk_simp [e04]
    simp only [row0]
    omega)
  have h1 : (win0_4.blk t).view.emb (ix2 r d) 1 = d := Fin.ext (by blk_simp [e04])
  have hb := block0 V c t r d
  generalize out0_4 (iblk0 V c 0 t) (iblk0 V c 1 t) (iblk0 V c 2 t) (iblk0 V c 3 t) = B at hb ⊢
  refine Eq.trans hb ?_
  rw [h0, h1]

/-! ## The gated product -/

theorem lt1 (t : Fin cfg1.N) : t.val < 128 := lt_of_lt_of_eq t.isLt N_1

def row1 (t : Fin cfg1.N) (r : Fin 1024) : Fin 8192 := ⟨1024 * (t.val / 16) + r.val, by have := lt1 t; omega⟩
def col1 (t : Fin cfg1.N) (n : Fin 256) : Fin 4096 := ⟨256 * (t.val % 16) + n.val, by omega⟩

theorem e10 : ∀ t : Fin grid1.N, win1_0.index t = ![t.val / 16, 0] := by decide +kernel
theorem e11 : ∀ t : Fin grid1.N, win1_1.index t = ![0, 0, t.val % 16] := by decide +kernel
theorem e12 : ∀ t : Fin grid1.N, win1_2.index t = ![0, 0, 16 + t.val % 16] := by decide +kernel
theorem e13 : ∀ t : Fin grid1.N, win1_3.index t = ![0, t.val % 16] := by decide +kernel
theorem e14 : ∀ t : Fin grid1.N, win1_4.index t = ![0, t.val % 16] := by decide +kernel
theorem e15 : ∀ t : Fin grid1.N, win1_5.index t = ![t.val / 16, t.val % 16] := by decide +kernel

theorem b10 (t : Fin cfg1.N) (r : Fin 1024) (d : Fin 4096) :
    iblk1 V c 0 t (ix2 r d) = arrH V c (ix2 (row1 t r) d) := by
  blk_simp [iblk1, e10]
  blk_ext [e10, row1]

theorem b11 (t : Fin cfg1.N) (d : Fin 4096) (n : Fin 256) : iblk1 V c 1 t (ix3 0 d n)
    = arrW V c (ix3 0 d ⟨(col1 t n).val, by have := (col1 t n).isLt; omega⟩) := by
  blk_simp [iblk1, e11]
  blk_ext [e11, col1]

theorem b12 (t : Fin cfg1.N) (d : Fin 4096) (n : Fin 256) : iblk1 V c 2 t (ix3 0 d n)
    = arrW V c (ix3 0 d ⟨4096 + (col1 t n).val, by have := (col1 t n).isLt; omega⟩) := by
  blk_simp [iblk1, e12]
  blk_ext [e12, col1]

theorem b13 (t : Fin cfg1.N) (n : Fin 256) : iblk1 V c 3 t (ix2 0 n) = arrP V c (ix2 0 (col1 t n)) := by
  blk_simp [iblk1, e13]
  blk_ext [e13, col1]

theorem b14 (t : Fin cfg1.N) (n : Fin 256) : iblk1 V c 4 t (ix2 0 n) = arrQ V c (ix2 0 (col1 t n)) := by
  blk_simp [iblk1, e14]
  blk_ext [e14, col1]

/-- Entry (`t`, `n`) of the result. -/
def resAt (t : Fin 8192) (n : Fin 4096) : EReal :=
  glu (∑ d, arrH V c (ix2 t d) * arrW V c (ix3 0 d ⟨n.val, by omega⟩) + arrP V c (ix2 0 n))
    (∑ d, arrH V c (ix2 t d) * arrW V c (ix3 0 d ⟨4096 + n.val, by omega⟩) + arrQ V c (ix2 0 n))

theorem block1 (t : Fin cfg1.N) (r : Fin 1024) (n : Fin 256) :
    out1_5 (iblk1 V c 0 t) (iblk1 V c 1 t) (iblk1 V c 2 t) (iblk1 V c 3 t) (iblk1 V c 4 t) (ix2 r n)
      = resAt V c (row1 t r) (col1 t n) := by
  refine (pay_glu _ _ _ _ _ r n).trans ?_
  simp only [resAt, b10, b11, b12, b13, b14]

theorem final1 : (dat1 V c).arrAt 5 cfg1.N = (fun i => resAt V c (i 0) (i 1) : Vec Ideal S8192x4096 .bf16) := by
  refine (dat1 V c).arrAt_eq_of_covers 5 _ (by decide +kernel) fun t hf y => ?_
  obtain ⟨r, n, rfl⟩ : ∃ (r : Fin 1024) (n : Fin 256), y = ix2 r n :=
    ⟨y 0, y 1, funext fun a => by fin_cases a <;> rfl⟩
  blk_simp [e15]
  rw [after1_5]
  have h0 : (win1_5.blk t).view.emb (ix2 r n) 0 = row1 t r := Fin.ext (by
    blk_simp [e15]
    simp only [row1]
    omega)
  have h1 : (win1_5.blk t).view.emb (ix2 r n) 1 = col1 t n := Fin.ext (by
    blk_simp [e15]
    simp only [col1]
    omega)
  have hb := block1 V c t r n
  generalize out1_5 (iblk1 V c 0 t) (iblk1 V c 1 t) (iblk1 V c 2 t) (iblk1 V c 3 t) (iblk1 V c 4 t) = B
    at hb ⊢
  refine Eq.trans hb ?_
  rw [h0, h1]

end Blocks

/-! ## The run -/

variable (m : (ℓ : Loc nD τ sig) → Buf (Elt Ideal) ℓ) (ρ : Dev nD → PrngReg) (c : Dev nD)

/-- The arguments. -/
abbrev argX : Vec Ideal S1x8192x4096 .f32 := m ((c.tc : Thread nD τ).loc main_arg0)
abbrev argM : Vec Ideal S2x1x24576 .f32 := m ((c.tc : Thread nD τ).loc main_arg1)
abbrev argG : Vec Ideal S2x4096 .f32 := m ((c.tc : Thread nD τ).loc main_arg2)
abbrev argW : Vec Ideal S1x4096x8192 .f32 := m ((c.tc : Thread nD τ).loc main_arg3)
abbrev argB : Vec Ideal S1x8192 .f32 := m ((c.tc : Thread nD τ).loc main_arg4)

theorem x_entry (t : Fin 8192) (d : Fin 4096) :
    arrX (V3 m ρ) c (ix2 t d) = argX m c (ix3 0 t d) := by
  unfold arrX
  simp only [V3, W3, W2, W1, hostOps0, hostOps0_1, hostOps0_2]
  entry_read
  pointwise

theorem g_entry (d : Fin 4096) : arrG (V3 m ρ) c (ix2 0 d) = argG m c (ix2 1 d) := by
  unfold arrG
  simp only [V3, W3, W2, W1, hostOps0, hostOps0_1, hostOps0_2]
  entry_read
  pointwise

theorem m_entry (n : Fin 24576) :
    arrM (V3 m ρ) c (ix3 1 0 n) = argM m c (ix3 1 0 n) := by
  unfold arrM
  simp only [V3, W3, W2, W1, hostOps0, hostOps0_1, hostOps0_2]
  entry_read
  simp -implicitDefEqProofs only [StableHlo.TRef.toBuf, StableHlo.TRef.ofBuf, cast_cast, cast_eq]
  pointwise

/-- The biases that the host lines between the kernels make. -/
theorem p_eq (n : Fin 4096) :
    arrP (V5 m ρ) c (ix2 0 n) = argB m c (ix2 0 ⟨n.val, by omega⟩) := by
  have h := W4_args m ρ c main_arg4 (by decide)
  unfold arrP
  simp only [V5, W5, hostOps1]
  generalize W4 m ρ c = A at h ⊢
  entry_read
  pointwise [h]

theorem q_eq (n : Fin 4096) :
    arrQ (V5 m ρ) c (ix2 0 n) = argB m c (ix2 0 ⟨4096 + n.val, by omega⟩) := by
  have h := W4_args m ρ c main_arg4 (by decide)
  unfold arrQ
  simp only [V5, W5, hostOps1]
  generalize W4 m ρ c = A at h ⊢
  entry_read
  pointwise [h]

theorem w_kept : arrW (V5 m ρ) c = argW m c := W5_args m ρ c main_arg3 (by decide)

theorem h_eq (t : Fin 8192) (d : Fin 4096) : arrH (V5 m ρ) c (ix2 t d)
    = GluRef.hidAt (argX m c) (argM m c) (argG m c) t d := by
  have h : arrH (V5 m ρ) c = _ := (W5_of m ρ c main_v5 (by decide)).trans
    ((W4_arr m ρ c 4).trans (final0 (V3 m ρ) c))
  rw [h]
  exact hid_congr (fun d => x_entry m ρ c t d) (fun d => g_entry m ρ c d)
    (fun d => m_entry m ρ c _) (fun d => m_entry m ρ c _) d

/-- The result array after the run. -/
theorem result : W6 m ρ c (Proc.devRef .tc main_v11)
    = GluRef.out (argX m c) (argM m c) (argG m c) (argW m c) (argB m c) := by
  refine (W6_arr m ρ c 5).trans ((final1 (V5 m ρ) c).trans (funext fun i => ?_))
  idx_vars i
  rw [GluRef.out_apply]
  exact congrArg₂ glu
    (congrArg₂ (· + ·) (Finset.sum_congr rfl fun d _ => congrArg₂ (· * ·) (h_eq m ρ c i0 d)
      (congrFun (w_kept m ρ c) _)) (p_eq m ρ c i1))
    (congrArg₂ (· + ·) (Finset.sum_congr rfl fun d _ => congrArg₂ (· * ·) (h_eq m ρ c i0 d)
      (congrFun (w_kept m ρ c) _)) (q_eq m ρ c i1))

set_option backward.isDefEq.respectTransparency.types false in
/-- The run of the norm and the product: the reference's function of the arguments is left. -/
theorem run : θ_run defs (onTc (τ := τ) (main (F := Ideal))) ⟨m, fun _ => 0, ρ⟩ fun r => ∀ c : Dev nD,
      r.2.mem ((c.tc : Thread nD τ).loc main_v11)
        = GluRef.out (argX m c) (argM m c) (argG m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v11 (by decide))).trans (result m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.Proof.Glu
-- ==== Proof.ConvOutRef.lean ====
/-
# The convolution module's last product in the reference, entry by entry
-/
module

public import proofs.«01_k».proof.Proof.Gen.ConvOutReferenceIdeal.Run
public import Idealize.ShloMosaic.Lib.Pointwise

@[expose] public section

set_option maxRecDepth 16384

noncomputable section

namespace Cert.Proof.ConvOutRef

open Cert.ConvOutReferenceIdeal Cert.ConvOutReferenceIdeal.Gen
open Idealize.ShloMosaic Idealize.ShloMosaic.TcCoe Idealize.ShloMosaic.Tactic

/-- The gate's row of the convolution layer, for every row of the result. -/
def gate (mods : Vec Ideal S2x1x24576 .f32) : Vec Ideal S1x8192x4096 .f32 :=
  broadcastInDim S1x8192x4096 ![0, 1, 2] bcast_S1x1x4096_S1x8192x4096_0_1_2
    (extractStridedSlice S1x1x4096 ![0, 0, 8192] (broadcastInDim S1x1x24576 ![0, 2]
      bcast_S1x24576_S1x1x24576_0_2 (shapeCast S1x24576 (extractStridedSlice S1x1x24576 ![1, 0, 0] mods
        slices_S2x1x24576_S1x1x24576_1_0_0) shapeCasts_S1x1x24576_S1x24576))
      slices_S1x1x24576_S1x1x4096_0_0_8192)

/-- The bias, for every row of the result. -/
def bias (b : Vec Ideal S1x4096 .f32) : Vec Ideal S8192x4096 .f32 :=
  broadcastInDim S8192x4096 ![0, 1] bcast_S1x4096_S8192x4096_0_1
    (broadcastInDim S1x4096 ![1] bcast_S4096_S1x4096_1 (shapeCast S4096 b shapeCasts_S1x4096_S4096))

/-- The reference's result from its arguments. -/
def out (v : Vec Ideal S8192x4096 .bf16) (x : Vec Ideal S1x8192x4096 .f32)
    (mods : Vec Ideal S2x1x24576 .f32) (w : Vec Ideal S1x4096x4096 .f32)
    (b : Vec Ideal S1x4096 .f32) : Vec Ideal S8192x4096 .f32 :=
  shapeCast S8192x4096 (addf x (mulf (gate mods) (broadcastInDim S1x8192x4096 ![1, 2]
    bcast_S8192x4096_S1x8192x4096_1_2 (addf (F := Ideal) (φ := .f32)
      (Host.dotGeneral (F := Ideal) (φ₁ := .f32) (φ₂ := .f32)
        dot_S8192x4096_S4096x4096_S8192x4096_1_0_0_1_n_n none
        (extf (F := Ideal) .f32 v bitsLt_bf16_f32) (shapeCast S4096x4096 w shapeCasts_S1x4096x4096_S4096x4096))
      (bias b))))) shapeCasts_S1x8192x4096_S8192x4096

theorem out_apply (v : Vec Ideal S8192x4096 .bf16) (x : Vec Ideal S1x8192x4096 .f32)
    (mods : Vec Ideal S2x1x24576 .f32) (w : Vec Ideal S1x4096x4096 .f32)
    (b : Vec Ideal S1x4096 .f32) (t : Fin 8192) (n : Fin 4096) :
    out v x mods w b (ix2 t n) = x (ix3 0 t n) + mods (ix3 1 0 ⟨8192 + n.val, by omega⟩)
      * (∑ f, v (ix2 t f) * w (ix3 0 f n) + b (ix2 0 n)) := by
  pointwise [out, gate, bias]

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
        = out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans rfl, (h c).2⟩) (Value.run (F := Ideal) m ρ)

end Cert.Proof.ConvOutRef
-- ==== Proof.ConvOut.lean ====
/-
# The convolution module's last product

The kernel's blocks, its whole output, and its run: the reference's function of the arguments.
-/
module

public import proofs.«01_k».proof.Proof.Gen.ConvOutIdeal.Value
public import proofs.«01_k».proof.Proof.ConvOutRef
public import Idealize.ShloMosaic.Lib.Pipeline.ValueKit

@[expose] public section

set_option maxRecDepth 16384

noncomputable section

namespace Cert.Proof.ConvOut

open Cert.ConvOutIdeal Cert.ConvOutIdeal.Gen
open Idealize.ShloMosaic Idealize.ShloMosaic.TcCoe Idealize.ShloMosaic.Tactic
open Idealize.ShloMosaic.Pipeline

theorem pay (x0 : Vec Ideal S1024x4096 .bf16) (x1 : Vec Ideal S1x4096x512 .f32)
    (x2 : Vec Ideal S1x512 .f32) (x3 : Vec Ideal S1024x512 .f32) (x4 : Vec Ideal S1x8x512 .f32)
    (r : Fin 1024) (n : Fin 512) : out0_5 x0 x1 x2 x3 x4 (ix2 r n)
      = x3 (ix2 r n) + x4 (ix3 0 0 n) * (∑ f, x0 (ix2 r f) * x1 (ix3 0 f n) + x2 (ix2 0 n)) := by
  refine (congrFun (View.canon_cons_unit_lit (S := S1024x512)
    inb_S1024x512_S1024x512_0_0 _ [] (by decide)) (ix2 r n)).trans ?_
  pointwise [k0_pay1]

variable (m : (ℓ : Loc nD τ sig) → Buf (Elt Ideal) ℓ) (ρ : Dev nD → PrngReg) (c : Dev nD)

/-- The arguments, and the arrays that the host lines make of them. -/
abbrev argV : Vec Ideal S8192x4096 .bf16 := m ((c.tc : Thread nD τ).loc main_arg0)
abbrev argX : Vec Ideal S1x8192x4096 .f32 := m ((c.tc : Thread nD τ).loc main_arg1)
abbrev argM : Vec Ideal S2x1x24576 .f32 := m ((c.tc : Thread nD τ).loc main_arg2)
abbrev argW : Vec Ideal S1x4096x4096 .f32 := m ((c.tc : Thread nD τ).loc main_arg3)
abbrev argB : Vec Ideal S1x4096 .f32 := m ((c.tc : Thread nD τ).loc main_arg4)
abbrev arrM : Vec Ideal S2x8x24576 .f32 := V m c main_v0
abbrev arrX : Vec Ideal S8192x4096 .f32 := V m c main_v2
abbrev arrB : Vec Ideal S1x4096 .f32 := V m c main_v3
abbrev arrV : Vec Ideal S8192x4096 .bf16 := V m c main_arg0
abbrev arrW : Vec Ideal S1x4096x4096 .f32 := V m c main_arg3

theorem x_entry (t : Fin 8192) (d : Fin 4096) : arrX m c (ix2 t d) = argX m c (ix3 0 t d) := by
  unfold arrX
  simp only [V, hostOps0, hostOps0_1, hostOps0_2, List.flatten_cons, List.flatten_nil,
    List.append_nil, List.cons_append, List.nil_append]
  entry_read
  pointwise

theorem b_entry (d : Fin 4096) : arrB m c (ix2 0 d) = argB m c (ix2 0 d) := by
  unfold arrB
  simp only [V, hostOps0, hostOps0_1, hostOps0_2, List.flatten_cons, List.flatten_nil,
    List.append_nil, List.cons_append, List.nil_append]
  entry_read
  pointwise

theorem m_entry (n : Fin 24576) : arrM m c (ix3 1 0 n) = argM m c (ix3 1 0 n) := by
  unfold arrM
  simp only [V, hostOps0, hostOps0_1, hostOps0_2, List.flatten_cons, List.flatten_nil,
    List.append_nil, List.cons_append, List.nil_append]
  entry_read
  simp -implicitDefEqProofs only [StableHlo.TRef.toBuf, StableHlo.TRef.ofBuf, cast_cast, cast_eq]
  pointwise

theorem lt0 (t : Fin cfg0.N) : t.val < 64 := lt_of_lt_of_eq t.isLt N_0

/-- The array's row and column of a block's row and column. -/
def row (t : Fin cfg0.N) (r : Fin 1024) : Fin 8192 := ⟨1024 * (t.val / 8) + r.val, by have := lt0 t; omega⟩
def col (t : Fin cfg0.N) (n : Fin 512) : Fin 4096 := ⟨512 * (t.val % 8) + n.val, by omega⟩

theorem e0 : ∀ t : Fin grid0.N, win0_0.index t = ![t.val / 8, 0] := by decide +kernel
theorem e1 : ∀ t : Fin grid0.N, win0_1.index t = ![0, 0, t.val % 8] := by decide +kernel
theorem e2 : ∀ t : Fin grid0.N, win0_2.index t = ![0, t.val % 8] := by decide +kernel
theorem e3 : ∀ t : Fin grid0.N, win0_3.index t = ![t.val / 8, t.val % 8] := by decide +kernel
theorem e4 : ∀ t : Fin grid0.N, win0_4.index t = ![1, 0, 16 + t.val % 8] := by decide +kernel
theorem e5 : ∀ t : Fin grid0.N, win0_5.index t = ![t.val / 8, t.val % 8] := by decide +kernel

theorem b0 (t : Fin cfg0.N) (r : Fin 1024) (f : Fin 4096) :
    iblk m c 0 t (ix2 r f) = arrV m c (ix2 (row t r) f) := by
  blk_simp [iblk, e0]
  blk_ext [e0, row]

theorem b1 (t : Fin cfg0.N) (f : Fin 4096) (n : Fin 512) :
    iblk m c 1 t (ix3 0 f n) = arrW m c (ix3 0 f (col t n)) := by
  blk_simp [iblk, e1]
  blk_ext [e1, col]

theorem b2 (t : Fin cfg0.N) (n : Fin 512) : iblk m c 2 t (ix2 0 n) = arrB m c (ix2 0 (col t n)) := by
  blk_simp [iblk, e2]
  blk_ext [e2, col]

theorem b3 (t : Fin cfg0.N) (r : Fin 1024) (n : Fin 512) :
    iblk m c 3 t (ix2 r n) = arrX m c (ix2 (row t r) (col t n)) := by
  blk_simp [iblk, e3]
  blk_ext [e3, row, col]

theorem b4 (t : Fin cfg0.N) (n : Fin 512) : iblk m c 4 t (ix3 0 0 n)
    = arrM m c (ix3 1 0 ⟨8192 + (col t n).val, by have := (col t n).isLt; omega⟩) := by
  blk_simp [iblk, e4]
  blk_ext [e4, col]

/-- Entry (`t`, `n`) of the result. -/
def resAt (t : Fin 8192) (n : Fin 4096) : EReal :=
  arrX m c (ix2 t n) + arrM m c (ix3 1 0 ⟨8192 + n.val, by omega⟩)
    * (∑ f, arrV m c (ix2 t f) * arrW m c (ix3 0 f n) + arrB m c (ix2 0 n))

theorem block (t : Fin cfg0.N) (r : Fin 1024) (n : Fin 512) :
    out0_5 (iblk m c 0 t) (iblk m c 1 t) (iblk m c 2 t) (iblk m c 3 t) (iblk m c 4 t) (ix2 r n)
      = resAt m c (row t r) (col t n) := by
  refine (pay _ _ _ _ _ r n).trans ?_
  simp only [resAt, b0, b1, b2, b3, b4]

theorem final : (dats m 0 c).arrAt 5 cfg0.N
    = (fun i => resAt m c (i 0) (i 1) : Vec Ideal S8192x4096 .f32) := by
  refine (dats m 0 c).arrAt_eq_of_covers 5 _ (by decide +kernel) fun t hf y => ?_
  obtain ⟨r, n, rfl⟩ : ∃ (r : Fin 1024) (n : Fin 512), y = ix2 r n :=
    ⟨y 0, y 1, funext fun a => by fin_cases a <;> rfl⟩
  blk_simp [e5]
  rw [after0_5]
  have h0 : (win0_5.blk t).view.emb (ix2 r n) 0 = row t r := Fin.ext (by
    blk_simp [e5]
    simp only [row]
    omega)
  have h1 : (win0_5.blk t).view.emb (ix2 r n) 1 = col t n := Fin.ext (by
    blk_simp [e5]
    simp only [col]
    omega)
  have hb := block m c t r n
  generalize out0_5 (iblk m c 0 t) (iblk m c 1 t) (iblk m c 2 t) (iblk m c 3 t) (iblk m c 4 t) = B at hb ⊢
  refine Eq.trans hb ?_
  rw [h0, h1]

theorem result : (dats m 0 c).arrAt 5 cfg0.N
    = ConvOutRef.out (argV m c) (argX m c) (argM m c) (argW m c) (argB m c) := by
  refine (final m c).trans (funext fun i => ?_)
  idx_vars i
  rw [ConvOutRef.out_apply]
  exact congrArg₂ (· + ·) (x_entry m c i0 i1) (congrArg₂ (· * ·) (m_entry m c _)
    (congrArg₂ (· + ·) (Finset.sum_congr rfl fun f _ => congrArg₂ (· * ·) (congrFun (V_main_arg0 m c) (ix2 i0 f))
      (congrFun (V_main_arg3 m c) (ix3 0 f i1))) (b_entry m c i1)))

/-- The run of the product: the reference's function of the arguments is left. -/
theorem run : θ_run defs (onTc (τ := τ) (main (F := Ideal))) ⟨m, fun _ => 0, ρ⟩ fun r => ∀ c : Dev nD,
      r.2.mem ((c.tc : Thread nD τ).loc main_v4)
        = ConvOutRef.out (argV m c) (argX m c) (argM m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result m c), (h c).2⟩)
    (Value.run_blocks (F := Ideal) m ρ)

end Cert.Proof.ConvOut
-- ==== Proof.AttOutRef.lean ====
/-
# The attention's output projection in the reference, entry by entry
-/
module

public import proofs.«01_k».proof.Proof.Gen.AttOutReferenceIdeal.Run
public import Idealize.ShloMosaic.Lib.Pointwise

@[expose] public section

set_option maxRecDepth 16384

noncomputable section

namespace Cert.Proof.AttOutRef

open Cert.AttOutReferenceIdeal Cert.AttOutReferenceIdeal.Gen
open Idealize.ShloMosaic Idealize.ShloMosaic.TcCoe Idealize.ShloMosaic.Tactic

/-- The gate's row of the attention layer, for every row of the result. -/
def gate (mods : Vec Ideal S2x1x24576 .f32) : Vec Ideal S1x8192x4096 .f32 :=
  broadcastInDim S1x8192x4096 ![0, 1, 2] bcast_S1x1x4096_S1x8192x4096_0_1_2
    (extractStridedSlice S1x1x4096 ![0, 0, 8192] (broadcastInDim S1x1x24576 ![0, 2]
      bcast_S1x24576_S1x1x24576_0_2 (shapeCast S1x24576 (extractStridedSlice S1x1x24576 ![0, 0, 0] mods
        slices_S2x1x24576_S1x1x24576_0_0_0) shapeCasts_S1x1x24576_S1x24576))
      slices_S1x1x24576_S1x1x4096_0_0_8192)

/-- The reference's result from its arguments. -/
def out (o : Vec Ideal S8192x4096 .bf16) (x : Vec Ideal S1x8192x4096 .f32)
    (mods : Vec Ideal S2x1x24576 .f32) (w : Vec Ideal S1x4096x4096 .f32) : Vec Ideal S8192x4096 .f32 :=
  shapeCast S8192x4096 (addf x (mulf (gate mods) (broadcastInDim S1x8192x4096 ![1, 2]
    bcast_S8192x4096_S1x8192x4096_1_2 (Host.dotGeneral (F := Ideal) (φ₁ := .f32) (φ₂ := .f32)
      dot_S8192x4096_S4096x4096_S8192x4096_1_0_0_1_n_n none
      (extf (F := Ideal) .f32 o bitsLt_bf16_f32) (shapeCast S4096x4096 w shapeCasts_S1x4096x4096_S4096x4096)))))
    shapeCasts_S1x8192x4096_S8192x4096

theorem out_apply (o : Vec Ideal S8192x4096 .bf16) (x : Vec Ideal S1x8192x4096 .f32)
    (mods : Vec Ideal S2x1x24576 .f32) (w : Vec Ideal S1x4096x4096 .f32) (t : Fin 8192) (n : Fin 4096) :
    out o x mods w (ix2 t n) = x (ix3 0 t n) + mods (ix3 0 0 ⟨8192 + n.val, by omega⟩)
      * ∑ f, o (ix2 t f) * w (ix3 0 f n) := by
  pointwise [out, gate]

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Value.run (F := Ideal) m ρ)

end Cert.Proof.AttOutRef
-- ==== Proof.AttOut.lean ====
/-
# The attention's output projection

The kernel's blocks, its whole output, and its run: the reference's function of the arguments.
-/
module

public import proofs.«01_k».proof.Proof.Gen.AttOutIdeal.Value
public import proofs.«01_k».proof.Proof.AttOutRef
public import Idealize.ShloMosaic.Lib.Pipeline.ValueKit

@[expose] public section

set_option maxRecDepth 16384

noncomputable section

namespace Cert.Proof.AttOut

open Cert.AttOutIdeal Cert.AttOutIdeal.Gen
open Idealize.ShloMosaic Idealize.ShloMosaic.TcCoe Idealize.ShloMosaic.Tactic
open Idealize.ShloMosaic.Pipeline

theorem pay (x0 : Vec Ideal S1024x4096 .bf16) (x1 : Vec Ideal S1x4096x512 .f32)
    (x2 : Vec Ideal S1024x512 .f32) (x3 : Vec Ideal S1x8x512 .f32) (r : Fin 1024) (n : Fin 512) :
    out0_4 x0 x1 x2 x3 (ix2 r n)
      = x2 (ix2 r n) + x3 (ix3 0 0 n) * ∑ f, x0 (ix2 r f) * x1 (ix3 0 f n) := by
  refine (congrFun (View.canon_cons_unit_lit (S := S1024x512)
    inb_S1024x512_S1024x512_0_0 _ [] (by decide)) (ix2 r n)).trans ?_
  pointwise [k0_pay1]

variable (m : (ℓ : Loc nD τ sig) → Buf (Elt Ideal) ℓ) (ρ : Dev nD → PrngReg) (c : Dev nD)

/-- The arguments, and the arrays that the host lines make of them. -/
abbrev argO : Vec Ideal S8192x4096 .bf16 := m ((c.tc : Thread nD τ).loc main_arg0)
abbrev argX : Vec Ideal S1x8192x4096 .f32 := m ((c.tc : Thread nD τ).loc main_arg1)
abbrev argM : Vec Ideal S2x1x24576 .f32 := m ((c.tc : Thread nD τ).loc main_arg2)
abbrev argW : Vec Ideal S1x4096x4096 .f32 := m ((c.tc : Thread nD τ).loc main_arg3)
abbrev arrM : Vec Ideal S2x8x24576 .f32 := V m c main_v0
abbrev arrX : Vec Ideal S8192x4096 .f32 := V m c main_v1
abbrev arrO : Vec Ideal S8192x4096 .bf16 := V m c main_arg0
abbrev arrW : Vec Ideal S1x4096x4096 .f32 := V m c main_arg3

theorem x_entry (t : Fin 8192) (d : Fin 4096) : arrX m c (ix2 t d) = argX m c (ix3 0 t d) := by
  unfold arrX
  simp only [V, hostOps0, hostOps0_1, hostOps0_2, List.flatten_cons, List.flatten_nil,
    List.append_nil, List.cons_append, List.nil_append]
  entry_read
  pointwise

theorem m_entry (n : Fin 24576) : arrM m c (ix3 0 0 n) = argM m c (ix3 0 0 n) := by
  unfold arrM
  simp only [V, hostOps0, hostOps0_1, hostOps0_2, List.flatten_cons, List.flatten_nil,
    List.append_nil, List.cons_append, List.nil_append]
  entry_read
  simp -implicitDefEqProofs only [StableHlo.TRef.toBuf, StableHlo.TRef.ofBuf, cast_cast, cast_eq]
  pointwise

theorem lt0 (t : Fin cfg0.N) : t.val < 64 := lt_of_lt_of_eq t.isLt N_0

/-- The array's row and column of a block's row and column. -/
def row (t : Fin cfg0.N) (r : Fin 1024) : Fin 8192 := ⟨1024 * (t.val / 8) + r.val, by have := lt0 t; omega⟩
def col (t : Fin cfg0.N) (n : Fin 512) : Fin 4096 := ⟨512 * (t.val % 8) + n.val, by omega⟩

theorem e0 : ∀ t : Fin grid0.N, win0_0.index t = ![t.val / 8, 0] := by decide +kernel
theorem e1 : ∀ t : Fin grid0.N, win0_1.index t = ![0, 0, t.val % 8] := by decide +kernel
theorem e2 : ∀ t : Fin grid0.N, win0_2.index t = ![t.val / 8, t.val % 8] := by decide +kernel
theorem e3 : ∀ t : Fin grid0.N, win0_3.index t = ![0, 0, 16 + t.val % 8] := by decide +kernel
theorem e4 : ∀ t : Fin grid0.N, win0_4.index t = ![t.val / 8, t.val % 8] := by decide +kernel

theorem b0 (t : Fin cfg0.N) (r : Fin 1024) (f : Fin 4096) :
    iblk m c 0 t (ix2 r f) = arrO m c (ix2 (row t r) f) := by
  blk_simp [iblk, e0]
  blk_ext [e0, row]

theorem b1 (t : Fin cfg0.N) (f : Fin 4096) (n : Fin 512) :
    iblk m c 1 t (ix3 0 f n) = arrW m c (ix3 0 f (col t n)) := by
  blk_simp [iblk, e1]
  blk_ext [e1, col]

theorem b2 (t : Fin cfg0.N) (r : Fin 1024) (n : Fin 512) :
    iblk m c 2 t (ix2 r n) = arrX m c (ix2 (row t r) (col t n)) := by
  blk_simp [iblk, e2]
  blk_ext [e2, row, col]

theorem b3 (t : Fin cfg0.N) (n : Fin 512) : iblk m c 3 t (ix3 0 0 n)
    = arrM m c (ix3 0 0 ⟨8192 + (col t n).val, by have := (col t n).isLt; omega⟩) := by
  blk_simp [iblk, e3]
  blk_ext [e3, col]

/-- Entry (`t`, `n`) of the result. -/
def resAt (t : Fin 8192) (n : Fin 4096) : EReal :=
  arrX m c (ix2 t n) + arrM m c (ix3 0 0 ⟨8192 + n.val, by omega⟩)
    * ∑ f, arrO m c (ix2 t f) * arrW m c (ix3 0 f n)

theorem block (t : Fin cfg0.N) (r : Fin 1024) (n : Fin 512) :
    out0_4 (iblk m c 0 t) (iblk m c 1 t) (iblk m c 2 t) (iblk m c 3 t) (ix2 r n)
      = resAt m c (row t r) (col t n) := by
  refine (pay _ _ _ _ r n).trans ?_
  simp only [resAt, b0, b1, b2, b3]

theorem final : (dats m 0 c).arrAt 4 cfg0.N
    = (fun i => resAt m c (i 0) (i 1) : Vec Ideal S8192x4096 .f32) := by
  refine (dats m 0 c).arrAt_eq_of_covers 4 _ (by decide +kernel) fun t hf y => ?_
  obtain ⟨r, n, rfl⟩ : ∃ (r : Fin 1024) (n : Fin 512), y = ix2 r n :=
    ⟨y 0, y 1, funext fun a => by fin_cases a <;> rfl⟩
  blk_simp [e4]
  rw [after0_4]
  have h0 : (win0_4.blk t).view.emb (ix2 r n) 0 = row t r := Fin.ext (by
    blk_simp [e4]
    simp only [row]
    omega)
  have h1 : (win0_4.blk t).view.emb (ix2 r n) 1 = col t n := Fin.ext (by
    blk_simp [e4]
    simp only [col]
    omega)
  have hb := block m c t r n
  generalize out0_4 (iblk m c 0 t) (iblk m c 1 t) (iblk m c 2 t) (iblk m c 3 t) = B at hb ⊢
  refine Eq.trans hb ?_
  rw [h0, h1]

theorem result : (dats m 0 c).arrAt 4 cfg0.N
    = AttOutRef.out (argO m c) (argX m c) (argM m c) (argW m c) := by
  refine (final m c).trans (funext fun i => ?_)
  idx_vars i
  rw [AttOutRef.out_apply]
  exact congrArg₂ (· + ·) (x_entry m c i0 i1) (congrArg₂ (· * ·) (m_entry m c _)
    (Finset.sum_congr rfl fun f _ => congrArg₂ (· * ·) (congrFun (V_main_arg0 m c) (ix2 i0 f))
      (congrFun (V_main_arg3 m c) (ix3 0 f i1))))

/-- The run of the projection: the reference's function of the arguments is left. -/
theorem run : θ_run defs (onTc (τ := τ) (main (F := Ideal))) ⟨m, fun _ => 0, ρ⟩ fun r => ∀ c : Dev nD,
      r.2.mem ((c.tc : Thread nD τ).loc main_v2)
        = AttOutRef.out (argO m c) (argX m c) (argM m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result m c), (h c).2⟩)
    (Value.run_blocks (F := Ideal) m ρ)

end Cert.Proof.AttOut
-- ==== Proof.AttInQkRef.lean ====
/-
# The attention's input product for the neighbourhood's queries and keys in the reference

The reference's host operations (the product, the norm of every head, the queries' factor) read at one
row and column of the result.
-/
module

public import proofs.«01_k».proof.Proof.Gen.AttInQkReferenceIdeal.Run
public import Idealize.ShloMosaic.Lib.Pointwise

@[expose] public section

set_option maxRecDepth 16384

noncomputable section

namespace Cert.Proof.AttInQkRef

open Cert.AttInQkReferenceIdeal Cert.AttInQkReferenceIdeal.Gen
open Idealize.ShloMosaic Idealize.ShloMosaic.TcCoe Idealize.ShloMosaic.Tactic

/-- The product of the rows and the weights. -/
def prod (h : Vec Ideal S8192x4096 .bf16) (w : Vec Ideal S1x4096x8256 .f32) :
    FVec Ideal S8192x8256 .f32 :=
  Host.dotGeneral (F := Ideal) (φ₁ := .f32) (φ₂ := .f32)
    dot_S8192x4096_S4096x8256_S8192x8256_1_0_0_1_n_n none
    (extf (F := Ideal) .f32 h bitsLt_bf16_f32) (shapeCast S4096x8256 w shapeCasts_S1x4096x8256_S4096x8256)

/-- The queries' columns, head by head. -/
def headsQ (z : FVec Ideal S8192x8256 .f32) : FVec Ideal S8192x16x128 .f32 :=
  shapeCast S8192x16x128 (extractStridedSlice S8192x2048 ![0, 0] z slices_S8192x8256_S8192x2048_0_0)
    shapeCasts_S8192x2048_S8192x16x128

/-- The keys' columns, head by head. -/
def headsK (z : FVec Ideal S8192x8256 .f32) : FVec Ideal S8192x16x128 .f32 :=
  shapeCast S8192x16x128 (extractStridedSlice S8192x2048 ![0, 2048] z
    slices_S8192x8256_S8192x2048_0_2048) shapeCasts_S8192x2048_S8192x16x128

/-- One over the root mean square of each head. -/
def inv (x : FVec Ideal S8192x16x128 .f32) : FVec Ideal S8192x16x1 .f32 :=
  Host.rsqrt (addf (Host.divf (broadcastInDim S8192x16x1 ![0, 1] bcast_S8192x16_S8192x16x1_0_1
    (Host.reduceAdd (mulf x x) (constant S_ .f32 0x00000000#32)
      reducesTo_S8192x16x128_S8192x16_d2 h_S_))
    (broadcastInDim S8192x16x1 ![] bcast_S_S8192x16x1 (constant S_ .f32 0x43000000#32)))
    (broadcastInDim S8192x16x1 ![] bcast_S_S8192x16x1 (constant S_ .f32 0x358637BD#32)))

/-- The normed heads with their gain. -/
def norm (x : FVec Ideal S8192x16x128 .f32) (g : Vec Ideal S1x128 .f32) :
    FVec Ideal S8192x16x128 .f32 :=
  mulf (mulf x (broadcastInDim S8192x16x128 ![0, 1, 2] bcast_S8192x16x1_S8192x16x128_0_1_2 (inv x)))
    (broadcastInDim S8192x16x128 ![0, 1, 2] bcast_S1x1x128_S8192x16x128_0_1_2
      (broadcastInDim S1x1x128 ![2] bcast_S128_S1x1x128_2 (shapeCast S128 g shapeCasts_S1x128_S128)))

/-- The number the queries are divided by, in every entry. -/
def factor : FVec Ideal S8192x16x128 .f32 :=
  broadcastInDim S8192x16x128 ![] bcast_S_S8192x16x128 (mulf (Host.sqrt (constant S_ .f32 0x43000000#32))
    (Host.log (constant S_ .f32 0x40000000#32)))

/-- Two arrays of heads side by side. -/
def join (q k : FVec Ideal S8192x16x128 .f32) : Vec Ideal S8192x4096 .bf16 :=
  truncf (F := Ideal) .bf16 (concatenate S8192x4096 1
    [⟨S8192x2048, (shapeCast S8192x2048 q shapeCasts_S8192x16x128_S8192x2048 : Vec Ideal S8192x2048 .f32)⟩,
     ⟨S8192x2048, (shapeCast S8192x2048 k shapeCasts_S8192x16x128_S8192x2048 : Vec Ideal S8192x2048 .f32)⟩]
    concatenates_S8192x2048_S8192x2048_S8192x4096_d1 : FVec Ideal S8192x4096 .f32) bitsLt_bf16_f32

/-- The reference's result from its arguments. -/
def out (h : Vec Ideal S8192x4096 .bf16) (w : Vec Ideal S1x4096x8256 .f32)
    (gq gk : Vec Ideal S1x128 .f32) : Vec Ideal S8192x4096 .bf16 :=
  join (Host.divf (norm (headsQ (prod h w)) gq) factor) (norm (headsK (prod h w)) gk)

/-- Entry `k` of a head over the head's root mean square, times `g`. -/
def headAt (z : Fin 128 → EReal) (g : EReal) (k : Fin 128) : EReal :=
  z k * Ideal.rsqrt (Ideal.div (∑ j, z j * z j) (Ideal.ofBits FTy.f32 0x43000000#32)
    + Ideal.ofBits FTy.f32 0x358637BD#32) * g

/-- The factor on the queries. -/
def scale : EReal :=
  Ideal.div 1 (Ideal.sqrt (Ideal.ofBits FTy.f32 0x43000000#32)
    * Ideal.log (Ideal.ofBits FTy.f32 0x40000000#32))

theorem div_factor (x : EReal) : Ideal.div x (Ideal.sqrt (Ideal.ofBits FTy.f32 0x43000000#32)
    * Ideal.log (Ideal.ofBits FTy.f32 0x40000000#32)) = x * scale := by
  have h128 : Ideal.ofBits FTy.f32 0x43000000#32 = ((128 : ℝ) : EReal) := by
    simp [Ideal.ofBits, Ideal.ieee, -EReal.coe_mul]
    norm_num
  have h2 : Ideal.ofBits FTy.f32 0x40000000#32 = ((2 : ℝ) : EReal) := by
    simp [Ideal.ofBits, Ideal.ieee, -EReal.coe_mul]
    norm_num
  have hl : Ideal.log ((2 : ℝ) : EReal) = ((Real.log 2 : ℝ) : EReal) := by
    rw [Ideal.log_coe, if_neg (by norm_num)]
  have h0 : (√128 * Real.log 2 : ℝ) ≠ 0 := by
    have : (0 : ℝ) < Real.log 2 := Real.log_pos (by norm_num)
    positivity
  unfold scale
  rw [h128, h2, hl, Ideal.sqrt_coe, if_neg (by norm_num), ← EReal.coe_mul, Ideal.div_coe h0,
    Ideal.div_coe h0, one_mul]

variable (h : Vec Ideal S8192x4096 .bf16) (w : Vec Ideal S1x4096x8256 .f32)
  (gq gk : Vec Ideal S1x128 .f32)

/-- Entry (`t`, `n`) of the product. -/
def prodAt (t : Fin 8192) (n : Fin 8256) : EReal := ∑ f, h (ix2 t f) * w (ix3 0 f n)

theorem prod_apply (t : Fin 8192) (n : Fin 8256) : prod h w (ix2 t n) = prodAt h w t n := by
  pointwise [prod, prodAt]

theorem headsQ_apply (z : FVec Ideal S8192x8256 .f32) (t : Fin 8192) (a : Fin 16) (k : Fin 128) :
    headsQ z (ix3 t a k) = z (ix2 t ⟨a.val * 128 + k.val, by omega⟩) := by
  pointwise [headsQ]

theorem headsK_apply (z : FVec Ideal S8192x8256 .f32) (t : Fin 8192) (a : Fin 16) (k : Fin 128) :
    headsK z (ix3 t a k) = z (ix2 t ⟨2048 + (a.val * 128 + k.val), by omega⟩) := by
  pointwise [headsK]

theorem inv_apply (x : FVec Ideal S8192x16x128 .f32) (t : Fin 8192) (a : Fin 16) :
    inv x (ix3 t a 0) = Ideal.rsqrt (Ideal.div (∑ k, x (ix3 t a k) * x (ix3 t a k))
      (Ideal.ofBits FTy.f32 0x43000000#32) + Ideal.ofBits FTy.f32 0x358637BD#32) := by
  pointwise [inv]

theorem norm_apply (x : FVec Ideal S8192x16x128 .f32) (g : Vec Ideal S1x128 .f32) (t : Fin 8192)
    (a : Fin 16) (k : Fin 128) :
    norm x g (ix3 t a k) = headAt (fun k => x (ix3 t a k)) (g (ix2 0 k)) k := by
  unfold headAt
  rw [← inv_apply]
  generalize hi : inv x = iv
  pointwise [norm, hi]

theorem divf_apply (x : FVec Ideal S8192x16x128 .f32) (t : Fin 8192) (a : Fin 16) (k : Fin 128) :
    Host.divf x factor (ix3 t a k) = x (ix3 t a k) * scale := by
  rw [← div_factor]
  pointwise [factor]

theorem join_apply (q k : FVec Ideal S8192x16x128 .f32) (t : Fin 8192) (n : Fin 4096) :
    join q k (ix2 t n) = if h : n.val < 2048
      then q (ix3 t ⟨n.val / 128, by omega⟩ ⟨n.val % 128, by omega⟩)
      else k (ix3 t ⟨(n.val - 2048) / 128, by omega⟩ ⟨(n.val - 2048) % 128, by omega⟩) := by
  pointwise [join]

/-- The gain of a column: the queries' holds their factor. -/
def gainAt (n : Fin 4096) : EReal :=
  if n.val < 2048 then gq (ix2 0 ⟨n.val % 128, by omega⟩) * scale
    else gk (ix2 0 ⟨n.val % 128, by omega⟩)

/-- Every entry of the result: its head normed, times its column's gain. -/
def value (t : Fin 8192) (n : Fin 4096) : EReal :=
  headAt (fun j => prodAt h w t ⟨n.val / 128 * 128 + j.val, by omega⟩) (gainAt gq gk n)
    ⟨n.val % 128, by omega⟩

theorem headAt_scale (z : Fin 128 → EReal) (g s : EReal) (k : Fin 128) :
    headAt z g k * s = headAt z (g * s) k := mul_assoc _ _ _

theorem out_apply (t : Fin 8192) (n : Fin 4096) :
    out h w gq gk (ix2 t n) = value h w gq gk t n := by
  refine (join_apply _ _ t n).trans ?_
  unfold value gainAt
  by_cases hn : n.val < 2048
  · rw [dif_pos hn, if_pos hn, divf_apply, norm_apply, headAt_scale]
    simp only [headsQ_apply, prod_apply]
  · have hk : (⟨(n.val - 2048) % 128, by omega⟩ : Fin 128) = ⟨n.val % 128, by omega⟩ :=
      Fin.ext (by dsimp only; omega)
    rw [dif_neg hn, if_neg hn, norm_apply, hk]
    refine congrArg (headAt · _ _) (funext fun j => ?_)
    rw [headsK_apply, prod_apply]
    exact congrArg (prodAt h w t) (Fin.ext (by dsimp only; omega))

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43)
        = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (Value.run (F := Ideal) m ρ)

end Cert.Proof.AttInQkRef
-- ==== Proof.AttInQk.lean ====
/-
# The attention's input product for the neighbourhood's queries and keys

The kernel's blocks (a block of rows times a block of columns of the transposed weights, every head of
the block normed and multiplied by its gain), its whole output, and its run: the reference's function
of the arguments.
-/
module

public import proofs.«01_k».proof.Proof.Gen.AttInQkIdeal.Value
public import proofs.«01_k».proof.Proof.AttInQkRef
public import Idealize.ShloMosaic.Lib.Pipeline.ValueKit

@[expose] public section

set_option maxRecDepth 16384

noncomputable section

namespace Cert.Proof.AttInQk

open Cert.AttInQkIdeal Cert.AttInQkIdeal.Gen
open Idealize.ShloMosaic Idealize.ShloMosaic.TcCoe Idealize.ShloMosaic.Tactic
open Idealize.ShloMosaic.Pipeline
open Cert.Proof.AttInQkRef (headAt scale gainAt prodAt value)

theorem pay_prod (x0 : Vec Ideal S1024x4096 .bf16) (x1 : Vec Ideal S1x512x4096 .f32) (r : Fin 1024)
    (n : Fin 512) : k0_pay2 x0 x1 (ix2 r n) = ∑ f, x0 (ix2 r f) * x1 (ix3 0 n f) := by
  pointwise [k0_pay2]

/-- An entry of a head, at columns given by their numbers. -/
theorem headAt_of (z : Vec Ideal S1024x512 .f32) (g : Vec Ideal S1x512 .f32) (r : Fin 1024)
    (n p : Fin 512) (u : Fin 128 → Fin 512) (hp : p.val = n.val)
    (hu : ∀ j, (u j).val = n.val / 128 * 128 + j.val) :
    z (ix2 r p) * Ideal.rsqrt (Ideal.div (∑ j, z (ix2 r (u j)) * z (ix2 r (u j)))
        (Ideal.ofBits FTy.f32 0x43000000#32) + Ideal.ofBits FTy.f32 0x358637BD#32) * g (ix2 0 p)
      = headAt (fun j => z (ix2 r ⟨n.val / 128 * 128 + j.val, by omega⟩)) (g (ix2 0 n))
        ⟨n.val % 128, by omega⟩ := by
  obtain rfl : p = n := Fin.ext hp
  have hu' : u = fun j => ⟨p.val / 128 * 128 + j.val, by omega⟩ := funext fun j => Fin.ext (hu j)
  have hn : (⟨p.val / 128 * 128 + p.val % 128, by omega⟩ : Fin 512) = p := Fin.ext (by dsimp only; omega)
  unfold headAt
  rw [hu']
  dsimp only
  rw [hn]

theorem pay (x0 : Vec Ideal S1024x4096 .bf16) (x1 : Vec Ideal S1x512x4096 .f32)
    (x2 : Vec Ideal S1x512 .f32) (r : Fin 1024) (n : Fin 512) :
    k0_pay1 (k0_pay2 x0 x1) (k0_pay3 x2) (k0_pay4 x0 x1 x2) (k0_pay5 x0 x1 x2) (k0_pay6 x0 x1)
        (k0_pay7 x0 x1) (ix2 r n)
      = headAt (fun j => k0_pay2 x0 x1 (ix2 r ⟨n.val / 128 * 128 + j.val, by omega⟩)) (x2 (ix2 0 n))
        ⟨n.val % 128, by omega⟩ := by
  unfold k0_pay4 k0_pay5 k0_pay7 k0_pay6
  generalize k0_pay2 x0 x1 = z
  pointwise [k0_pay1, k0_pay3]
  split_ifs
  all_goals
    exact headAt_of z x2 r n _ _ (by dsimp only <;> omega) (fun j => by dsimp only; omega)

variable (m : (ℓ : Loc nD τ sig) → Buf (Elt Ideal) ℓ) (ρ : Dev nD → PrngReg) (c : Dev nD)

/-- The arguments, and the arrays that the host lines make of them. -/
abbrev argH : Vec Ideal S8192x4096 .bf16 := m ((c.tc : Thread nD τ).loc main_arg0)
abbrev argW : Vec Ideal S1x4096x8256 .f32 := m ((c.tc : Thread nD τ).loc main_arg1)
abbrev argGq : Vec Ideal S1x128 .f32 := m ((c.tc : Thread nD τ).loc main_arg2)
abbrev argGk : Vec Ideal S1x128 .f32 := m ((c.tc : Thread nD τ).loc main_arg3)
abbrev arrH : Vec Ideal S8192x4096 .bf16 := V m c main_arg0
abbrev arrW : Vec Ideal S1x8256x4096 .f32 := V m c main_v14
abbrev arrG : Vec Ideal S1x4096 .f32 := V m c main_v16

theorem w_entry (n : Fin 8256) (f : Fin 4096) : arrW m c (ix3 0 n f) = argW m c (ix3 0 f n) := by
  unfold arrW
  simp only [V, hostOps0]
  entry_read
  pointwise

/-- A column's gain, with a key's column counted from the first key. -/
theorem gain_cases (gq gk : Vec Ideal S1x128 .f32) (n : Fin 4096) :
    (if h : n.val < 2048 then gq (ix2 0 ⟨n.val % 128, by omega⟩) * scale
      else gk (ix2 0 ⟨(n.val - 2048) % 128, by omega⟩)) = gainAt gq gk n := by
  unfold gainAt
  by_cases hn : n.val < 2048
  · exact (dif_pos hn).trans (if_pos hn).symm
  · have hk : (⟨(n.val - 2048) % 128, by omega⟩ : Fin 128) = ⟨n.val % 128, by omega⟩ :=
      Fin.ext (by dsimp only; omega)
    rw [dif_neg hn, if_neg hn, hk]

theorem g_entry (n : Fin 4096) : arrG m c (ix2 0 n) = gainAt (argGq m c) (argGk m c) n := by
  unfold arrG
  simp only [V, hostOps0]
  entry_read
  rw [← gain_cases]
  unfold scale
  pointwise

theorem lt0 (t : Fin cfg0.N) : t.val < 64 := lt_of_lt_of_eq t.isLt N_0

/-- The array's row and column of a block's row and column. -/
def row (t : Fin cfg0.N) (r : Fin 1024) : Fin 8192 := ⟨1024 * (t.val / 8) + r.val, by have := lt0 t; omega⟩
def col (t : Fin cfg0.N) (n : Fin 512) : Fin 4096 := ⟨512 * (t.val % 8) + n.val, by omega⟩

theorem e0 : ∀ t : Fin grid0.N, win0_0.index t = ![t.val / 8, 0] := by decide +kernel
theorem e1 : ∀ t : Fin grid0.N, win0_1.index t = ![0, t.val % 8, 0] := by decide +kernel
theorem e2 : ∀ t : Fin grid0.N, win0_2.index t = ![0, t.val % 8] := by decide +kernel
theorem e3 : ∀ t : Fin grid0.N, win0_3.index t = ![t.val / 8, t.val % 8] := by decide +kernel

theorem b0 (t : Fin cfg0.N) (r : Fin 1024) (f : Fin 4096) :
    iblk m c 0 t (ix2 r f) = arrH m c (ix2 (row t r) f) := by
  blk_simp [iblk, e0]
  blk_ext [e0, row]

theorem b1 (t : Fin cfg0.N) (n : Fin 512) (f : Fin 4096) :
    X0_1 m c t (ix3 0 n f)
      = arrW m c (ix3 0 ⟨(col t n).val, by have := (col t n).isLt; omega⟩ f) := by
  unfold X0_1 Window.fill
  rw [dif_pos (moved0_1 t _)]
  blk_simp [iblk, e1]
  blk_ext [e1, col]

theorem b2 (t : Fin cfg0.N) (n : Fin 512) :
    iblk m c 2 t (ix2 0 n) = arrG m c (ix2 0 (col t n)) := by
  blk_simp [iblk, e2]
  blk_ext [e2, col]

/-- Entry (`t`, `n`) of the result. -/
def resAt (t : Fin 8192) (n : Fin 4096) : EReal :=
  value (argH m c) (argW m c) (argGq m c) (argGk m c) t n

theorem block (t : Fin cfg0.N) (r : Fin 1024) (n : Fin 512) :
    outsAt0 m c t (ix2 r n) = resAt m c (row t r) (col t n) := by
  unfold outsAt0
  frame_out
  refine (pay _ _ _ r n).trans ?_
  unfold resAt value prodAt
  rw [b2, g_entry]
  have hk : (⟨n.val % 128, by omega⟩ : Fin 128) = ⟨(col t n).val % 128, by omega⟩ :=
    Fin.ext (by simp only [col]; omega)
  rw [hk]
  refine congrArg (headAt · _ _) (funext fun j => ?_)
  refine (pay_prod _ _ r _).trans (Finset.sum_congr rfl fun f _ => ?_)
  rw [b0, b1, w_entry]
  refine congrArg₂ (· * ·) (congrFun (V_main_arg0 m c) _) (congrArg (fun x => argW m c (ix3 0 f x)) (Fin.ext ?_))
  simp only [col]
  omega

theorem final : (dats m 0 c).arrAt 3 cfg0.N
    = (fun i => resAt m c (i 0) (i 1) : Vec Ideal S8192x4096 .bf16) := by
  refine (dats m 0 c).arrAt_eq_of_covers 3 _ (by decide +kernel) fun t hf y => ?_
  obtain ⟨r, n, rfl⟩ : ∃ (r : Fin 1024) (n : Fin 512), y = ix2 r n :=
    ⟨y 0, y 1, funext fun a => by fin_cases a <;> rfl⟩
  blk_simp [e3]
  rw [after0_3]
  have h0 : (win0_3.blk t).view.emb (ix2 r n) 0 = row t r := Fin.ext (by
    blk_simp [e3]
    simp only [row]
    omega)
  have h1 : (win0_3.blk t).view.emb (ix2 r n) 1 = col t n := Fin.ext (by
    blk_simp [e3]
    simp only [col]
    omega)
  have hb := block m c t r n
  generalize outsAt0 m c t = B at hb ⊢
  refine Eq.trans hb ?_
  rw [h0, h1]

theorem result : (dats m 0 c).arrAt 3 cfg0.N
    = AttInQkRef.out (argH m c) (argW m c) (argGq m c) (argGk m c) := by
  refine (final m c).trans (funext fun i => ?_)
  idx_vars i
  exact (AttInQkRef.out_apply _ _ _ _ i0 i1).symm

/-- The run of the product: the reference's function of the arguments is left. -/
theorem run : θ_run defs (onTc (τ := τ) (main (F := Ideal))) ⟨m, fun _ => 0, ρ⟩ fun r => ∀ c : Dev nD,
      r.2.mem ((c.tc : Thread nD τ).loc main_v17)
        = AttInQkRef.out (argH m c) (argW m c) (argGq m c) (argGk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result m c), (h c).2⟩)
    (Value.run_blocks (F := Ideal) m ρ)

end Cert.Proof.AttInQk
-- ==== Proof.AttInMath.lean ====
/-
# A range of the in-projection's columns

What the products for the values and for the two latent ranges share: an entry of a range of columns, and
the place of a tile's row and column in the whole array.
-/
module

public import Idealize.ShloMosaic.Lib.Pointwise

@[expose] public section

noncomputable section

namespace Cert.Proof.AttInMath

open Idealize.ShloMosaic

/-- Entry (`t`, `n`) of the `C` columns from `o` on. -/
def colSum (o : ℕ) {C : ℕ} (ho : o + C ≤ 8256) (h : Fin 8192 → Fin 4096 → EReal)
    (w : Fin 4096 → Fin 8256 → EReal) (t : Fin 8192) (n : Fin C) : EReal :=
  ∑ f, h t f * w f ⟨o + n.val, by omega⟩

theorem colSum_congr (o : ℕ) {C : ℕ} (ho : o + C ≤ 8256) {h h' : Fin 8192 → Fin 4096 → EReal}
    {w w' : Fin 4096 → Fin 8256 → EReal} (hh : ∀ t f, h t f = h' t f) (hw : ∀ f n, w f n = w' f n)
    (t : Fin 8192) (n : Fin C) : colSum o ho h w t n = colSum o ho h' w' t n :=
  Finset.sum_congr rfl fun f _ => congrArg₂ (· * ·) (hh t f) (hw f _)

/-- The row of the array at row `r` of tile `t`, with `T` tiles of 512 columns beside each other. -/
def row (T t : ℕ) (ht : t < T * 8) (r : Fin 1024) : Fin 8192 :=
  ⟨1024 * (t / T) + r.val, by have := Nat.div_lt_of_lt_mul ht; omega⟩

/-- The column of the array at column `n` of tile `t`. -/
def col (T t : ℕ) (hT : 0 < T) {C : ℕ} (hC : 512 * T = C) (n : Fin 512) : Fin C :=
  ⟨512 * (t % T) + n.val, by have := Nat.mod_lt t hT; generalize t % T = a at *; omega⟩

end Cert.Proof.AttInMath
-- ==== Proof.AttInVRef.lean ====
/-
# The attention's input product for the neighbourhood's values in the reference, entry by entry
-/
module

public import proofs.«01_k».proof.Proof.Gen.AttInVReferenceIdeal.Run
public import proofs.«01_k».proof.Proof.AttInMath

@[expose] public section

set_option maxRecDepth 16384

noncomputable section

namespace Cert.Proof.AttInVRef

open Cert.AttInVReferenceIdeal Cert.AttInVReferenceIdeal.Gen
open Idealize.ShloMosaic Idealize.ShloMosaic.TcCoe Idealize.ShloMosaic.Tactic
open Cert.Proof.AttInMath

/-- The product with every column of the weights. -/
def whole (h : Vec Ideal S8192x4096 .bf16) (w : Vec Ideal S1x4096x8256 .f32) :
    FVec Ideal S8192x8256 .f32 :=
  Host.dotGeneral (F := Ideal) (φ₁ := .f32) (φ₂ := .f32)
    dot_S8192x4096_S4096x8256_S8192x8256_1_0_0_1_n_n none
    (extf (F := Ideal) .f32 h bitsLt_bf16_f32) (shapeCast S4096x8256 w shapeCasts_S1x4096x8256_S4096x8256)

theorem whole_apply (h : Vec Ideal S8192x4096 .bf16) (w : Vec Ideal S1x4096x8256 .f32)
    (t : Fin 8192) (n : Fin 8256) : whole h w (ix2 t n) = ∑ f, h (ix2 t f) * w (ix3 0 f n) := by
  pointwise [whole]

/-- The reference's result from its arguments. -/
def out (h : Vec Ideal S8192x4096 .bf16) (w : Vec Ideal S1x4096x8256 .f32) : Vec Ideal S8192x2048 .bf16 :=
  truncf (F := Ideal) .bf16 (extractStridedSlice S8192x2048 ![0, 4096] (whole h w)
    slices_S8192x8256_S8192x2048_0_4096) bitsLt_bf16_f32

theorem out_apply (h : Vec Ideal S8192x4096 .bf16) (w : Vec Ideal S1x4096x8256 .f32)
    (t : Fin 8192) (n : Fin 2048) : out h w (ix2 t n)
      = colSum 4096 (by decide) (fun t f => h (ix2 t f)) (fun f n => w (ix3 0 f n)) t n := by
  unfold colSum
  rw [← whole_apply]
  pointwise [out]

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Value.run (F := Ideal) m ρ)

end Cert.Proof.AttInVRef
-- ==== Proof.AttInV.lean ====
/-
# The attention's input product for the neighbourhood's values

The kernel's blocks (a block of rows times a block of columns of the transposed weights), its whole
output, and its run: the reference's function of the arguments.
-/
module

public import proofs.«01_k».proof.Proof.Gen.AttInVIdeal.Value
public import proofs.«01_k».proof.Proof.AttInVRef
public import Idealize.ShloMosaic.Lib.Pipeline.ValueKit

@[expose] public section

set_option maxRecDepth 16384

noncomputable section

namespace Cert.Proof.AttInV

open Cert.AttInVIdeal Cert.AttInVIdeal.Gen
open Idealize.ShloMosaic Idealize.ShloMosaic.TcCoe Idealize.ShloMosaic.Tactic
open Idealize.ShloMosaic.Pipeline
open Cert.Proof.AttInMath

theorem pay (x0 : Vec Ideal S1024x4096 .bf16) (x1 : Vec Ideal S1x512x4096 .f32) (r : Fin 1024)
    (n : Fin 512) : k0_pay1 x0 x1 (ix2 r n) = ∑ f, x0 (ix2 r f) * x1 (ix3 0 n f) := by
  pointwise [k0_pay1]

variable (m : (ℓ : Loc nD τ sig) → Buf (Elt Ideal) ℓ) (ρ : Dev nD → PrngReg) (c : Dev nD)

/-- The arguments, and the array that the host line makes of them. -/
abbrev argH : Vec Ideal S8192x4096 .bf16 := m ((c.tc : Thread nD τ).loc main_arg0)
abbrev argW : Vec Ideal S1x4096x8256 .f32 := m ((c.tc : Thread nD τ).loc main_arg1)
abbrev arrH : Vec Ideal S8192x4096 .bf16 := V m c main_arg0
abbrev arrW : Vec Ideal S1x8256x4096 .f32 := V m c main_v0

theorem w_entry (n : Fin 8256) (f : Fin 4096) : arrW m c (ix3 0 n f) = argW m c (ix3 0 f n) := by
  unfold arrW
  simp only [V, hostOps0]
  entry_read
  pointwise

theorem lt0 (t : Fin cfg0.N) : t.val < 32 := lt_of_lt_of_eq t.isLt N_0

/-- The place of a block's row and column in the array: four tiles of columns. -/
abbrev rowOf (t : Fin cfg0.N) (r : Fin 1024) : Fin 8192 := row 4 t.val (lt0 t) r
abbrev colOf (t : Fin cfg0.N) (n : Fin 512) : Fin 2048 := col 4 t.val (by decide) (by decide) n

theorem e0 : ∀ t : Fin grid0.N, win0_0.index t = ![t.val / 4, 0] := by decide +kernel
theorem e1 : ∀ t : Fin grid0.N, win0_1.index t = ![0, 8 + t.val % 4, 0] := by decide +kernel
theorem e2 : ∀ t : Fin grid0.N, win0_2.index t = ![t.val / 4, t.val % 4] := by decide +kernel

theorem b0 (t : Fin cfg0.N) (r : Fin 1024) (f : Fin 4096) :
    iblk m c 0 t (ix2 r f) = arrH m c (ix2 (rowOf t r) f) := by
  blk_simp [iblk, e0]
  blk_ext [e0, row]

theorem b1 (t : Fin cfg0.N) (n : Fin 512) (f : Fin 4096) :
    X0_1 m c t (ix3 0 n f) = arrW m c (ix3 0 ⟨4096 + (colOf t n).val, by omega⟩ f) := by
  unfold X0_1 Window.fill
  rw [dif_pos (moved0_1 t _)]
  blk_simp [iblk, e1]
  blk_ext [e1, col]

/-- Entry (`t`, `n`) of the result. -/
def resAt (t : Fin 8192) (n : Fin 2048) : EReal :=
  colSum 4096 (by decide) (fun t f => arrH m c (ix2 t f)) (fun f n => arrW m c (ix3 0 n f)) t n

theorem block (t : Fin cfg0.N) (r : Fin 1024) (n : Fin 512) :
    outsAt0 m c t (ix2 r n) = resAt m c (rowOf t r) (colOf t n) := by
  unfold outsAt0
  frame_out
  refine (pay _ _ r n).trans ?_
  simp only [resAt, colSum, b0, b1]

theorem final : (dats m 0 c).arrAt 2 cfg0.N
    = (fun i => resAt m c (i 0) (i 1) : Vec Ideal S8192x2048 .bf16) := by
  refine (dats m 0 c).arrAt_eq_of_covers 2 _ (by decide +kernel) fun t hf y => ?_
  obtain ⟨r, n, rfl⟩ : ∃ (r : Fin 1024) (n : Fin 512), y = ix2 r n :=
    ⟨y 0, y 1, funext fun a => by fin_cases a <;> rfl⟩
  blk_simp [e2]
  rw [after0_2]
  have h0 : (win0_2.blk t).view.emb (ix2 r n) 0 = rowOf t r := Fin.ext (by
    blk_simp [e2]
    simp only [row]
    omega)
  have h1 : (win0_2.blk t).view.emb (ix2 r n) 1 = colOf t n := Fin.ext (by
    blk_simp [e2]
    simp only [col]
    omega)
  have hb := block m c t r n
  generalize outsAt0 m c t = B at hb ⊢
  refine Eq.trans hb ?_
  rw [h0, h1]

theorem result : (dats m 0 c).arrAt 2 cfg0.N = AttInVRef.out (argH m c) (argW m c) := by
  refine (final m c).trans (funext fun i => ?_)
  idx_vars i
  rw [AttInVRef.out_apply]
  exact colSum_congr 4096 _ (fun t f => congrFun (V_main_arg0 m c) (ix2 t f))
    (fun f n => w_entry m c n f) i0 i1

/-- The run of the product: the reference's function of the arguments is left. -/
theorem run : θ_run defs (onTc (τ := τ) (main (F := Ideal))) ⟨m, fun _ => 0, ρ⟩ fun r => ∀ c : Dev nD,
      r.2.mem ((c.tc : Thread nD τ).loc main_v1) = AttInVRef.out (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result m c), (h c).2⟩)
    (Value.run_blocks (F := Ideal) m ρ)

end Cert.Proof.AttInV
-- ==== Proof.AttInQLatRef.lean ====
/-
# The attention's input product for the queries' latent columns in the reference, entry by entry

Columns 6144 to 7679 of the product that `AttInVRef` reads.
-/
module

public import proofs.«01_k».proof.Proof.Gen.AttInQLatReferenceIdeal.Run
public import proofs.«01_k».proof.Proof.AttInVRef

@[expose] public section

set_option maxRecDepth 16384

noncomputable section

namespace Cert.Proof.AttInQLatRef

open Cert.AttInQLatReferenceIdeal Cert.AttInQLatReferenceIdeal.Gen
open Idealize.ShloMosaic Idealize.ShloMosaic.TcCoe Idealize.ShloMosaic.Tactic
open Cert.Proof.AttInMath
open Cert.Proof.AttInVRef (whole whole_apply)

/-- The reference's result from its arguments. -/
def out (h : Vec Ideal S8192x4096 .bf16) (w : Vec Ideal S1x4096x8256 .f32) : Vec Ideal S8192x1536 .bf16 :=
  truncf (F := Ideal) .bf16 (extractStridedSlice S8192x1536 ![0, 6144] (whole h w)
    slices_S8192x8256_S8192x1536_0_6144) bitsLt_bf16_f32

theorem out_apply (h : Vec Ideal S8192x4096 .bf16) (w : Vec Ideal S1x4096x8256 .f32)
    (t : Fin 8192) (n : Fin 1536) : out h w (ix2 t n)
      = colSum 6144 (by decide) (fun t f => h (ix2 t f)) (fun f n => w (ix3 0 f n)) t n := by
  unfold colSum
  rw [← whole_apply]
  pointwise [out]

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Value.run (F := Ideal) m ρ)

end Cert.Proof.AttInQLatRef
-- ==== Proof.AttInQLat.lean ====
/-
# The attention's input product for the queries' latent columns

Where this call's blocks lie: three tiles of columns, from column 6144 on. What a tile computes is read in
`AttInV`, the sums and places are those of `AttInMath`.
-/
module

public import proofs.«01_k».proof.Proof.Gen.AttInQLatIdeal.Value
public import proofs.«01_k».proof.Proof.AttInQLatRef
public import proofs.«01_k».proof.Proof.AttInV

@[expose] public section

set_option maxRecDepth 16384

noncomputable section

namespace Cert.Proof.AttInQLat

open Cert.AttInQLatIdeal Cert.AttInQLatIdeal.Gen
open Idealize.ShloMosaic Idealize.ShloMosaic.TcCoe Idealize.ShloMosaic.Tactic
open Idealize.ShloMosaic.Pipeline
open Cert.Proof.AttInMath

variable (m : (ℓ : Loc nD τ sig) → Buf (Elt Ideal) ℓ) (ρ : Dev nD → PrngReg) (c : Dev nD)

/-- The arguments, and the array that the host line makes of them. -/
abbrev argH : Vec Ideal S8192x4096 .bf16 := m ((c.tc : Thread nD τ).loc main_arg0)
abbrev argW : Vec Ideal S1x4096x8256 .f32 := m ((c.tc : Thread nD τ).loc main_arg1)
abbrev arrH : Vec Ideal S8192x4096 .bf16 := V m c main_arg0
abbrev arrW : Vec Ideal S1x8256x4096 .f32 := V m c main_v0

theorem w_entry (n : Fin 8256) (f : Fin 4096) : arrW m c (ix3 0 n f) = argW m c (ix3 0 f n) := by
  unfold arrW
  simp only [V, hostOps0]
  entry_read
  pointwise

theorem lt0 (t : Fin cfg0.N) : t.val < 24 := lt_of_lt_of_eq t.isLt N_0

/-- The place of a block's row and column in the array: three tiles of columns. -/
abbrev rowOf (t : Fin cfg0.N) (r : Fin 1024) : Fin 8192 := row 3 t.val (lt0 t) r
abbrev colOf (t : Fin cfg0.N) (n : Fin 512) : Fin 1536 := col 3 t.val (by decide) (by decide) n

theorem e0 : ∀ t : Fin grid0.N, win0_0.index t = ![t.val / 3, 0] := by decide +kernel
theorem e1 : ∀ t : Fin grid0.N, win0_1.index t = ![0, 12 + t.val % 3, 0] := by decide +kernel
theorem e2 : ∀ t : Fin grid0.N, win0_2.index t = ![t.val / 3, t.val % 3] := by decide +kernel

theorem b0 (t : Fin cfg0.N) (r : Fin 1024) (f : Fin 4096) :
    iblk m c 0 t (ix2 r f) = arrH m c (ix2 (rowOf t r) f) := by
  blk_simp [iblk, e0]
  blk_ext [e0, row]

theorem b1 (t : Fin cfg0.N) (n : Fin 512) (f : Fin 4096) :
    X0_1 m c t (ix3 0 n f) = arrW m c (ix3 0 ⟨6144 + (colOf t n).val, by omega⟩ f) := by
  unfold X0_1 Window.fill
  rw [dif_pos (moved0_1 t _)]
  blk_simp [iblk, e1]
  blk_ext [e1, col]

/-- Entry (`t`, `n`) of the result. -/
def resAt (t : Fin 8192) (n : Fin 1536) : EReal :=
  colSum 6144 (by decide) (fun t f => arrH m c (ix2 t f)) (fun f n => arrW m c (ix3 0 n f)) t n

theorem block (t : Fin cfg0.N) (r : Fin 1024) (n : Fin 512) :
    outsAt0 m c t (ix2 r n) = resAt m c (rowOf t r) (colOf t n) := by
  unfold outsAt0
  frame_out
  refine (AttInV.pay _ _ r n).trans ?_
  simp only [resAt, colSum, b0, b1]

theorem final : (dats m 0 c).arrAt 2 cfg0.N
    = (fun i => resAt m c (i 0) (i 1) : Vec Ideal S8192x1536 .bf16) := by
  refine (dats m 0 c).arrAt_eq_of_covers 2 _ (by decide +kernel) fun t hf y => ?_
  obtain ⟨r, n, rfl⟩ : ∃ (r : Fin 1024) (n : Fin 512), y = ix2 r n :=
    ⟨y 0, y 1, funext fun a => by fin_cases a <;> rfl⟩
  blk_simp [e2]
  rw [after0_2]
  have h0 : (win0_2.blk t).view.emb (ix2 r n) 0 = rowOf t r := Fin.ext (by
    blk_simp [e2]
    simp only [row]
    omega)
  have h1 : (win0_2.blk t).view.emb (ix2 r n) 1 = colOf t n := Fin.ext (by
    blk_simp [e2]
    simp only [col]
    omega)
  have hb := block m c t r n
  generalize outsAt0 m c t = B at hb ⊢
  refine Eq.trans hb ?_
  rw [h0, h1]

theorem result : (dats m 0 c).arrAt 2 cfg0.N = AttInQLatRef.out (argH m c) (argW m c) := by
  refine (final m c).trans (funext fun i => ?_)
  idx_vars i
  rw [AttInQLatRef.out_apply]
  exact colSum_congr 6144 _ (fun t f => congrFun (V_main_arg0 m c) (ix2 t f))
    (fun f n => w_entry m c n f) i0 i1

/-- The run of the product: the reference's function of the arguments is left. -/
theorem run : θ_run defs (onTc (τ := τ) (main (F := Ideal))) ⟨m, fun _ => 0, ρ⟩ fun r => ∀ c : Dev nD,
      r.2.mem ((c.tc : Thread nD τ).loc main_v1) = AttInQLatRef.out (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result m c), (h c).2⟩)
    (Value.run_blocks (F := Ideal) m ρ)

end Cert.Proof.AttInQLat
-- ==== Proof.AttInKvLatRef.lean ====
/-
# The attention's input product for the keys' and values' latent columns in the reference, entry by entry

Columns 7680 to 8191 of the product that `AttInVRef` reads.
-/
module

public import proofs.«01_k».proof.Proof.Gen.AttInKvLatReferenceIdeal.Run
public import proofs.«01_k».proof.Proof.AttInVRef

@[expose] public section

set_option maxRecDepth 16384

noncomputable section

namespace Cert.Proof.AttInKvLatRef

open Cert.AttInKvLatReferenceIdeal Cert.AttInKvLatReferenceIdeal.Gen
open Idealize.ShloMosaic Idealize.ShloMosaic.TcCoe Idealize.ShloMosaic.Tactic
open Cert.Proof.AttInMath
open Cert.Proof.AttInVRef (whole whole_apply)

/-- The reference's result from its arguments. -/
def out (h : Vec Ideal S8192x4096 .bf16) (w : Vec Ideal S1x4096x8256 .f32) : Vec Ideal S8192x512 .bf16 :=
  truncf (F := Ideal) .bf16 (extractStridedSlice S8192x512 ![0, 7680] (whole h w)
    slices_S8192x8256_S8192x512_0_7680) bitsLt_bf16_f32

theorem out_apply (h : Vec Ideal S8192x4096 .bf16) (w : Vec Ideal S1x4096x8256 .f32)
    (t : Fin 8192) (n : Fin 512) : out h w (ix2 t n)
      = colSum 7680 (by decide) (fun t f => h (ix2 t f)) (fun f n => w (ix3 0 f n)) t n := by
  unfold colSum
  rw [← whole_apply]
  pointwise [out]

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Value.run (F := Ideal) m ρ)

end Cert.Proof.AttInKvLatRef
-- ==== Proof.AttInKvLat.lean ====
/-
# The attention's input product for the keys' and values' latent columns

Where this call's blocks lie: one tile of columns, from column 7680 on, so a tile's columns are the
result's. What a tile computes is read in `AttInV`, the sums and places are those of `AttInMath`.
-/
module

public import proofs.«01_k».proof.Proof.Gen.AttInKvLatIdeal.Value
public import proofs.«01_k».proof.Proof.AttInKvLatRef
public import proofs.«01_k».proof.Proof.AttInV

@[expose] public section

set_option maxRecDepth 16384

noncomputable section

namespace Cert.Proof.AttInKvLat

open Cert.AttInKvLatIdeal Cert.AttInKvLatIdeal.Gen
open Idealize.ShloMosaic Idealize.ShloMosaic.TcCoe Idealize.ShloMosaic.Tactic
open Idealize.ShloMosaic.Pipeline
open Cert.Proof.AttInMath

variable (m : (ℓ : Loc nD τ sig) → Buf (Elt Ideal) ℓ) (ρ : Dev nD → PrngReg) (c : Dev nD)

/-- The arguments, and the array that the host line makes of them. -/
abbrev argH : Vec Ideal S8192x4096 .bf16 := m ((c.tc : Thread nD τ).loc main_arg0)
abbrev argW : Vec Ideal S1x4096x8256 .f32 := m ((c.tc : Thread nD τ).loc main_arg1)
abbrev arrH : Vec Ideal S8192x4096 .bf16 := V m c main_arg0
abbrev arrW : Vec Ideal S1x8256x4096 .f32 := V m c main_v0

theorem w_entry (n : Fin 8256) (f : Fin 4096) : arrW m c (ix3 0 n f) = argW m c (ix3 0 f n) := by
  unfold arrW
  simp only [V, hostOps0]
  entry_read
  pointwise

theorem lt0 (t : Fin cfg0.N) : t.val < 8 := lt_of_lt_of_eq t.isLt N_0

/-- The place of a block's row in the array. -/
abbrev rowOf (t : Fin cfg0.N) (r : Fin 1024) : Fin 8192 := row 1 t.val (lt0 t) r

theorem e0 : ∀ t : Fin grid0.N, win0_0.index t = ![t.val / 1, 0] := by decide +kernel
theorem e1 : ∀ t : Fin grid0.N, win0_1.index t = ![0, 15, 0] := by decide +kernel
theorem e2 : ∀ t : Fin grid0.N, win0_2.index t = ![t.val / 1, 0] := by decide +kernel

theorem b0 (t : Fin cfg0.N) (r : Fin 1024) (f : Fin 4096) :
    iblk m c 0 t (ix2 r f) = arrH m c (ix2 (rowOf t r) f) := by
  blk_simp [iblk, e0]
  blk_ext [e0, row]

theorem b1 (t : Fin cfg0.N) (n : Fin 512) (f : Fin 4096) :
    X0_1 m c t (ix3 0 n f) = arrW m c (ix3 0 ⟨7680 + n.val, by omega⟩ f) := by
  unfold X0_1 Window.fill
  rw [dif_pos (moved0_1 t _)]
  blk_simp [iblk, e1]
  blk_ext [e1]

/-- Entry (`t`, `n`) of the result. -/
def resAt (t : Fin 8192) (n : Fin 512) : EReal :=
  colSum 7680 (by decide) (fun t f => arrH m c (ix2 t f)) (fun f n => arrW m c (ix3 0 n f)) t n

theorem block (t : Fin cfg0.N) (r : Fin 1024) (n : Fin 512) :
    outsAt0 m c t (ix2 r n) = resAt m c (rowOf t r) n := by
  unfold outsAt0
  frame_out
  refine (AttInV.pay _ _ r n).trans ?_
  simp only [resAt, colSum, b0, b1]

theorem final : (dats m 0 c).arrAt 2 cfg0.N
    = (fun i => resAt m c (i 0) (i 1) : Vec Ideal S8192x512 .bf16) := by
  refine (dats m 0 c).arrAt_eq_of_covers 2 _ (by decide +kernel) fun t hf y => ?_
  obtain ⟨r, n, rfl⟩ : ∃ (r : Fin 1024) (n : Fin 512), y = ix2 r n :=
    ⟨y 0, y 1, funext fun a => by fin_cases a <;> rfl⟩
  blk_simp [e2]
  rw [after0_2]
  have h0 : (win0_2.blk t).view.emb (ix2 r n) 0 = rowOf t r := Fin.ext (by
    blk_simp [e2]
    simp only [row]
    omega)
  have h1 : (win0_2.blk t).view.emb (ix2 r n) 1 = n := Fin.ext (by blk_simp [e2])
  have hb := block m c t r n
  generalize outsAt0 m c t = B at hb ⊢
  refine Eq.trans hb ?_
  rw [h0, h1]

theorem result : (dats m 0 c).arrAt 2 cfg0.N = AttInKvLatRef.out (argH m c) (argW m c) := by
  refine (final m c).trans (funext fun i => ?_)
  idx_vars i
  rw [AttInKvLatRef.out_apply]
  exact colSum_congr 7680 _ (fun t f => congrFun (V_main_arg0 m c) (ix2 t f))
    (fun f n => w_entry m c n f) i0 i1

/-- The run of the product: the reference's function of the arguments is left. -/
theorem run : θ_run defs (onTc (τ := τ) (main (F := Ideal))) ⟨m, fun _ => 0, ρ⟩ fun r => ∀ c : Dev nD,
      r.2.mem ((c.tc : Thread nD τ).loc main_v1) = AttInKvLatRef.out (argH m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result m c), (h c).2⟩)
    (Value.run_blocks (F := Ideal) m ρ)

end Cert.Proof.AttInKvLat
-- ==== Proof.NormMath.lean ====
/-
# The RMS norm on coordinates
-/
module

public import Idealize.ShloMosaic.Lib.Pointwise

@[expose] public section

noncomputable section

namespace Cert.Proof.NormMath

open Idealize.ShloMosaic

/-- The RMS norm of row `x` with gain `g`; `len` is the row's length as a number. -/
def rms {n : ℕ} (len : EReal) (x g : Fin n → EReal) (d : Fin n) : EReal :=
  x d * Ideal.rsqrt (Ideal.div (∑ k, x k * x k) len + Ideal.ofBits FTy.f32 0x358637BD#32) * g d

theorem rms_congr {n : ℕ} (len : EReal) {x x' g g' : Fin n → EReal} (hx : ∀ d, x d = x' d)
    (hg : ∀ d, g d = g' d) (d : Fin n) : rms len x g d = rms len x' g' d := by
  rw [funext hx, funext hg]

end Cert.Proof.NormMath
-- ==== Proof.QUpRef.lean ====
/-
# The queries' up-projection in the reference, entry by entry

The reference's host operations (the norm of the latent rows, the product, the columns of every head
without a position before those with one) read at one row and column of the result.
-/
module

public import proofs.«01_k».proof.Proof.Gen.QUpReferenceIdeal.Run
public import proofs.«01_k».proof.Proof.NormMath

@[expose] public section

set_option maxRecDepth 16384

noncomputable section

namespace Cert.Proof.QUpRef

open Cert.QUpReferenceIdeal Cert.QUpReferenceIdeal.Gen
open Idealize.ShloMosaic Idealize.ShloMosaic.TcCoe Idealize.ShloMosaic.Tactic
open Cert.Proof.NormMath

/-- One over the root mean square of each row. -/
def inv (x : FVec Ideal S8192x1536 .f32) : FVec Ideal S8192x1 .f32 :=
  Host.rsqrt (addf (Host.divf (broadcastInDim S8192x1 ![0] bcast_S8192_S8192x1_0
    (Host.reduceAdd (mulf x x) (constant S_ .f32 0x00000000#32) reducesTo_S8192x1536_S8192_d1 h_S_))
    (broadcastInDim S8192x1 ![] bcast_S_S8192x1 (constant S_ .f32 0x44C00000#32)))
    (broadcastInDim S8192x1 ![] bcast_S_S8192x1 (constant S_ .f32 0x358637BD#32)))

/-- The normed rows. -/
def norm (x : FVec Ideal S8192x1536 .f32) (g : Vec Ideal S1x1536 .f32) : FVec Ideal S8192x1536 .f32 :=
  mulf (mulf x (broadcastInDim S8192x1536 ![0, 1] bcast_S8192x1_S8192x1536_0_1 (inv x)))
    (broadcastInDim S8192x1536 ![0, 1] bcast_S1x1536_S8192x1536_0_1
      (broadcastInDim S1x1536 ![1] bcast_S1536_S1x1536_1 (shapeCast S1536 g shapeCasts_S1x1536_S1536)))

/-- The product of normed rows and the weights, head by head. -/
def heads (h : FVec Ideal S8192x1536 .f32) (w : Vec Ideal S1x1536x3072 .f32) :
    FVec Ideal S8192x16x192 .f32 :=
  shapeCast S8192x16x192 (Host.dotGeneral (F := Ideal) (φ₁ := .f32) (φ₂ := .f32)
    dot_S8192x1536_S1536x3072_S8192x3072_1_0_0_1_n_n none h
    (shapeCast S1536x3072 w shapeCasts_S1x1536x3072_S1536x3072) : Vec Ideal S8192x3072 .f32)
    shapeCasts_S8192x3072_S8192x16x192

/-- Every head's first 128 columns, then every head's last 64 with 64 zeros. -/
def last (q : Vec Ideal S8192x16x192 .f32) : Vec Ideal S8192x4096 .bf16 :=
  truncf (F := Ideal) .bf16 (concatenate S8192x4096 1
    [⟨S8192x2048, (shapeCast S8192x2048 (extractStridedSlice S8192x16x128 ![0, 0, 0] q
        slices_S8192x16x192_S8192x16x128_0_0_0) shapeCasts_S8192x16x128_S8192x2048 : Vec Ideal S8192x2048 .f32)⟩,
     ⟨S8192x2048, (shapeCast S8192x2048 (pad S8192x16x128 ![0, 0, 0] ![0, 0, 64] ![0, 0, 0]
        (extractStridedSlice S8192x16x64 ![0, 0, 128] q slices_S8192x16x192_S8192x16x64_0_0_128)
        (sitofp (F := Ideal) .f32 (constantI S_ 32 0#32)) pads_S8192x16x64_S8192x16x128_000_000_0640 h_S_)
        shapeCasts_S8192x16x128_S8192x2048 : Vec Ideal S8192x2048 .f32)⟩]
    concatenates_S8192x2048_S8192x2048_S8192x4096_d1 : FVec Ideal S8192x4096 .f32) bitsLt_bf16_f32

/-- The reference's result from its arguments. -/
def out (x : Vec Ideal S8192x1536 .bf16) (g : Vec Ideal S1x1536 .f32)
    (w : Vec Ideal S1x1536x3072 .f32) : Vec Ideal S8192x4096 .bf16 :=
  last (heads (norm (extf (F := Ideal) .f32 x bitsLt_bf16_f32) g) w)

variable (x : Vec Ideal S8192x1536 .bf16) (g : Vec Ideal S1x1536 .f32)
  (w : Vec Ideal S1x1536x3072 .f32)

/-- Row `t` of the norm on coordinates. -/
def hidAt (t : Fin 8192) (d : Fin 1536) : EReal :=
  rms (Ideal.ofBits FTy.f32 0x44C00000#32) (fun d => x (ix2 t d)) (fun d => g (ix2 0 d)) d

/-- The number that column `n` of the result takes from an array of heads: zero in a padded column. -/
def pick (f : Fin 3072 → EReal) (n : Fin 4096) : EReal :=
  if n.val < 2048 then f ⟨n.val / 128 % 16 * 192 + n.val % 128, by omega⟩
  else if n.val % 128 < 64 then f ⟨n.val / 128 % 16 * 192 + (128 + n.val % 128 % 64), by omega⟩
  else 0

theorem inv_apply (x : FVec Ideal S8192x1536 .f32) (t : Fin 8192) : inv x (ix2 t 0)
    = Ideal.rsqrt (Ideal.div (∑ k, x (ix2 t k) * x (ix2 t k))
      (Ideal.ofBits FTy.f32 0x44C00000#32) + Ideal.ofBits FTy.f32 0x358637BD#32) := by
  pointwise [inv]

theorem norm_apply (t : Fin 8192) (d : Fin 1536) :
    norm (extf (F := Ideal) .f32 x bitsLt_bf16_f32) g (ix2 t d) = hidAt x g t d := by
  have hx : ∀ k, (extf (F := Ideal) .f32 x bitsLt_bf16_f32 : FVec Ideal S8192x1536 .f32) (ix2 t k)
      = x (ix2 t k) := fun k => by pointwise
  unfold hidAt rms
  simp only [← hx]
  generalize (extf (F := Ideal) .f32 x bitsLt_bf16_f32 : FVec Ideal S8192x1536 .f32) = y
  rw [← inv_apply]
  generalize hi : inv y = iv
  pointwise [norm, hi]

theorem heads_apply (h : FVec Ideal S8192x1536 .f32) (t : Fin 8192) (a : Fin 16) (k : Fin 192) :
    heads h w (ix3 t a k) = ∑ d, h (ix2 t d) * w (ix3 0 d ⟨a.val * 192 + k.val, by omega⟩) := by
  pointwise [heads]

/-- Column `n` of the two joined halves is the picked column of the heads `q`. -/
theorem halves_eq (q : Fin 16 → Fin 192 → EReal) (n : Fin 4096) :
    (if h : n.val < 2048 then q ⟨n.val / 128, by omega⟩ ⟨n.val % 128, by omega⟩
      else if h' : (n.val - 2048) / 128 < 16 ∧ (n.val - 2048) % 128 < 64 then
        q ⟨(n.val - 2048) / 128, by omega⟩ ⟨128 + (n.val - 2048) % 128, by omega⟩
      else (FloatOps.sitofp FTy.f32 (0#32 : BitVec 32) : Ideal FTy.f32))
      = pick (fun f => q ⟨f.val / 192, by omega⟩ ⟨f.val % 192, by omega⟩) n := by
  have e : ∀ (a a' : Fin 16) (k k' : Fin 192), a = a' → k = k' → q a k = q a' k' := by
    rintro a _ k _ rfl rfl; rfl
  have h0 : (FloatOps.sitofp FTy.f32 (0#32 : BitVec 32) : Ideal FTy.f32) = 0 := by
    simp [FloatOps.sitofp]
  have hn := n.isLt
  unfold pick
  split_ifs with h1 h2 h3 h3 <;> first
    | exact h0
    | (refine e _ _ _ _ (Fin.ext ?_) (Fin.ext ?_) <;> simp only <;> omega)
    | (exfalso; omega)

theorem last_apply (q : Vec Ideal S8192x16x192 .f32) (t : Fin 8192) (n : Fin 4096) :
    last q (ix2 t n) = pick (fun f => q (ix3 t ⟨f.val / 192, by omega⟩ ⟨f.val % 192, by omega⟩)) n := by
  pointwise [last]
  exact halves_eq (fun a k => q (ix3 t a k)) n

theorem out_apply (t : Fin 8192) (n : Fin 4096) :
    out x g w (ix2 t n) = pick (fun f => ∑ d, hidAt x g t d * w (ix3 0 d f)) n := by
  unfold out
  rw [last_apply]
  congr 1
  funext f
  rw [heads_apply]
  refine Finset.sum_congr rfl fun d _ => ?_
  rw [norm_apply]
  exact congrArg (fun k => hidAt x g t d * w (ix3 0 d k)) (Fin.ext (by simp only; omega))

/-- Picking the columns of a product is the product with the picked columns. -/
theorem pick_sum (h : Fin 1536 → EReal) (f : Fin 1536 → Fin 3072 → EReal) (n : Fin 4096) :
    ∑ d, h d * pick (f d) n = pick (fun k => ∑ d, h d * f d k) n := by
  unfold pick
  split_ifs <;> simp

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24)
        = out (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Value.run (F := Ideal) m ρ)

end Cert.Proof.QUpRef
-- ==== Proof.QUp.lean ====
/-
# The queries' up-projection

The weights with every head's columns in the result's order, the blocks of the two kernels (the norm by
blocks of rows; the product of a block of rows with a block of columns), their output arrays, and their
run: the reference's function of the arguments.
-/
module

public import proofs.«01_k».proof.Proof.Gen.QUpIdeal.Frame
public import proofs.«01_k».proof.Proof.QUpRef
public import Idealize.ShloMosaic.Lib.Pipeline.ValueKit

@[expose] public section

set_option maxRecDepth 16384

noncomputable section

namespace Cert.Proof.QUp

open Cert.QUpIdeal Cert.QUpIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.NormMath
open Cert.Proof.QUpRef (pick)

local notation "𝕄" => MT nD τ sig Unit (Elt Ideal) ℕ (UR sig nD τ) ℕ

theorem pay_norm (x0 : Vec Ideal S512x1536 .bf16) (x1 : Vec Ideal S1x1536 .f32) (r : Fin 512)
    (d : Fin 1536) : out0_2 x0 x1 (ix2 r d)
      = rms (Ideal.ofBits FTy.f32 0x44C00000#32) (fun d => x0 (ix2 r d)) (fun d => x1 (ix2 0 d)) d := by
  refine (congrFun (View.canon_cons_unit_lit (S := S512x1536)
    inb_S512x1536_S512x1536_0_0 _ [] (by decide)) (ix2 r d)).trans ?_
  pointwise [k0_pay1, rms]

theorem pay_prod (x0 : Vec Ideal S1024x1536 .bf16) (x1 : Vec Ideal S1536x1024 .f32) (r n : Fin 1024) :
    out1_2 x0 x1 (ix2 r n) = ∑ d, x0 (ix2 r d) * x1 (ix2 d n) := by
  refine (congrFun (View.canon_cons_unit_lit (S := S1024x1024)
    inb_S1024x1024_S1024x1024_0_0 _ [] (by decide)) (ix2 r n)).trans ?_
  pointwise [k1_pay1]

section Blocks

variable (V : (c : Dev nD) → (b : Ref sig .tc) → Buf (Elt Ideal) ((c : Thread nD τ).loc b)) (c : Dev nD)

/-- The arrays the kernels read, at the contents `V`. -/
abbrev arrX : Vec Ideal S8192x1536 .bf16 := V c main_arg0
abbrev arrG : Vec Ideal S1x1536 .f32 := V c main_v9
abbrev arrH : Vec Ideal S8192x1536 .bf16 := V c main_v10
abbrev arrW : Vec Ideal S1536x4096 .f32 := V c main_v7

/-! ## The norm -/

theorem lt0 (t : Fin cfg0.N) : t.val < 16 := lt_of_lt_of_eq t.isLt N_0

/-- A row of the array from a row of its block. -/
def row0 (t : Fin cfg0.N) (r : Fin 512) : Fin 8192 := ⟨512 * t.val + r.val, by have := lt0 t; omega⟩

theorem e00 : ∀ t : Fin grid0.N, win0_0.index t = ![t.val, 0] := by decide +kernel
theorem e01 : ∀ t : Fin grid0.N, win0_1.index t = ![0, 0] := by decide +kernel
theorem e02 : ∀ t : Fin grid0.N, win0_2.index t = ![t.val, 0] := by decide +kernel

theorem b00 (t : Fin cfg0.N) (r : Fin 512) (d : Fin 1536) :
    iblk0 V c 0 t (ix2 r d) = arrX V c (ix2 (row0 t r) d) := by
  blk_simp [iblk0, e00]
  blk_ext [e00, row0]

theorem b01 (t : Fin cfg0.N) (d : Fin 1536) : iblk0 V c 1 t (ix2 0 d) = arrG V c (ix2 0 d) := by
  blk_simp [iblk0, e01]
  blk_ext [e01]

/-- Entry (`t`, `d`) of the norm. -/
def normAt (t : Fin 8192) (d : Fin 1536) : EReal :=
  rms (Ideal.ofBits FTy.f32 0x44C00000#32) (fun d => arrX V c (ix2 t d)) (fun d => arrG V c (ix2 0 d)) d

theorem block0 (t : Fin cfg0.N) (r : Fin 512) (d : Fin 1536) :
    out0_2 (iblk0 V c 0 t) (iblk0 V c 1 t) (ix2 r d) = normAt V c (row0 t r) d := by
  refine (pay_norm _ _ r d).trans ?_
  simp only [normAt, b00, b01]

theorem final0 : (dat0 V c).arrAt 2 cfg0.N
    = (fun i => normAt V c (i 0) (i 1) : Vec Ideal S8192x1536 .bf16) := by
  refine (dat0 V c).arrAt_eq_of_covers 2 _ (by decide +kernel) fun t hf y => ?_
  obtain ⟨r, d, rfl⟩ : ∃ (r : Fin 512) (d : Fin 1536), y = ix2 r d :=
    ⟨y 0, y 1, funext fun a => by fin_cases a <;> rfl⟩
  blk_simp [e02]
  rw [after0_2]
  have h0 : (win0_2.blk t).view.emb (ix2 r d) 0 = row0 t r := Fin.ext (by
    blk_simp [e02]
    simp only [row0]
    omega)
  have h1 : (win0_2.blk t).view.emb (ix2 r d) 1 = d := Fin.ext (by blk_simp [e02])
  have hb := block0 V c t r d
  generalize out0_2 (iblk0 V c 0 t) (iblk0 V c 1 t) = B at hb ⊢
  refine Eq.trans hb ?_
  rw [h0, h1]

/-! ## The product -/

theorem lt1 (t : Fin cfg1.N) : t.val < 32 := lt_of_lt_of_eq t.isLt N_1

def row1 (t : Fin cfg1.N) (r : Fin 1024) : Fin 8192 := ⟨1024 * (t.val / 4) + r.val, by have := lt1 t; omega⟩
def col1 (t : Fin cfg1.N) (n : Fin 1024) : Fin 4096 := ⟨1024 * (t.val % 4) + n.val, by omega⟩

theorem e10 : ∀ t : Fin grid1.N, win1_0.index t = ![t.val / 4, 0] := by decide +kernel
theorem e11 : ∀ t : Fin grid1.N, win1_1.index t = ![0, t.val % 4] := by decide +kernel
theorem e12 : ∀ t : Fin grid1.N, win1_2.index t = ![t.val / 4, t.val % 4] := by decide +kernel

theorem b10 (t : Fin cfg1.N) (r : Fin 1024) (d : Fin 1536) :
    iblk1 V c 0 t (ix2 r d) = arrH V c (ix2 (row1 t r) d) := by
  blk_simp [iblk1, e10]
  blk_ext [e10, row1]

theorem b11 (t : Fin cfg1.N) (d : Fin 1536) (n : Fin 1024) :
    iblk1 V c 1 t (ix2 d n) = arrW V c (ix2 d (col1 t n)) := by
  blk_simp [iblk1, e11]
  blk_ext [e11, col1]

/-- Entry (`t`, `n`) of the result. -/
def resAt (t : Fin 8192) (n : Fin 4096) : EReal := ∑ d, arrH V c (ix2 t d) * arrW V c (ix2 d n)

theorem block1 (t : Fin cfg1.N) (r n : Fin 1024) :
    out1_2 (iblk1 V c 0 t) (iblk1 V c 1 t) (ix2 r n) = resAt V c (row1 t r) (col1 t n) := by
  refine (pay_prod _ _ r n).trans ?_
  simp only [resAt, b10, b11]

theorem final1 : (dat1 V c).arrAt 2 cfg1.N
    = (fun i => resAt V c (i 0) (i 1) : Vec Ideal S8192x4096 .bf16) := by
  refine (dat1 V c).arrAt_eq_of_covers 2 _ (by decide +kernel) fun t hf y => ?_
  obtain ⟨r, n, rfl⟩ : ∃ (r : Fin 1024) (n : Fin 1024), y = ix2 r n :=
    ⟨y 0, y 1, funext fun a => by fin_cases a <;> rfl⟩
  blk_simp [e12]
  rw [after1_2]
  have h0 : (win1_2.blk t).view.emb (ix2 r n) 0 = row1 t r := Fin.ext (by
    blk_simp [e12]
    simp only [row1]
    omega)
  have h1 : (win1_2.blk t).view.emb (ix2 r n) 1 = col1 t n := Fin.ext (by
    blk_simp [e12]
    simp only [col1]
    omega)
  have hb := block1 V c t r n
  generalize out1_2 (iblk1 V c 0 t) (iblk1 V c 1 t) = B at hb ⊢
  refine Eq.trans hb ?_
  rw [h0, h1]

end Blocks

/-! ## The run -/

variable (m : (ℓ : Loc nD τ sig) → Buf (Elt Ideal) ℓ) (ρ : Dev nD → PrngReg) (c : Dev nD)

/-- The arguments. -/
abbrev argX : Vec Ideal S8192x1536 .bf16 := m ((c.tc : Thread nD τ).loc main_arg0)
abbrev argG : Vec Ideal S1x1536 .f32 := m ((c.tc : Thread nD τ).loc main_arg1)
abbrev argW : Vec Ideal S1x1536x3072 .f32 := m ((c.tc : Thread nD τ).loc main_arg2)

theorem x_kept : arrX (V3 m ρ) c = argX m c := W3_args m ρ c main_arg0 (by decide)

theorem g_entry (d : Fin 1536) : arrG (V3 m ρ) c (ix2 0 d) = argG m c (ix2 0 d) := by
  unfold arrG
  simp only [V3, W3, W2, W1, hostOps0, hostOps0_1, hostOps0_2]
  entry_read
  pointwise

/-- The weights in the result's order: a picked column of the argument. -/
theorem w_entry (d : Fin 1536) (n : Fin 4096) :
    arrW (V3 m ρ) c (ix2 d n) = pick (fun f => argW m c (ix3 0 d f)) n := by
  unfold arrW
  simp only [V3, W3, W2, W1, hostOps0, hostOps0_1, hostOps0_2]
  entry_read
  simp -implicitDefEqProofs only [StableHlo.TRef.toBuf, StableHlo.TRef.ofBuf, cast_cast, cast_eq]
  pointwise
  refine (QUpRef.halves_eq (fun a k => argW m c (ix3 0 d ⟨a.val * 192 + k.val, by omega⟩)) n).trans ?_
  refine congrArg (fun f => pick f n) (funext fun f => ?_)
  exact congrArg (fun k => argW m c (ix3 0 d k)) (Fin.ext (by simp only; omega))

theorem w_kept : arrW (V4 m ρ) c = arrW (V3 m ρ) c := W4_of m ρ c main_v7 (by decide)

theorem h_eq (t : Fin 8192) (d : Fin 1536) : arrH (V4 m ρ) c (ix2 t d)
    = QUpRef.hidAt (argX m c) (argG m c) t d := by
  have h : arrH (V4 m ρ) c = _ := (W4_arr m ρ c 2).trans (final0 (V3 m ρ) c)
  rw [h]
  exact rms_congr _ (fun d => congrFun (x_kept m ρ c) (ix2 t d)) (fun d => g_entry m ρ c d) d

/-- The result array after the run. -/
theorem result : W5 m ρ c (Proc.devRef .tc main_v11)
    = QUpRef.out (argX m c) (argG m c) (argW m c) := by
  refine (W5_arr m ρ c 2).trans ((final1 (V4 m ρ) c).trans (funext fun i => ?_))
  idx_vars i
  rw [QUpRef.out_apply, ← QUpRef.pick_sum]
  exact Finset.sum_congr rfl fun d _ => congrArg₂ (· * ·) (h_eq m ρ c i0 d)
    ((congrFun (w_kept m ρ c) _).trans (w_entry m ρ c d i1))

set_option backward.isDefEq.respectTransparency.types false in
/-- The run of the norm and the product: the reference's function of the arguments is left. -/
theorem run : θ_run defs (onTc (τ := τ) (main (F := Ideal))) ⟨m, fun _ => 0, ρ⟩ fun r => ∀ c : Dev nD,
      r.2.mem ((c.tc : Thread nD τ).loc main_v11) = QUpRef.out (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨(h c _ (mem_uc main_v11 (by decide))).trans (result m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.Proof.QUp
-- ==== Proof.KvUpRef.lean ====
/-
# The keys' and values' up-projection in the reference, entry by entry

The reference's host operations (the norm of the latent rows, the product) read at one row and column
of the result.
-/
module

public import proofs.«01_k».proof.Proof.Gen.KvUpReferenceIdeal.Run
public import proofs.«01_k».proof.Proof.NormMath

@[expose] public section

set_option maxRecDepth 16384

noncomputable section

namespace Cert.Proof.KvUpRef

open Cert.KvUpReferenceIdeal Cert.KvUpReferenceIdeal.Gen
open Idealize.ShloMosaic Idealize.ShloMosaic.TcCoe Idealize.ShloMosaic.Tactic
open Cert.Proof.NormMath

/-- One over the root mean square of each row. -/
def inv (x : FVec Ideal S8448x512 .f32) : FVec Ideal S8448x1 .f32 :=
  Host.rsqrt (addf (Host.divf (broadcastInDim S8448x1 ![0] bcast_S8448_S8448x1_0
    (Host.reduceAdd (mulf x x) (constant S_ .f32 0x00000000#32) reducesTo_S8448x512_S8448_d1 h_S_))
    (broadcastInDim S8448x1 ![] bcast_S_S8448x1 (constant S_ .f32 0x44000000#32)))
    (broadcastInDim S8448x1 ![] bcast_S_S8448x1 (constant S_ .f32 0x358637BD#32)))

/-- The normed rows. -/
def norm (x : FVec Ideal S8448x512 .f32) (g : Vec Ideal S1x512 .f32) : FVec Ideal S8448x512 .f32 :=
  mulf (mulf x (broadcastInDim S8448x512 ![0, 1] bcast_S8448x1_S8448x512_0_1 (inv x)))
    (broadcastInDim S8448x512 ![0, 1] bcast_S1x512_S8448x512_0_1
      (broadcastInDim S1x512 ![1] bcast_S512_S1x512_1 (shapeCast S512 g shapeCasts_S1x512_S512)))

/-- The product of normed rows and the weights. -/
def last (h : FVec Ideal S8448x512 .f32) (w : Vec Ideal S1x512x4096 .f32) : Vec Ideal S8448x4096 .bf16 :=
  truncf (F := Ideal) .bf16 (Host.dotGeneral (F := Ideal) (φ₁ := .f32) (φ₂ := .f32)
    dot_S8448x512_S512x4096_S8448x4096_1_0_0_1_n_n none h
    (shapeCast S512x4096 w shapeCasts_S1x512x4096_S512x4096)) bitsLt_bf16_f32

/-- The reference's result from its arguments. -/
def out (x : Vec Ideal S8448x512 .bf16) (g : Vec Ideal S1x512 .f32) (w : Vec Ideal S1x512x4096 .f32) :
    Vec Ideal S8448x4096 .bf16 := last (norm (extf (F := Ideal) .f32 x bitsLt_bf16_f32) g) w

variable (x : Vec Ideal S8448x512 .bf16) (g : Vec Ideal S1x512 .f32) (w : Vec Ideal S1x512x4096 .f32)

/-- Row `t` of the norm on coordinates. -/
def hidAt (t : Fin 8448) (d : Fin 512) : EReal :=
  rms (Ideal.ofBits FTy.f32 0x44000000#32) (fun d => x (ix2 t d)) (fun d => g (ix2 0 d)) d

theorem inv_apply (x : FVec Ideal S8448x512 .f32) (t : Fin 8448) : inv x (ix2 t 0)
    = Ideal.rsqrt (Ideal.div (∑ k, x (ix2 t k) * x (ix2 t k))
      (Ideal.ofBits FTy.f32 0x44000000#32) + Ideal.ofBits FTy.f32 0x358637BD#32) := by
  pointwise [inv]

theorem norm_apply (t : Fin 8448) (d : Fin 512) :
    norm (extf (F := Ideal) .f32 x bitsLt_bf16_f32) g (ix2 t d) = hidAt x g t d := by
  have hx : ∀ k, (extf (F := Ideal) .f32 x bitsLt_bf16_f32 : FVec Ideal S8448x512 .f32) (ix2 t k)
      = x (ix2 t k) := fun k => by pointwise
  unfold hidAt rms
  simp only [← hx]
  generalize (extf (F := Ideal) .f32 x bitsLt_bf16_f32 : FVec Ideal S8448x512 .f32) = y
  rw [← inv_apply]
  generalize hi : inv y = iv
  pointwise [norm, hi]

theorem out_apply (t : Fin 8448) (n : Fin 4096) :
    out x g w (ix2 t n) = ∑ d, hidAt x g t d * w (ix3 0 d n) := by
  unfold out
  simp only [← norm_apply]
  generalize norm (extf (F := Ideal) .f32 x bitsLt_bf16_f32) g = h
  pointwise [last]

/-- The reference's run leaves `out` of its arguments and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = out (m ((c.tc : Thread nD τ).loc main_arg0)) (m ((c.tc : Thread nD τ).loc main_arg1))
          (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Value.run (F := Ideal) m ρ)

end Cert.Proof.KvUpRef
-- ==== Proof.KvUp.lean ====
/-
# The keys' and values' up-projection

The blocks of the two kernels (the norm by blocks of rows; the product of a block of rows with the
weights), their output arrays, and their run: the reference's function of the arguments.
-/
module

public import proofs.«01_k».proof.Proof.Gen.KvUpIdeal.Frame
public import proofs.«01_k».proof.Proof.KvUpRef
public import Idealize.ShloMosaic.Lib.Pipeline.ValueKit

@[expose] public section

set_option maxRecDepth 16384

noncomputable section

namespace Cert.Proof.KvUp

open Cert.KvUpIdeal Cert.KvUpIdeal.Gen
open Idealize.ShloMosaic Idealize.ShloMosaic.TcCoe Idealize.ShloMosaic.Tactic
open Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.NormMath

local notation "𝕄" => MT nD τ sig Unit (Elt Ideal) ℕ (UR sig nD τ) ℕ

theorem pay_norm (x0 : Vec Ideal S384x512 .bf16) (x1 : Vec Ideal S1x512 .f32) (r : Fin 384)
    (d : Fin 512) : out0_2 x0 x1 (ix2 r d)
      = rms (Ideal.ofBits FTy.f32 0x44000000#32) (fun d => x0 (ix2 r d)) (fun d => x1 (ix2 0 d)) d := by
  refine (congrFun (View.canon_cons_unit_lit (S := S384x512)
    inb_S384x512_S384x512_0_0 _ [] (by decide)) (ix2 r d)).trans ?_
  pointwise [k0_pay1, rms]

theorem pay_prod (x0 : Vec Ideal S768x512 .bf16) (x1 : Vec Ideal S1x512x4096 .f32) (r : Fin 768)
    (n : Fin 4096) : out1_2 x0 x1 (ix2 r n) = ∑ d, x0 (ix2 r d) * x1 (ix3 0 d n) := by
  refine (congrFun (View.canon_cons_unit_lit (S := S768x4096)
    inb_S768x4096_S768x4096_0_0 _ [] (by decide)) (ix2 r n)).trans ?_
  pointwise [k1_pay1]

section Blocks

variable (V : (c : Dev nD) → (b : Ref sig .tc) → Buf (Elt Ideal) ((c : Thread nD τ).loc b)) (c : Dev nD)

/-- The arrays the kernels read, at the contents `V`. -/
abbrev arrX : Vec Ideal S8448x512 .bf16 := V c main_arg0
abbrev arrG : Vec Ideal S1x512 .f32 := V c main_v1
abbrev arrH : Vec Ideal S8448x512 .bf16 := V c main_v2
abbrev arrW : Vec Ideal S1x512x4096 .f32 := V c main_arg2

/-! ## The norm -/

theorem lt0 (t : Fin cfg0.N) : t.val < 22 := lt_of_lt_of_eq t.isLt N_0

/-- A row of the array from a row of its block. -/
def row0 (t : Fin cfg0.N) (r : Fin 384) : Fin 8448 := ⟨384 * t.val + r.val, by have := lt0 t; omega⟩

theorem e00 : ∀ t : Fin grid0.N, win0_0.index t = ![t.val, 0] := by decide +kernel
theorem e01 : ∀ t : Fin grid0.N, win0_1.index t = ![0, 0] := by decide +kernel
theorem e02 : ∀ t : Fin grid0.N, win0_2.index t = ![t.val, 0] := by decide +kernel

theorem b00 (t : Fin cfg0.N) (r : Fin 384) (d : Fin 512) :
    iblk0 V c 0 t (ix2 r d) = arrX V c (ix2 (row0 t r) d) := by
  blk_simp [iblk0, e00]
  blk_ext [e00, row0]

theorem b01 (t : Fin cfg0.N) (d : Fin 512) : iblk0 V c 1 t (ix2 0 d) = arrG V c (ix2 0 d) := by
  blk_simp [iblk0, e01]
  blk_ext [e01]

/-- Entry (`t`, `d`) of the norm. -/
def normAt (t : Fin 8448) (d : Fin 512) : EReal :=
  rms (Ideal.ofBits FTy.f32 0x44000000#32) (fun d => arrX V c (ix2 t d)) (fun d => arrG V c (ix2 0 d)) d

theorem block0 (t : Fin cfg0.N) (r : Fin 384) (d : Fin 512) :
    out0_2 (iblk0 V c 0 t) (iblk0 V c 1 t) (ix2 r d) = normAt V c (row0 t r) d := by
  refine (pay_norm _ _ r d).trans ?_
  simp only [normAt, b00, b01]

theorem final0 : (dat0 V c).arrAt 2 cfg0.N
    = (fun i => normAt V c (i 0) (i 1) : Vec Ideal S8448x512 .bf16) := by
  refine (dat0 V c).arrAt_eq_of_covers 2 _ (by decide +kernel) fun t hf y => ?_
  obtain ⟨r, d, rfl⟩ : ∃ (r : Fin 384) (d : Fin 512), y = ix2 r d :=
    ⟨y 0, y 1, funext fun a => by fin_cases a <;> rfl⟩
  blk_simp [e02]
  rw [after0_2]
  have h0 : (win0_2.blk t).view.emb (ix2 r d) 0 = row0 t r := Fin.ext (by
    blk_simp [e02]
    simp only [row0]
    omega)
  have h1 : (win0_2.blk t).view.emb (ix2 r d) 1 = d := Fin.ext (by blk_simp [e02])
  have hb := block0 V c t r d
  generalize out0_2 (iblk0 V c 0 t) (iblk0 V c 1 t) = B at hb ⊢
  refine Eq.trans hb ?_
  rw [h0, h1]

/-! ## The product -/

theorem lt1 (t : Fin cfg1.N) : t.val < 11 := lt_of_lt_of_eq t.isLt N_1

def row1 (t : Fin cfg1.N) (r : Fin 768) : Fin 8448 := ⟨768 * t.val + r.val, by have := lt1 t; omega⟩

theorem e10 : ∀ t : Fin grid1.N, win1_0.index t = ![t.val, 0] := by decide +kernel
theorem e11 : ∀ t : Fin grid1.N, win1_1.index t = ![0, 0, 0] := by decide +kernel
theorem e12 : ∀ t : Fin grid1.N, win1_2.index t = ![t.val, 0] := by decide +kernel

theorem b10 (t : Fin cfg1.N) (r : Fin 768) (d : Fin 512) :
    iblk1 V c 0 t (ix2 r d) = arrH V c (ix2 (row1 t r) d) := by
  blk_simp [iblk1, e10]
  blk_ext [e10, row1]

theorem b11 (t : Fin cfg1.N) (d : Fin 512) (n : Fin 4096) :
    iblk1 V c 1 t (ix3 0 d n) = arrW V c (ix3 0 d n) := by
  blk_simp [iblk1, e11]
  blk_ext [e11]

/-- Entry (`t`, `n`) of the result. -/
def resAt (t : Fin 8448) (n : Fin 4096) : EReal := ∑ d, arrH V c (ix2 t d) * arrW V c (ix3 0 d n)

theorem block1 (t : Fin cfg1.N) (r : Fin 768) (n : Fin 4096) :
    out1_2 (iblk1 V c 0 t) (iblk1 V c 1 t) (ix2 r n) = resAt V c (row1 t r) n := by
  refine (pay_prod _ _ r n).trans ?_
  simp only [resAt, b10, b11]

theorem final1 : (dat1 V c).arrAt 2 cfg1.N
    = (fun i => resAt V c (i 0) (i 1) : Vec Ideal S8448x4096 .bf16) := by
  refine (dat1 V c).arrAt_eq_of_covers 2 _ (by decide +kernel) fun t hf y => ?_
  obtain ⟨r, n, rfl⟩ : ∃ (r : Fin 768) (n : Fin 4096), y = ix2 r n :=
    ⟨y 0, y 1, funext fun a => by fin_cases a <;> rfl⟩
  blk_simp [e12]
  rw [after1_2]
  have h0 : (win1_2.blk t).view.emb (ix2 r n) 0 = row1 t r := Fin.ext (by
    blk_simp [e12]
    simp only [row1]
    omega)
  have h1 : (win1_2.blk t).view.emb (ix2 r n) 1 = n := Fin.ext (by blk_simp [e12])
  have hb := block1 V c t r n
  generalize out1_2 (iblk1 V c 0 t) (iblk1 V c 1 t) = B at hb ⊢
  refine Eq.trans hb ?_
  rw [h0, h1]

end Blocks

/-! ## The run -/

variable (m : (ℓ : Loc nD τ sig) → Buf (Elt Ideal) ℓ) (ρ : Dev nD → PrngReg) (c : Dev nD)

/-- The arguments. -/
abbrev argX : Vec Ideal S8448x512 .bf16 := m ((c.tc : Thread nD τ).loc main_arg0)
abbrev argG : Vec Ideal S1x512 .f32 := m ((c.tc : Thread nD τ).loc main_arg1)
abbrev argW : Vec Ideal S1x512x4096 .f32 := m ((c.tc : Thread nD τ).loc main_arg2)

theorem x_kept : arrX (V1 m ρ) c = argX m c := W1_args m ρ c main_arg0 (by decide)

theorem g_entry (d : Fin 512) : arrG (V1 m ρ) c (ix2 0 d) = argG m c (ix2 0 d) := by
  unfold arrG
  simp only [V1, W1, hostOps0]
  entry_read
  pointwise

theorem w_kept : arrW (V2 m ρ) c = argW m c := W2_args m ρ c main_arg2 (by decide)

theorem h_eq (t : Fin 8448) (d : Fin 512) : arrH (V2 m ρ) c (ix2 t d)
    = KvUpRef.hidAt (argX m c) (argG m c) t d := by
  have h : arrH (V2 m ρ) c = _ := (W2_arr m ρ c 2).trans (final0 (V1 m ρ) c)
  rw [h]
  exact rms_congr _ (fun d => congrFun (x_kept m ρ c) (ix2 t d)) (fun d => g_entry m ρ c d) d

/-- The result array after the run. -/
theorem result : W3 m ρ c (Proc.devRef .tc main_v3)
    = KvUpRef.out (argX m c) (argG m c) (argW m c) := by
  refine (W3_arr m ρ c 2).trans ((final1 (V2 m ρ) c).trans (funext fun i => ?_))
  idx_vars i
  rw [KvUpRef.out_apply]
  exact Finset.sum_congr rfl fun d _ => congrArg₂ (· * ·) (h_eq m ρ c i0 d) (congrFun (w_kept m ρ c) _)

set_option backward.isDefEq.respectTransparency.types false in
/-- The run of the norm and the product: the reference's function of the arguments is left. -/
theorem run : θ_run defs (onTc (τ := τ) (main (F := Ideal))) ⟨m, fun _ => 0, ρ⟩ fun r => ∀ c : Dev nD,
      r.2.mem ((c.tc : Thread nD τ).loc main_v3) = KvUpRef.out (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v3 (by decide))).trans (result m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Proof.KvUp
-- ==== Proof.lean ====
/-
# The certificate

Every claim of the statement, from the modules under `Proof/`.
-/
module

public import proofs.«01_k».proof.Defs
public import proofs.«01_k».proof.Proof.FlashTwin
public import proofs.«01_k».proof.Proof.FlashValue
public import proofs.«01_k».proof.Proof.MlpRun
public import proofs.«01_k».proof.Proof.Glu
public import proofs.«01_k».proof.Proof.ConvOut
public import proofs.«01_k».proof.Proof.AttOut
public import proofs.«01_k».proof.Proof.AttInQk
public import proofs.«01_k».proof.Proof.AttInV
public import proofs.«01_k».proof.Proof.AttInQLat
public import proofs.«01_k».proof.Proof.AttInKvLat
public import proofs.«01_k».proof.Proof.QUp
public import proofs.«01_k».proof.Proof.KvUp
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpReferenceIdeal
public import proofs.«01_k».proof.Proof.Gen.MlpReferenceIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluReferenceIdeal
public import proofs.«01_k».proof.Proof.Gen.GluReferenceIdeal.Run
public import proofs.«01_k».proof.Proof.Gen.ConvOut
public import proofs.«01_k».proof.Proof.Gen.ConvOut.Frame
public import proofs.«01_k».proof.Proof.Gen.ConvOutIdeal
public import proofs.«01_k».proof.Proof.Gen.ConvOutIdeal.Frame
public import proofs.«01_k».proof.Proof.Gen.ConvOutIdeal.Value
public import proofs.«01_k».proof.Proof.Gen.ConvOutReferenceIdeal
public import proofs.«01_k».proof.Proof.Gen.ConvOutReferenceIdeal.Run
public import proofs.«01_k».proof.Proof.Gen.AttOut
public import proofs.«01_k».proof.Proof.Gen.AttOut.Frame
public import proofs.«01_k».proof.Proof.Gen.AttOutIdeal
public import proofs.«01_k».proof.Proof.Gen.AttOutIdeal.Frame
public import proofs.«01_k».proof.Proof.Gen.AttOutIdeal.Value
public import proofs.«01_k».proof.Proof.Gen.AttOutReferenceIdeal
public import proofs.«01_k».proof.Proof.Gen.AttOutReferenceIdeal.Run
public import proofs.«01_k».proof.Proof.Gen.AttInQk
public import proofs.«01_k».proof.Proof.Gen.AttInQk.Frame
public import proofs.«01_k».proof.Proof.Gen.AttInQkIdeal
public import proofs.«01_k».proof.Proof.Gen.AttInQkIdeal.Frame
public import proofs.«01_k».proof.Proof.Gen.AttInQkIdeal.Value
public import proofs.«01_k».proof.Proof.Gen.AttInQkReferenceIdeal
public import proofs.«01_k».proof.Proof.Gen.AttInQkReferenceIdeal.Run
public import proofs.«01_k».proof.Proof.Gen.AttInV
public import proofs.«01_k».proof.Proof.Gen.AttInV.Frame
public import proofs.«01_k».proof.Proof.Gen.AttInVIdeal
public import proofs.«01_k».proof.Proof.Gen.AttInVIdeal.Frame
public import proofs.«01_k».proof.Proof.Gen.AttInVIdeal.Value
public import proofs.«01_k».proof.Proof.Gen.AttInVReferenceIdeal
public import proofs.«01_k».proof.Proof.Gen.AttInVReferenceIdeal.Run
public import proofs.«01_k».proof.Proof.Gen.AttInQLat
public import proofs.«01_k».proof.Proof.Gen.AttInQLat.Frame
public import proofs.«01_k».proof.Proof.Gen.AttInQLatIdeal
public import proofs.«01_k».proof.Proof.Gen.AttInQLatIdeal.Frame
public import proofs.«01_k».proof.Proof.Gen.AttInQLatIdeal.Value
public import proofs.«01_k».proof.Proof.Gen.AttInQLatReferenceIdeal
public import proofs.«01_k».proof.Proof.Gen.AttInQLatReferenceIdeal.Run
public import proofs.«01_k».proof.Proof.Gen.AttInKvLat
public import proofs.«01_k».proof.Proof.Gen.AttInKvLat.Frame
public import proofs.«01_k».proof.Proof.Gen.AttInKvLatIdeal
public import proofs.«01_k».proof.Proof.Gen.AttInKvLatIdeal.Frame
public import proofs.«01_k».proof.Proof.Gen.AttInKvLatIdeal.Value
public import proofs.«01_k».proof.Proof.Gen.AttInKvLatReferenceIdeal
public import proofs.«01_k».proof.Proof.Gen.AttInKvLatReferenceIdeal.Run
public import proofs.«01_k».proof.Proof.Gen.QUp
public import proofs.«01_k».proof.Proof.Gen.QUp.Frame
public import proofs.«01_k».proof.Proof.Gen.QUpIdeal
public import proofs.«01_k».proof.Proof.Gen.QUpIdeal.Frame
public import proofs.«01_k».proof.Proof.Gen.QUpReferenceIdeal
public import proofs.«01_k».proof.Proof.Gen.QUpReferenceIdeal.Run
public import proofs.«01_k».proof.Proof.Gen.KvUp
public import proofs.«01_k».proof.Proof.Gen.KvUp.Frame
public import proofs.«01_k».proof.Proof.Gen.KvUpIdeal
public import proofs.«01_k».proof.Proof.Gen.KvUpIdeal.Frame
public import proofs.«01_k».proof.Proof.Gen.KvUpReferenceIdeal
public import proofs.«01_k».proof.Proof.Gen.KvUpReferenceIdeal.Run

@[expose] public section

set_option maxRecDepth 16384

noncomputable section

namespace Cert.Proof

open Idealize.ShloMosaic Idealize.ShloMosaic.TcCoe

theorem inf_bits : Ideal.ofBits FTy.f32 0x7F800000#32 = (⊤ : EReal) := by
  simp [Ideal.ofBits, Ideal.ieee]

/-- An extended real of absolute value below infinity is a real number. -/
theorem real_of_abs_lt (x : EReal) (h : BitVec.ofBool (decide (max x (-x) < Ideal.ofBits FTy.f32 0x7F800000#32)) = 1#1) :
    ∃ a : ℝ, x = (a : EReal) := by
  have h' : max x (-x) < ⊤ := by
    rw [← inf_bits]
    by_contra hn
    rw [decide_eq_false hn] at h
    exact absurd h (by decide)
  refine ⟨x.toReal, (EReal.coe_toReal (ne_of_lt (lt_of_le_of_lt (le_max_left _ _) h')) ?_).symm⟩
  rintro rfl
  exact absurd (lt_of_le_of_lt (le_max_right _ _) h') (by simp)

/-- The reference's frame: no operation writes an argument, and there is no counter. -/
theorem frame_flashRef : Cert.quiescent_ReferenceIdeal := fun m ρ _ =>
  (θ_run Cert.ReferenceIdeal.defs _ _).mono
    (fun r h => ⟨fun c => (h c).2, sem_eq_zero_of_no_sems (by decide) r.2⟩)
    (FlashRef.run m ρ)

theorem algebraic : Cert.algebraic_KernelIdeal_ReferenceIdeal_pre_finite_scores := by
  intro m g m' g' hpre hargs
  have hq : ∀ c i, ∃ a : ℝ, Flash.argQ m c i = (a : EReal) := fun c i =>
    real_of_abs_lt _ (congrFun (hpre c).1 i)
  have hk : ∀ c i, ∃ a : ℝ, Flash.argK m c i = (a : EReal) := fun c i =>
    real_of_abs_lt _ (congrFun (hpre c).2 i)
  refine ⟨_, Flash.run m g hq hk, (θ_run _ _ _).mono (fun r h c => ?_) (FlashRef.run m' g')⟩
  obtain ⟨h0, h1, h2, h3, h4, h5⟩ := hargs c
  refine ⟨(h c).1.trans ?_, (h c).2⟩
  rw [h0, h1, h2, h5]

/-- The MLP reference's frame: no operation writes an argument, and there is no counter. -/
theorem frame_mlpRef : Cert.quiescent_MlpReferenceIdeal := fun m ρ _ =>
  (θ_run Cert.MlpReferenceIdeal.defs _ _).mono
    (fun r h => ⟨fun c => (h c).2, sem_eq_zero_of_no_sems (by decide) r.2⟩)
    (MlpRef.run m ρ)

theorem algebraic_mlp : Cert.algebraic_MlpIdeal_MlpReferenceIdeal := by
  intro m g m' g' _ hargs
  refine ⟨_, Mlp.run m g, (θ_run _ _ _).mono (fun r h c => ?_) (MlpRef.run m' g')⟩
  obtain ⟨h0, h1, h2, h3, h4⟩ := hargs c
  refine ⟨(h c).1.trans ?_, (h c).2⟩
  rw [h0, h1, h2, h3, h4]

/-- The frame of the gated product's reference: no operation writes an argument, and there is no counter. -/
theorem frame_gluRef : Cert.quiescent_GluReferenceIdeal := fun m ρ _ =>
  (θ_run Cert.GluReferenceIdeal.defs _ _).mono
    (fun r h => ⟨fun c => (h c).2, sem_eq_zero_of_no_sems (by decide) r.2⟩)
    (GluRef.run m ρ)

theorem algebraic_glu : Cert.algebraic_GluIdeal_GluReferenceIdeal := by
  intro m g m' g' _ hargs
  refine ⟨_, Glu.run m g, (θ_run _ _ _).mono (fun r h c => ?_) (GluRef.run m' g')⟩
  obtain ⟨h0, h1, h2, h3, h4⟩ := hargs c
  refine ⟨(h c).1.trans ?_, (h c).2⟩
  rw [h0, h1, h2, h3, h4]

/-- The frame of the convolution module's last product's reference: no operation writes an argument, and there is no counter. -/
theorem frame_convOutRef : Cert.quiescent_ConvOutReferenceIdeal := fun m ρ _ =>
  (θ_run Cert.ConvOutReferenceIdeal.defs _ _).mono
    (fun r h => ⟨fun c => (h c).2, sem_eq_zero_of_no_sems (by decide) r.2⟩)
    (ConvOutRef.run m ρ)

theorem algebraic_convOut : Cert.algebraic_ConvOutIdeal_ConvOutReferenceIdeal := by
  intro m g m' g' _ hargs
  refine ⟨_, ConvOut.run m g, (θ_run _ _ _).mono (fun r h c => ?_) (ConvOutRef.run m' g')⟩
  obtain ⟨h0, h1, h2, h3, h4⟩ := hargs c
  refine ⟨(h c).1.trans ?_, (h c).2⟩
  rw [h0, h1, h2, h3, h4]

/-- The frame of the attention's output product's reference: no operation writes an argument, and there is no counter. -/
theorem frame_attOutRef : Cert.quiescent_AttOutReferenceIdeal := fun m ρ _ =>
  (θ_run Cert.AttOutReferenceIdeal.defs _ _).mono
    (fun r h => ⟨fun c => (h c).2, sem_eq_zero_of_no_sems (by decide) r.2⟩)
    (AttOutRef.run m ρ)

theorem algebraic_attOut : Cert.algebraic_AttOutIdeal_AttOutReferenceIdeal := by
  intro m g m' g' _ hargs
  refine ⟨_, AttOut.run m g, (θ_run _ _ _).mono (fun r h c => ?_) (AttOutRef.run m' g')⟩
  obtain ⟨h0, h1, h2, h3⟩ := hargs c
  refine ⟨(h c).1.trans ?_, (h c).2⟩
  rw [h0, h1, h2, h3]

/-- The frame of the neighbourhood's queries' and keys' product's reference: no operation writes an argument, and there is no counter. -/
theorem frame_attInQkRef : Cert.quiescent_AttInQkReferenceIdeal := fun m ρ _ =>
  (θ_run Cert.AttInQkReferenceIdeal.defs _ _).mono
    (fun r h => ⟨fun c => (h c).2, sem_eq_zero_of_no_sems (by decide) r.2⟩)
    (AttInQkRef.run m ρ)

theorem algebraic_attInQk : Cert.algebraic_AttInQkIdeal_AttInQkReferenceIdeal := by
  intro m g m' g' _ hargs
  refine ⟨_, AttInQk.run m g, (θ_run _ _ _).mono (fun r h c => ?_) (AttInQkRef.run m' g')⟩
  obtain ⟨h0, h1, h2, h3⟩ := hargs c
  refine ⟨(h c).1.trans ?_, (h c).2⟩
  rw [h0, h1, h2, h3]

/-- The frame of the neighbourhood's values' product's reference: no operation writes an argument, and there is no counter. -/
theorem frame_attInVRef : Cert.quiescent_AttInVReferenceIdeal := fun m ρ _ =>
  (θ_run Cert.AttInVReferenceIdeal.defs _ _).mono
    (fun r h => ⟨fun c => (h c).2, sem_eq_zero_of_no_sems (by decide) r.2⟩)
    (AttInVRef.run m ρ)

theorem algebraic_attInV : Cert.algebraic_AttInVIdeal_AttInVReferenceIdeal := by
  intro m g m' g' _ hargs
  refine ⟨_, AttInV.run m g, (θ_run _ _ _).mono (fun r h c => ?_) (AttInVRef.run m' g')⟩
  obtain ⟨h0, h1⟩ := hargs c
  refine ⟨(h c).1.trans ?_, (h c).2⟩
  rw [h0, h1]

/-- The frame of the queries' latent product's reference: no operation writes an argument, and there is no counter. -/
theorem frame_attInQLatRef : Cert.quiescent_AttInQLatReferenceIdeal := fun m ρ _ =>
  (θ_run Cert.AttInQLatReferenceIdeal.defs _ _).mono
    (fun r h => ⟨fun c => (h c).2, sem_eq_zero_of_no_sems (by decide) r.2⟩)
    (AttInQLatRef.run m ρ)

theorem algebraic_attInQLat : Cert.algebraic_AttInQLatIdeal_AttInQLatReferenceIdeal := by
  intro m g m' g' _ hargs
  refine ⟨_, AttInQLat.run m g, (θ_run _ _ _).mono (fun r h c => ?_) (AttInQLatRef.run m' g')⟩
  obtain ⟨h0, h1⟩ := hargs c
  refine ⟨(h c).1.trans ?_, (h c).2⟩
  rw [h0, h1]

/-- The frame of the keys' and values' latent product's reference: no operation writes an argument, and there is no counter. -/
theorem frame_attInKvLatRef : Cert.quiescent_AttInKvLatReferenceIdeal := fun m ρ _ =>
  (θ_run Cert.AttInKvLatReferenceIdeal.defs _ _).mono
    (fun r h => ⟨fun c => (h c).2, sem_eq_zero_of_no_sems (by decide) r.2⟩)
    (AttInKvLatRef.run m ρ)

theorem algebraic_attInKvLat : Cert.algebraic_AttInKvLatIdeal_AttInKvLatReferenceIdeal := by
  intro m g m' g' _ hargs
  refine ⟨_, AttInKvLat.run m g, (θ_run _ _ _).mono (fun r h c => ?_) (AttInKvLatRef.run m' g')⟩
  obtain ⟨h0, h1⟩ := hargs c
  refine ⟨(h c).1.trans ?_, (h c).2⟩
  rw [h0, h1]

/-- The frame of the queries' up-projection's reference: no operation writes an argument, and there is no counter. -/
theorem frame_qUpRef : Cert.quiescent_QUpReferenceIdeal := fun m ρ _ =>
  (θ_run Cert.QUpReferenceIdeal.defs _ _).mono
    (fun r h => ⟨fun c => (h c).2, sem_eq_zero_of_no_sems (by decide) r.2⟩)
    (QUpRef.run m ρ)

theorem algebraic_qUp : Cert.algebraic_QUpIdeal_QUpReferenceIdeal := by
  intro m g m' g' _ hargs
  refine ⟨_, QUp.run m g, (θ_run _ _ _).mono (fun r h c => ?_) (QUpRef.run m' g')⟩
  obtain ⟨h0, h1, h2⟩ := hargs c
  refine ⟨(h c).1.trans ?_, (h c).2⟩
  rw [h0, h1, h2]

/-- The frame of the keys' and values' up-projection's reference: no operation writes an argument, and there is no counter. -/
theorem frame_kvUpRef : Cert.quiescent_KvUpReferenceIdeal := fun m ρ _ =>
  (θ_run Cert.KvUpReferenceIdeal.defs _ _).mono
    (fun r h => ⟨fun c => (h c).2, sem_eq_zero_of_no_sems (by decide) r.2⟩)
    (KvUpRef.run m ρ)

theorem algebraic_kvUp : Cert.algebraic_KvUpIdeal_KvUpReferenceIdeal := by
  intro m g m' g' _ hargs
  refine ⟨_, KvUp.run m g, (θ_run _ _ _).mono (fun r h c => ?_) (KvUpRef.run m' g')⟩
  obtain ⟨h0, h1, h2⟩ := hargs c
  refine ⟨(h c).1.trans ?_, (h c).2⟩
  rw [h0, h1, h2]

theorem claim : Cert.Claim :=
  ⟨Cert.Kernel.Gen.facts, Cert.KernelIdeal.Gen.facts, Cert.ReferenceIdeal.Gen.facts,
    Cert.Mlp.Gen.facts, Cert.MlpIdeal.Gen.facts, Cert.MlpReferenceIdeal.Gen.facts,
    Cert.Glu.Gen.facts, Cert.GluIdeal.Gen.facts, Cert.GluReferenceIdeal.Gen.facts,
    Cert.ConvOut.Gen.facts, Cert.ConvOutIdeal.Gen.facts, Cert.ConvOutReferenceIdeal.Gen.facts,
    Cert.AttOut.Gen.facts, Cert.AttOutIdeal.Gen.facts, Cert.AttOutReferenceIdeal.Gen.facts,
    Cert.AttInQk.Gen.facts, Cert.AttInQkIdeal.Gen.facts, Cert.AttInQkReferenceIdeal.Gen.facts,
    Cert.AttInV.Gen.facts, Cert.AttInVIdeal.Gen.facts, Cert.AttInVReferenceIdeal.Gen.facts,
    Cert.AttInQLat.Gen.facts, Cert.AttInQLatIdeal.Gen.facts, Cert.AttInQLatReferenceIdeal.Gen.facts,
    Cert.AttInKvLat.Gen.facts, Cert.AttInKvLatIdeal.Gen.facts, Cert.AttInKvLatReferenceIdeal.Gen.facts,
    Cert.QUp.Gen.facts, Cert.QUpIdeal.Gen.facts, Cert.QUpReferenceIdeal.Gen.facts,
    Cert.KvUp.Gen.facts, Cert.KvUpIdeal.Gen.facts, Cert.KvUpReferenceIdeal.Gen.facts,
    Cert.Pre_finite_scores.Gen.facts,
    frame_kernel, fun m ρ _ => Flash.frame (F := Ideal) m ρ,
    fun m ρ _ => Flash.frame (F := Ideal) m ρ, frame_flashRef, fun m ρ _ => frame_flashRef m ρ trivial,
    fun m ρ _ => Cert.Mlp.Gen.frame m ρ, fun m ρ _ => Cert.MlpIdeal.Gen.frame m ρ, frame_mlpRef,
    fun m ρ _ => Cert.Glu.Gen.frame m ρ, fun m ρ _ => Cert.GluIdeal.Gen.frame m ρ, frame_gluRef,
    fun m ρ _ => Cert.ConvOut.Gen.frame m ρ, fun m ρ _ => Cert.ConvOutIdeal.Gen.frame m ρ,
    frame_convOutRef,
    fun m ρ _ => Cert.AttOut.Gen.frame m ρ, fun m ρ _ => Cert.AttOutIdeal.Gen.frame m ρ,
    frame_attOutRef,
    fun m ρ _ => Cert.AttInQk.Gen.frame m ρ, fun m ρ _ => Cert.AttInQkIdeal.Gen.frame m ρ,
    frame_attInQkRef,
    fun m ρ _ => Cert.AttInV.Gen.frame m ρ, fun m ρ _ => Cert.AttInVIdeal.Gen.frame m ρ,
    frame_attInVRef,
    fun m ρ _ => Cert.AttInQLat.Gen.frame m ρ, fun m ρ _ => Cert.AttInQLatIdeal.Gen.frame m ρ,
    frame_attInQLatRef,
    fun m ρ _ => Cert.AttInKvLat.Gen.frame m ρ, fun m ρ _ => Cert.AttInKvLatIdeal.Gen.frame m ρ,
    frame_attInKvLatRef,
    fun m ρ _ => Cert.QUp.Gen.frame m ρ, fun m ρ _ => Cert.QUpIdeal.Gen.frame m ρ, frame_qUpRef,
    fun m ρ _ => Cert.KvUp.Gen.frame m ρ, fun m ρ _ => Cert.KvUpIdeal.Gen.frame m ρ, frame_kvUpRef,
    trivial, algebraic, trivial, algebraic_mlp, trivial, algebraic_glu, trivial, algebraic_convOut,
    trivial, algebraic_attOut,
    trivial, algebraic_attInQk, trivial, algebraic_attInV, trivial, algebraic_attInQLat,
    trivial, algebraic_attInKvLat, trivial, algebraic_qUp, trivial, algebraic_kvUp⟩

end Cert.Proof
